-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.named_const.Statement Cert.KernelIdeal.κ "taken" .f32 0xF149F2CA#32 ⊥
  ∧ IdealRules.named_const.Statement Cert.KernelIdeal.κ "rbf_step" .f32 0x3FAAAAAB#32 ((4 / 3 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v483) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x3x3 : Shape := ⟨3, ![4096, 3, 3]⟩
abbrev S4096x27 : Shape := ⟨2, ![4096, 27]⟩
abbrev S4096 : Shape := ⟨1, ![4096]⟩
abbrev S8x512x512 : Shape := ⟨3, ![8, 512, 512]⟩
abbrev S27x128 : Shape := ⟨2, ![27, 128]⟩
abbrev S3x128x128 : Shape := ⟨3, ![3, 128, 128]⟩
abbrev S3x157x128 : Shape := ⟨3, ![3, 157, 128]⟩
abbrev S3x128x512 : Shape := ⟨3, ![3, 128, 512]⟩
abbrev S3x512 : Shape := ⟨2, ![3, 512]⟩
abbrev S3x512x512 : Shape := ⟨3, ![3, 512, 512]⟩
abbrev S3x512x128 : Shape := ⟨3, ![3, 512, 128]⟩
abbrev S3x128 : Shape := ⟨2, ![3, 128]⟩
abbrev S4x128x128x3 : Shape := ⟨4, ![4, 128, 128, 3]⟩
abbrev S4x128 : Shape := ⟨2, ![4, 128]⟩
abbrev S128x1 : Shape := ⟨2, ![128, 1]⟩
abbrev S1 : Shape := ⟨1, ![1]⟩
abbrev S4096x1x3 : Shape := ⟨3, ![4096, 1, 3]⟩
abbrev S4096x3 : Shape := ⟨2, ![4096, 3]⟩
abbrev S2x157x128 : Shape := ⟨3, ![2, 157, 128]⟩
abbrev S2x128x128 : Shape := ⟨3, ![2, 128, 128]⟩
abbrev S2x128x512 : Shape := ⟨3, ![2, 128, 512]⟩
abbrev S2x512 : Shape := ⟨2, ![2, 512]⟩
abbrev S2x512x512 : Shape := ⟨3, ![2, 512, 512]⟩
abbrev S2x512x128 : Shape := ⟨3, ![2, 512, 128]⟩
abbrev S2x128 : Shape := ⟨2, ![2, 128]⟩
abbrev S_ : Shape := ⟨0, ![]⟩

class Facts : Prop where
  slices_S4096x3x3_S4096x1x3_0_1_0 : S4096x3x3.Slices ![0, 1, 0] S4096x1x3
  shapeCasts_S4096x1x3_S4096x3 : S4096x1x3.ShapeCasts S4096x3
  slices_S3x157x128_S2x157x128_0_0_0 : S3x157x128.Slices ![0, 0, 0] S2x157x128
  slices_S3x128x128_S2x128x128_0_0_0 : S3x128x128.Slices ![0, 0, 0] S2x128x128
  slices_S3x128x512_S2x128x512_0_0_0 : S3x128x512.Slices ![0, 0, 0] S2x128x512
  slices_S3x512_S2x512_0_0 : S3x512.Slices ![0, 0] S2x512
  slices_S3x512x512_S2x512x512_0_0_0 : S3x512x512.Slices ![0, 0, 0] S2x512x512
  slices_S3x512x128_S2x512x128_0_0_0 : S3x512x128.Slices ![0, 0, 0] S2x512x128
  slices_S3x128_S2x128_0_0 : S3x128.Slices ![0, 0] S2x128
  bcast_S_S4096x3 : S_.BroadcastsInDim S4096x3 (![] : Fin 0 → Fin S4096x3.rank)
  bcast_S_S27x128 : S_.BroadcastsInDim S27x128 (![] : Fin 0 → Fin S27x128.rank)
  bcast_S_S3x128x128 : S_.BroadcastsInDim S3x128x128 (![] : Fin 0 → Fin S3x128x128.rank)
  bcast_S_S3x157x128 : S_.BroadcastsInDim S3x157x128 (![] : Fin 0 → Fin S3x157x128.rank)
  bcast_S_S2x157x128 : S_.BroadcastsInDim S2x157x128 (![] : Fin 0 → Fin S2x157x128.rank)
  bcast_S_S2x128x128 : S_.BroadcastsInDim S2x128x128 (![] : Fin 0 → Fin S2x128x128.rank)
  bcast_S_S2x128x512 : S_.BroadcastsInDim S2x128x512 (![] : Fin 0 → Fin S2x128x512.rank)
  bcast_S_S2x512 : S_.BroadcastsInDim S2x512 (![] : Fin 0 → Fin S2x512.rank)
  bcast_S_S2x512x512 : S_.BroadcastsInDim S2x512x512 (![] : Fin 0 → Fin S2x512x512.rank)
  bcast_S_S2x512x128 : S_.BroadcastsInDim S2x512x128 (![] : Fin 0 → Fin S2x512x128.rank)
  bcast_S_S2x128 : S_.BroadcastsInDim S2x128 (![] : Fin 0 → Fin S2x128.rank)
  bcast_S_S8x512x512 : S_.BroadcastsInDim S8x512x512 (![] : Fin 0 → Fin S8x512x512.rank)

variable [Facts]

def fn_part2 {F : FTy → Type} [FloatOps F] (main_arg3 : FVec F S8x512x512 .f32) (main_v8 : FVec F S2x512x128 .f32) (main_v9 : FVec F S2x128 .f32) (main_v12 : IVec S4096x3 1) (main_v15 : IVec S27x128 1) (main_v18 : IVec S3x128x128 1) (main_v21 : IVec S3x157x128 1) (main_v24 : IVec S2x157x128 1) (main_v27 : IVec S2x128x128 1) (main_v30 : IVec S2x128x512 1) (main_v33 : IVec S2x512 1) (main_v36 : IVec S2x512x512 1) (main_v37 : FVec F S2x512 .f32) (main_cst_8 : FVec F S_ .f32) : IVec S4096x3 1 × IVec S27x128 1 × IVec S3x128x128 1 × IVec S3x157x128 1 × IVec S2x157x128 1 × IVec S2x128x128 1 × IVec S2x128x512 1 × IVec S2x512 1 × IVec S2x512x512 1 × IVec S2x512 1 × IVec S2x512x128 1 × IVec S2x128 1 × IVec S8x512x512 1 :=
  let main_v38 : FVec F S2x512 .f32 := broadcastInDim S2x512 ![] bcast_S_S2x512 main_cst_8
  let main_v39 : IVec S2x512 1 := cmpf .olt main_v37 main_v38
  let main_v40 : FVec F S2x512x128 .f32 := Host.absf main_v8
  let main_cst_9 : FVec F S_ .f32 := constant S_ .f32 0x7F800000#32
  let main_v41 : FVec F S2x512x128 .f32 := broadcastInDim S2x512x128 ![] bcast_S_S2x512x128 main_cst_9
  let main_v42 : IVec S2x512x128 1 := cmpf .olt main_v40 main_v41
  let main_v43 : FVec F S2x128 .f32 := Host.absf main_v9
  let main_cst_10 : FVec F S_ .f32 := constant S_ .f32 0x7F800000#32
  let main_v44 : FVec F S2x128 .f32 := broadcastInDim S2x128 ![] bcast_S_S2x128 main_cst_10
  let main_v45 : IVec S2x128 1 := cmpf .olt main_v43 main_v44
  let main_cst_11 : FVec F S_ .f32 := constant S_ .f32 0xFF800000#32
  let main_v46 : FVec F S8x512x512 .f32 := broadcastInDim S8x512x512 ![] bcast_S_S8x512x512 main_cst_11
  let main_v47 : IVec S8x512x512 1 := cmpf .ogt main_arg3 main_v46
  (main_v12, main_v15, main_v18, main_v21, main_v24, main_v27, main_v30, main_v33, main_v36, main_v39, main_v42, main_v45, main_v47)

def fn_part1 {F : FTy → Type} [FloatOps F] (main_arg3 : FVec F S8x512x512 .f32) (main_v2 : FVec F S2x157x128 .f32) (main_v3 : FVec F S2x128x128 .f32) (main_v4 : FVec F S2x128x512 .f32) (main_v5 : FVec F S2x512 .f32) (main_v6 : FVec F S2x512x512 .f32) (main_v7 : FVec F S2x512 .f32) (main_v8 : FVec F S2x512x128 .f32) (main_v9 : FVec F S2x128 .f32) (main_v12 : IVec S4096x3 1) (main_v15 : IVec S27x128 1) (main_v18 : IVec S3x128x128 1) (main_v19 : FVec F S3x157x128 .f32) (main_cst_2 : FVec F S_ .f32) : IVec S4096x3 1 × IVec S27x128 1 × IVec S3x128x128 1 × IVec S3x157x128 1 × IVec S2x157x128 1 × IVec S2x128x128 1 × IVec S2x128x512 1 × IVec S2x512 1 × IVec S2x512x512 1 × IVec S2x512 1 × IVec S2x512x128 1 × IVec S2x128 1 × IVec S8x512x512 1 :=
  let main_v20 : FVec F S3x157x128 .f32 := broadcastInDim S3x157x128 ![] bcast_S_S3x157x128 main_cst_2
  let main_v21 : IVec S3x157x128 1 := cmpf .olt main_v19 main_v20
  let main_v22 : FVec F S2x157x128 .f32 := Host.absf main_v2
  let main_cst_3 : FVec F S_ .f32 := constant S_ .f32 0x7F800000#32
  let main_v23 : FVec F S2x157x128 .f32 := broadcastInDim S2x157x128 ![] bcast_S_S2x157x128 main_cst_3
  let main_v24 : IVec S2x157x128 1 := cmpf .olt main_v22 main_v23
  let main_v25 : FVec F S2x128x128 .f32 := Host.absf main_v3
  let main_cst_4 : FVec F S_ .f32 := constant S_ .f32 0x7F800000#32
  let main_v26 : FVec F S2x128x128 .f32 := broadcastInDim S2x128x128 ![] bcast_S_S2x128x128 main_cst_4
  let main_v27 : IVec S2x128x128 1 := cmpf .olt main_v25 main_v26
  let main_v28 : FVec F S2x128x512 .f32 := Host.absf main_v4
  let main_cst_5 : FVec F S_ .f32 := constant S_ .f32 0x7F800000#32
  let main_v29 : FVec F S2x128x512 .f32 := broadcastInDim S2x128x512 ![] bcast_S_S2x128x512 main_cst_5
  let main_v30 : IVec S2x128x512 1 := cmpf .olt main_v28 main_v29
  let main_v31 : FVec F S2x512 .f32 := Host.absf main_v5
  let main_cst_6 : FVec F S_ .f32 := constant S_ .f32 0x7F800000#32
  let main_v32 : FVec F S2x512 .f32 := broadcastInDim S2x512 ![] bcast_S_S2x512 main_cst_6
  let main_v33 : IVec S2x512 1 := cmpf .olt main_v31 main_v32
  let main_v34 : FVec F S2x512x512 .f32 := Host.absf main_v6
  let main_cst_7 : FVec F S_ .f32 := constant S_ .f32 0x7F800000#32
  let main_v35 : FVec F S2x512x512 .f32 := broadcastInDim S2x512x512 ![] bcast_S_S2x512x512 main_cst_7
  let main_v36 : IVec S2x512x512 1 := cmpf .olt main_v34 main_v35
  let main_v37 : FVec F S2x512 .f32 := Host.absf main_v7
  let main_cst_8 : FVec F S_ .f32 := constant S_ .f32 0x7F800000#32
  fn_part2 (F := F) main_arg3 main_v8 main_v9 main_v12 main_v15 main_v18 main_v21 main_v24 main_v27 main_v30 main_v33 main_v36 main_v37 main_cst_8

def fn {F : FTy → Type} [FloatOps F] (main_arg0 : FVec F S4096x3x3 .f32) (main_arg1 : FVec F S4096x27 .f32) (main_arg2 : IVec S4096 32) (main_arg3 : FVec F S8x512x512 .f32) (main_arg4 : FVec F S27x128 .f32) (main_arg5 : FVec F S3x128x128 .f32) (main_arg6 : FVec F S3x157x128 .f32) (main_arg7 : FVec F S3x157x128 .f32) (main_arg8 : FVec F S3x128x128 .f32) (main_arg9 : FVec F S3x128x512 .f32) (main_arg10 : FVec F S3x512 .f32) (main_arg11 : FVec F S3x512x512 .f32) (main_arg12 : FVec F S3x512 .f32) (main_arg13 : FVec F S3x512x128 .f32) (main_arg14 : FVec F S3x128 .f32) (main_arg15 : FVec F S4x128x128x3 .f32) (main_arg16 : FVec F S4x128 .f32) (main_arg17 : FVec F S128x1 .f32) (main_arg18 : FVec F S1 .f32) : IVec S4096x3 1 × IVec S27x128 1 × IVec S3x128x128 1 × IVec S3x157x128 1 × IVec S2x157x128 1 × IVec S2x128x128 1 × IVec S2x128x512 1 × IVec S2x512 1 × IVec S2x512x512 1 × IVec S2x512 1 × IVec S2x512x128 1 × IVec S2x128 1 × IVec S8x512x512 1 :=
  let main_v0 : FVec F S4096x1x3 .f32 := (extractStridedSlice S4096x1x3 ![0, 1, 0] · slices_S4096x3x3_S4096x1x3_0_1_0) main_arg0
  let main_v1 : FVec F S4096x3 .f32 := shapeCast S4096x3 main_v0 shapeCasts_S4096x1x3_S4096x3
  let main_v2 : FVec F S2x157x128 .f32 := (extractStridedSlice S2x157x128 ![0, 0, 0] · slices_S3x157x128_S2x157x128_0_0_0) main_arg7
  let main_v3 : FVec F S2x128x128 .f32 := (extractStridedSlice S2x128x128 ![0, 0, 0] · slices_S3x128x128_S2x128x128_0_0_0) main_arg8
  let main_v4 : FVec F S2x128x512 .f32 := (extractStridedSlice S2x128x512 ![0, 0, 0] · slices_S3x128x512_S2x128x512_0_0_0) main_arg9
  let main_v5 : FVec F S2x512 .f32 := (extractStridedSlice S2x512 ![0, 0] · slices_S3x512_S2x512_0_0) main_arg10
  let main_v6 : FVec F S2x512x512 .f32 := (extractStridedSlice S2x512x512 ![0, 0, 0] · slices_S3x512x512_S2x512x512_0_0_0) main_arg11
  let main_v7 : FVec F S2x512 .f32 := (extractStridedSlice S2x512 ![0, 0] · slices_S3x512_S2x512_0_0) main_arg12
  let main_v8 : FVec F S2x512x128 .f32 := (extractStridedSlice S2x512x128 ![0, 0, 0] · slices_S3x512x128_S2x512x128_0_0_0) main_arg13
  let main_v9 : FVec F S2x128 .f32 := (extractStridedSlice S2x128 ![0, 0] · slices_S3x128_S2x128_0_0) main_arg14
  let main_v10 : FVec F S4096x3 .f32 := Host.absf main_v1
  let main_cst : FVec F S_ .f32 := constant S_ .f32 0x7F800000#32
  let main_v11 : FVec F S4096x3 .f32 := broadcastInDim S4096x3 ![] bcast_S_S4096x3 main_cst
  let main_v12 : IVec S4096x3 1 := cmpf .olt main_v10 main_v11
  let main_v13 : FVec F S27x128 .f32 := Host.absf main_arg4
  let main_cst_0 : FVec F S_ .f32 := constant S_ .f32 0x7F800000#32
  let main_v14 : FVec F S27x128 .f32 := broadcastInDim S27x128 ![] bcast_S_S27x128 main_cst_0
  let main_v15 : IVec S27x128 1 := cmpf .olt main_v13 main_v14
  let main_v16 : FVec F S3x128x128 .f32 := Host.absf main_arg5
  let main_cst_1 : FVec F S_ .f32 := constant S_ .f32 0x7F800000#32
  let main_v17 : FVec F S3x128x128 .f32 := broadcastInDim S3x128x128 ![] bcast_S_S3x128x128 main_cst_1
  let main_v18 : IVec S3x128x128 1 := cmpf .olt main_v16 main_v17
  let main_v19 : FVec F S3x157x128 .f32 := Host.absf main_arg6
  let main_cst_2 : FVec F S_ .f32 := constant S_ .f32 0x7F800000#32
  fn_part1 (F := F) main_arg3 main_v2 main_v3 main_v4 main_v5 main_v6 main_v7 main_v8 main_v9 main_v12 main_v15 main_v18 main_v19 main_cst_2
-- ==== Kernel.lean ====
abbrev S4096x3x3 : Shape := ⟨3, ![4096, 3, 3]⟩
abbrev S4096x27 : Shape := ⟨2, ![4096, 27]⟩
abbrev S4096 : Shape := ⟨1, ![4096]⟩
abbrev S8x512x512 : Shape := ⟨3, ![8, 512, 512]⟩
abbrev S27x128 : Shape := ⟨2, ![27, 128]⟩
abbrev S3x128x128 : Shape := ⟨3, ![3, 128, 128]⟩
abbrev S3x157x128 : Shape := ⟨3, ![3, 157, 128]⟩
abbrev S3x128x512 : Shape := ⟨3, ![3, 128, 512]⟩
abbrev S3x512 : Shape := ⟨2, ![3, 512]⟩
abbrev S3x512x512 : Shape := ⟨3, ![3, 512, 512]⟩
abbrev S3x512x128 : Shape := ⟨3, ![3, 512, 128]⟩
abbrev S3x128 : Shape := ⟨2, ![3, 128]⟩
abbrev S4x128x128x3 : Shape := ⟨4, ![4, 128, 128, 3]⟩
abbrev S4x128 : Shape := ⟨2, ![4, 128]⟩
abbrev S128x1 : Shape := ⟨2, ![128, 1]⟩
abbrev S1 : Shape := ⟨1, ![1]⟩
abbrev S4096x1x3 : Shape := ⟨3, ![4096, 1, 3]⟩
abbrev S4096x3 : Shape := ⟨2, ![4096, 3]⟩
abbrev S3x4096 : Shape := ⟨2, ![3, 4096]⟩
abbrev S3x16x128 : Shape := ⟨3, ![3, 16, 128]⟩
abbrev S3x3x128 : Shape := ⟨3, ![3, 3, 128]⟩
abbrev S3x9x128 : Shape := ⟨3, ![3, 9, 128]⟩
abbrev S3x1x128 : Shape := ⟨3, ![3, 1, 128]⟩
abbrev S_ : Shape := ⟨0, ![]⟩
abbrev S3x32x128 : Shape := ⟨3, ![3, 32, 128]⟩
abbrev S4x3x128x128 : Shape := ⟨4, ![4, 3, 128, 128]⟩
abbrev S1x1 : Shape := ⟨2, ![1, 1]⟩
abbrev S8x1x1 : Shape := ⟨3, ![8, 1, 1]⟩
abbrev S1x512x512 : Shape := ⟨3, ![1, 512, 512]⟩
abbrev S1x1x1 : Shape := ⟨3, ![1, 1, 1]⟩
abbrev S12x4096 : Shape := ⟨2, ![12, 4096]⟩
abbrev S3x4095 : Shape := ⟨2, ![3, 4095]⟩
abbrev S3x1 : Shape := ⟨2, ![3, 1]⟩
abbrev S1x4096 : Shape := ⟨2, ![1, 4096]⟩
abbrev S12x512 : Shape := ⟨2, ![12, 512]⟩
abbrev S512x512 : Shape := ⟨2, ![512, 512]⟩
abbrev S512x12 : Shape := ⟨2, ![512, 12]⟩
abbrev S512x1 : Shape := ⟨2, ![512, 1]⟩
abbrev S1x512 : Shape := ⟨2, ![1, 512]⟩
abbrev S512 : Shape := ⟨1, ![512]⟩
abbrev S512x16 : Shape := ⟨2, ![512, 16]⟩
abbrev S512x3 : Shape := ⟨2, ![512, 3]⟩
abbrev S512x32 : Shape := ⟨2, ![512, 32]⟩
abbrev S8192x32 : Shape := ⟨2, ![8192, 32]⟩
abbrev S128x8 : Shape := ⟨2, ![128, 8]⟩
abbrev S8x128 : Shape := ⟨2, ![8, 128]⟩
abbrev S128 : Shape := ⟨1, ![128]⟩
abbrev S1x128 : Shape := ⟨2, ![1, 128]⟩
abbrev S512x128 : Shape := ⟨2, ![512, 128]⟩
abbrev S1x128x128 : Shape := ⟨3, ![1, 128, 128]⟩
abbrev S128x128 : Shape := ⟨2, ![128, 128]⟩
abbrev S8192x128 : Shape := ⟨2, ![8192, 128]⟩
abbrev S1x32x128 : Shape := ⟨3, ![1, 32, 128]⟩
abbrev S32x128 : Shape := ⟨2, ![32, 128]⟩
abbrev S8192x8 : Shape := ⟨2, ![8192, 8]⟩
abbrev S512x8 : Shape := ⟨2, ![512, 8]⟩
abbrev S1x128x512 : Shape := ⟨3, ![1, 128, 512]⟩
abbrev S128x512 : Shape := ⟨2, ![128, 512]⟩
abbrev S1x512x128 : Shape := ⟨3, ![1, 512, 128]⟩
abbrev S511x128 : Shape := ⟨2, ![511, 128]⟩
abbrev S1x1x128x128 : Shape := ⟨4, ![1, 1, 128, 128]⟩
abbrev S256x2x128 : Shape := ⟨3, ![256, 2, 128]⟩
abbrev S256x1x128 : Shape := ⟨3, ![256, 1, 128]⟩
abbrev S256x128 : Shape := ⟨2, ![256, 128]⟩
abbrev S255x128 : Shape := ⟨2, ![255, 128]⟩
abbrev S128x2x128 : Shape := ⟨3, ![128, 2, 128]⟩
abbrev S128x1x128 : Shape := ⟨3, ![128, 1, 128]⟩
abbrev S127x128 : Shape := ⟨2, ![127, 128]⟩
abbrev S64x2x128 : Shape := ⟨3, ![64, 2, 128]⟩
abbrev S64x1x128 : Shape := ⟨3, ![64, 1, 128]⟩
abbrev S64x128 : Shape := ⟨2, ![64, 128]⟩
abbrev S63x128 : Shape := ⟨2, ![63, 128]⟩
abbrev S32x2x128 : Shape := ⟨3, ![32, 2, 128]⟩
abbrev S32x1x128 : Shape := ⟨3, ![32, 1, 128]⟩

abbrev nBuf : Space → Nat
  | .hbm => 41
  | .vmem => 23
  | .smem => 0
  | _ => 0

abbrev bufTy : (tb : Table) → Fin (tcTables nBuf tb) → BufTy
  | .hbm, ⟨0, _⟩ => ⟨S4096x3x3, .f32⟩
  | .hbm, ⟨1, _⟩ => ⟨S4096x27, .f32⟩
  | .hbm, ⟨2, _⟩ => ⟨S4096, .i32⟩
  | .hbm, ⟨3, _⟩ => ⟨S8x512x512, .f32⟩
  | .hbm, ⟨4, _⟩ => ⟨S27x128, .f32⟩
  | .hbm, ⟨5, _⟩ => ⟨S3x128x128, .f32⟩
  | .hbm, ⟨6, _⟩ => ⟨S3x157x128, .f32⟩
  | .hbm, ⟨7, _⟩ => ⟨S3x157x128, .f32⟩
  | .hbm, ⟨8, _⟩ => ⟨S3x128x128, .f32⟩
  | .hbm, ⟨9, _⟩ => ⟨S3x128x512, .f32⟩
  | .hbm, ⟨10, _⟩ => ⟨S3x512, .f32⟩
  | .hbm, ⟨11, _⟩ => ⟨S3x512x512, .f32⟩
  | .hbm, ⟨12, _⟩ => ⟨S3x512, .f32⟩
  | .hbm, ⟨13, _⟩ => ⟨S3x512x128, .f32⟩
  | .hbm, ⟨14, _⟩ => ⟨S3x128, .f32⟩
  | .hbm, ⟨15, _⟩ => ⟨S4x128x128x3, .f32⟩
  | .hbm, ⟨16, _⟩ => ⟨S4x128, .f32⟩
  | .hbm, ⟨17, _⟩ => ⟨S128x1, .f32⟩
  | .hbm, ⟨18, _⟩ => ⟨S1, .f32⟩
  | .hbm, ⟨19, _⟩ => ⟨S4096x1x3, .f32⟩
  | .hbm, ⟨20, _⟩ => ⟨S4096x3, .f32⟩
  | .hbm, ⟨21, _⟩ => ⟨S3x4096, .f32⟩
  | .hbm, ⟨22, _⟩ => ⟨S3x128x128, .f32⟩
  | .hbm, ⟨23, _⟩ => ⟨S3x16x128, .f32⟩
  | .hbm, ⟨24, _⟩ => ⟨S3x3x128, .f32⟩
  | .hbm, ⟨25, _⟩ => ⟨S3x9x128, .f32⟩
  | .hbm, ⟨26, _⟩ => ⟨S3x1x128, .f32⟩
  | .hbm, ⟨27, _⟩ => ⟨S_, .f32⟩
  | .hbm, ⟨28, _⟩ => ⟨S3x3x128, .f32⟩
  | .hbm, ⟨29, _⟩ => ⟨S3x32x128, .f32⟩
  | .hbm, ⟨30, _⟩ => ⟨S3x128x128, .f32⟩
  | .hbm, ⟨31, _⟩ => ⟨S3x16x128, .f32⟩
  | .hbm, ⟨32, _⟩ => ⟨S3x3x128, .f32⟩
  | .hbm, ⟨33, _⟩ => ⟨S3x9x128, .f32⟩
  | .hbm, ⟨34, _⟩ => ⟨S3x1x128, .f32⟩
  | .hbm, ⟨35, _⟩ => ⟨S_, .f32⟩
  | .hbm, ⟨36, _⟩ => ⟨S3x3x128, .f32⟩
  | .hbm, ⟨37, _⟩ => ⟨S3x32x128, .f32⟩
  | .hbm, ⟨38, _⟩ => ⟨S4x3x128x128, .f32⟩
  | .hbm, ⟨39, _⟩ => ⟨S1x1, .f32⟩
  | .hbm, ⟨40, _⟩ => ⟨S8x1x1, .f32⟩
  | .local _ .vmem, ⟨0, _⟩ => ⟨S3x4096, .f32⟩
  | .local _ .vmem, ⟨1, _⟩ => ⟨S1x512x512, .f32⟩
  | .local _ .vmem, ⟨2, _⟩ => ⟨S1x512x512, .f32⟩
  | .local _ .vmem, ⟨3, _⟩ => ⟨S27x128, .f32⟩
  | .local _ .vmem, ⟨4, _⟩ => ⟨S3x128x128, .f32⟩
  | .local _ .vmem, ⟨5, _⟩ => ⟨S3x128x128, .f32⟩
  | .local _ .vmem, ⟨6, _⟩ => ⟨S3x32x128, .f32⟩
  | .local _ .vmem, ⟨7, _⟩ => ⟨S3x128x128, .f32⟩
  | .local _ .vmem, ⟨8, _⟩ => ⟨S3x32x128, .f32⟩
  | .local _ .vmem, ⟨9, _⟩ => ⟨S3x128x128, .f32⟩
  | .local _ .vmem, ⟨10, _⟩ => ⟨S3x128x512, .f32⟩
  | .local _ .vmem, ⟨11, _⟩ => ⟨S3x512, .f32⟩
  | .local _ .vmem, ⟨12, _⟩ => ⟨S3x512x512, .f32⟩
  | .local _ .vmem, ⟨13, _⟩ => ⟨S3x512, .f32⟩
  | .local _ .vmem, ⟨14, _⟩ => ⟨S3x512x128, .f32⟩
  | .local _ .vmem, ⟨15, _⟩ => ⟨S3x128, .f32⟩
  | .local _ .vmem, ⟨16, _⟩ => ⟨S4x3x128x128, .f32⟩
  | .local _ .vmem, ⟨17, _⟩ => ⟨S4x128, .f32⟩
  | .local _ .vmem, ⟨18, _⟩ => ⟨S128x1, .f32⟩
  | .local _ .vmem, ⟨19, _⟩ => ⟨S1x1, .f32⟩
  | .local _ .vmem, ⟨20, _⟩ => ⟨S1x1x1, .f32⟩
  | .local _ .vmem, ⟨21, _⟩ => ⟨S1x1x1, .f32⟩
  | .local _ .vmem, ⟨22, _⟩ => ⟨S12x4096, .f32⟩
  | _, _ => ⟨S4096x3x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg19_1 : Ref sig .tc := ⟨.vmem, 21, rfl⟩
abbrev cc0_scratch0 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem19_1 : DmaSem sig := 21

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c512_i32 : BitVec 32 := 512#32
  let v105 : BitVec 32 := Scalar.muli arg0 c512_i32
  v105
def k0_off1 (i : grid0.Coords) : Fin 2 → Nat :=
  let c0_8 : Index := 0#32
  let arg0 : BitVec 32 := BitVec.ofNat 32 (i 0).val
  let c512_i32 : BitVec 32 := 512#32
  let v105 : BitVec 32 := Scalar.muli arg0 c512_i32
  let v106 : BitVec 32 := v105
  let v107 : Index := Scalar.indexCast v106
  ![0, v107.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S3x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S27x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x512x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x3x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1x1x1 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== KernelIdeal.lean ====
variable {F : FTy → Type} [FloatOps F] [Named F]
def κ : String → Option EReal := fun
  | "rbf_step" => some ((4 / 3 : ℝ) : EReal)
  | "taken" => some ⊥
  | _ => none
-- ==== ReferenceIdeal.lean ====
abbrev S4096x3x3 : Shape := ⟨3, ![4096, 3, 3]⟩
abbrev S4096x27 : Shape := ⟨2, ![4096, 27]⟩
abbrev S4096 : Shape := ⟨1, ![4096]⟩
abbrev S8x512x512 : Shape := ⟨3, ![8, 512, 512]⟩
abbrev S27x128 : Shape := ⟨2, ![27, 128]⟩
abbrev S3x128x128 : Shape := ⟨3, ![3, 128, 128]⟩
abbrev S3x157x128 : Shape := ⟨3, ![3, 157, 128]⟩
abbrev S3x128x512 : Shape := ⟨3, ![3, 128, 512]⟩
abbrev S3x512 : Shape := ⟨2, ![3, 512]⟩
abbrev S3x512x512 : Shape := ⟨3, ![3, 512, 512]⟩
abbrev S3x512x128 : Shape := ⟨3, ![3, 512, 128]⟩
abbrev S3x128 : Shape := ⟨2, ![3, 128]⟩
abbrev S4x128x128x3 : Shape := ⟨4, ![4, 128, 128, 3]⟩
abbrev S4x128 : Shape := ⟨2, ![4, 128]⟩
abbrev S128x1 : Shape := ⟨2, ![128, 1]⟩
abbrev S1 : Shape := ⟨1, ![1]⟩
abbrev S4096x1x3 : Shape := ⟨3, ![4096, 1, 3]⟩
abbrev S4096x3 : Shape := ⟨2, ![4096, 3]⟩
abbrev S4095x3 : Shape := ⟨2, ![4095, 3]⟩
abbrev S_ : Shape := ⟨0, ![]⟩
abbrev S4095 : Shape := ⟨1, ![4095]⟩
abbrev S4095x1 : Shape := ⟨2, ![4095, 1]⟩
abbrev S1x3 : Shape := ⟨2, ![1, 3]⟩
abbrev S4096x1 : Shape := ⟨2, ![4096, 1]⟩
abbrev S8x512x3 : Shape := ⟨3, ![8, 512, 3]⟩
abbrev S8x512x1x3 : Shape := ⟨4, ![8, 512, 1, 3]⟩
abbrev S8x1x512x3 : Shape := ⟨4, ![8, 1, 512, 3]⟩
abbrev S8x512x512x3 : Shape := ⟨4, ![8, 512, 512, 3]⟩
abbrev S8x512x15 : Shape := ⟨3, ![8, 512, 15]⟩
abbrev S8 : Shape := ⟨1, ![8]⟩
abbrev S8x1x1 : Shape := ⟨3, ![8, 1, 1]⟩
abbrev S4096x15 : Shape := ⟨2, ![4096, 15]⟩
abbrev S4096x15x1 : Shape := ⟨3, ![4096, 15, 1]⟩
abbrev S4096x15x3 : Shape := ⟨3, ![4096, 15, 3]⟩
abbrev S15 : Shape := ⟨1, ![15]⟩
abbrev S16 : Shape := ⟨1, ![16]⟩
abbrev S1x1x16 : Shape := ⟨3, ![1, 1, 16]⟩
abbrev S4096x15x16 : Shape := ⟨3, ![4096, 15, 16]⟩
abbrev S4096x15x3x3 : Shape := ⟨4, ![4096, 15, 3, 3]⟩
abbrev S4096x15x9 : Shape := ⟨3, ![4096, 15, 9]⟩
abbrev S4096x15x29 : Shape := ⟨3, ![4096, 15, 29]⟩
abbrev S4096x128 : Shape := ⟨2, ![4096, 128]⟩
abbrev S1x128x128 : Shape := ⟨3, ![1, 128, 128]⟩
abbrev S128x128 : Shape := ⟨2, ![128, 128]⟩
abbrev S4096x8x16 : Shape := ⟨3, ![4096, 8, 16]⟩
abbrev S4096x15x128 : Shape := ⟨3, ![4096, 15, 128]⟩
abbrev S4096x15x157 : Shape := ⟨3, ![4096, 15, 157]⟩
abbrev S1x157x128 : Shape := ⟨3, ![1, 157, 128]⟩
abbrev S157x128 : Shape := ⟨2, ![157, 128]⟩
abbrev S4096x15x8x16 : Shape := ⟨4, ![4096, 15, 8, 16]⟩
abbrev S4096x8x15 : Shape := ⟨3, ![4096, 8, 15]⟩
abbrev S4096x8 : Shape := ⟨2, ![4096, 8]⟩
abbrev S4096x8x1 : Shape := ⟨3, ![4096, 8, 1]⟩
abbrev S1x128x512 : Shape := ⟨3, ![1, 128, 512]⟩
abbrev S128x512 : Shape := ⟨2, ![128, 512]⟩
abbrev S4096x512 : Shape := ⟨2, ![4096, 512]⟩
abbrev S1x512 : Shape := ⟨2, ![1, 512]⟩
abbrev S512 : Shape := ⟨1, ![512]⟩
abbrev S1x512x512 : Shape := ⟨3, ![1, 512, 512]⟩
abbrev S512x512 : Shape := ⟨2, ![512, 512]⟩
abbrev S1x512x128 : Shape := ⟨3, ![1, 512, 128]⟩
abbrev S512x128 : Shape := ⟨2, ![512, 128]⟩
abbrev S1x128 : Shape := ⟨2, ![1, 128]⟩
abbrev S128 : Shape := ⟨1, ![128]⟩
abbrev S8x512x128 : Shape := ⟨3, ![8, 512, 128]⟩
abbrev S8x128x512 : Shape := ⟨3, ![8, 128, 512]⟩
abbrev S8x128x514 : Shape := ⟨3, ![8, 128, 514]⟩
abbrev S1x128x128x1 : Shape := ⟨4, ![1, 128, 128, 1]⟩
abbrev S128x8x512 : Shape := ⟨3, ![128, 8, 512]⟩
abbrev S1x128x1 : Shape := ⟨3, ![1, 128, 1]⟩
abbrev S8x128x256 : Shape := ⟨3, ![8, 128, 256]⟩
abbrev S8x128x258 : Shape := ⟨3, ![8, 128, 258]⟩
abbrev S128x8x256 : Shape := ⟨3, ![128, 8, 256]⟩
abbrev S8x128x128 : Shape := ⟨3, ![8, 128, 128]⟩
abbrev S8x128x130 : Shape := ⟨3, ![8, 128, 130]⟩
abbrev S128x8x128 : Shape := ⟨3, ![128, 8, 128]⟩
abbrev S8x128x64 : Shape := ⟨3, ![8, 128, 64]⟩
abbrev S8x128x66 : Shape := ⟨3, ![8, 128, 66]⟩
abbrev S128x8x64 : Shape := ⟨3, ![128, 8, 64]⟩
abbrev S8x128x32 : Shape := ⟨3, ![8, 128, 32]⟩
abbrev S8x128 : Shape := ⟨2, ![8, 128]⟩
abbrev S8x1 : Shape := ⟨2, ![8, 1]⟩
abbrev S1x1 : Shape := ⟨2, ![1, 1]⟩

abbrev nBuf : Space → Nat
  | .hbm => 633
  | .vmem => 0
  | .smem => 0
  | _ => 0

abbrev hbmTy0_0 (i : Nat) : BufTy := match i % 128 with
  | 0 => ⟨S4096x3x3, .f32⟩
  | 1 => ⟨S4096x27, .f32⟩
  | 2 => ⟨S4096, .i32⟩
  | 3 => ⟨S8x512x512, .f32⟩
  | 4 => ⟨S27x128, .f32⟩
  | 5 => ⟨S3x128x128, .f32⟩
  | 6 => ⟨S3x157x128, .f32⟩
  | 7 => ⟨S3x157x128, .f32⟩
  | 8 => ⟨S3x128x128, .f32⟩
  | 9 => ⟨S3x128x512, .f32⟩
  | 10 => ⟨S3x512, .f32⟩
  | 11 => ⟨S3x512x512, .f32⟩
  | 12 => ⟨S3x512, .f32⟩
  | 13 => ⟨S3x512x128, .f32⟩
  | 14 => ⟨S3x128, .f32⟩
  | 15 => ⟨S4x128x128x3, .f32⟩
  | 16 => ⟨S4x128, .f32⟩
  | 17 => ⟨S128x1, .f32⟩
  | 18 => ⟨S1, .f32⟩
  | 19 => ⟨S4096x1x3, .f32⟩
  | 20 => ⟨S4096x3, .f32⟩
  | 21 => ⟨S4095x3, .f32⟩
  | 22 => ⟨S4095x3, .f32⟩
  | 23 => ⟨S4095x3, .f32⟩
  | 24 => ⟨S4095x3, .f32⟩
  | 25 => ⟨S_, .f32⟩
  | 26 => ⟨S4095, .f32⟩
  | 27 => ⟨S4095x1, .f32⟩
  | 28 => ⟨S4095x1, .f32⟩
  | 29 => ⟨S_, .f32⟩
  | 30 => ⟨S4095x1, .f32⟩
  | 31 => ⟨S4095x1, .f32⟩
  | 32 => ⟨S4095x3, .f32⟩
  | 33 => ⟨S4095x3, .f32⟩
  | 34 => ⟨S1x3, .f32⟩
  | 35 => ⟨S4096x3, .f32⟩
  | 36 => ⟨S1x3, .f32⟩
  | 37 => ⟨S4096x3, .f32⟩
  | 38 => ⟨S4096x3, .f32⟩
  | 39 => ⟨S4096x3, .f32⟩
  | 40 => ⟨S_, .f32⟩
  | 41 => ⟨S4096, .f32⟩
  | 42 => ⟨S4096x1, .f32⟩
  | 43 => ⟨S4096x1, .f32⟩
  | 44 => ⟨S_, .f32⟩
  | 45 => ⟨S4096x1, .f32⟩
  | 46 => ⟨S4096x1, .f32⟩
  | 47 => ⟨S4096x3, .f32⟩
  | 48 => ⟨S4096x3, .f32⟩
  | 49 => ⟨S4096x1, .f32⟩
  | 50 => ⟨S4096, .f32⟩
  | 51 => ⟨S4096x1, .f32⟩
  | 52 => ⟨S4096, .f32⟩
  | 53 => ⟨S4096x1, .f32⟩
  | 54 => ⟨S4096, .f32⟩
  | 55 => ⟨S4096x1, .f32⟩
  | 56 => ⟨S4096, .f32⟩
  | 57 => ⟨S4096x1, .f32⟩
  | 58 => ⟨S4096, .f32⟩
  | 59 => ⟨S4096x1, .f32⟩
  | 60 => ⟨S4096, .f32⟩
  | 61 => ⟨S4096, .f32⟩
  | 62 => ⟨S4096, .f32⟩
  | 63 => ⟨S4096, .f32⟩
  | 64 => ⟨S4096, .f32⟩
  | 65 => ⟨S4096, .f32⟩
  | 66 => ⟨S4096, .f32⟩
  | 67 => ⟨S4096, .f32⟩
  | 68 => ⟨S4096, .f32⟩
  | 69 => ⟨S4096, .f32⟩
  | 70 => ⟨S4096x1, .f32⟩
  | 71 => ⟨S4096x1, .f32⟩
  | 72 => ⟨S4096x1, .f32⟩
  | 73 => ⟨S4096x3, .f32⟩
  | 74 => ⟨S4096x3, .f32⟩
  | 75 => ⟨S_, .f32⟩
  | 76 => ⟨S4096, .f32⟩
  | 77 => ⟨S4096x1, .f32⟩
  | 78 => ⟨S4096x1, .f32⟩
  | 79 => ⟨S_, .f32⟩
  | 80 => ⟨S4096x1, .f32⟩
  | 81 => ⟨S4096x1, .f32⟩
  | 82 => ⟨S4096x3, .f32⟩
  | 83 => ⟨S4096x3, .f32⟩
  | 84 => ⟨S4096x1, .f32⟩
  | 85 => ⟨S4096, .f32⟩
  | 86 => ⟨S4096x1, .f32⟩
  | 87 => ⟨S4096, .f32⟩
  | 88 => ⟨S4096x1, .f32⟩
  | 89 => ⟨S4096, .f32⟩
  | 90 => ⟨S4096x1, .f32⟩
  | 91 => ⟨S4096, .f32⟩
  | 92 => ⟨S4096x1, .f32⟩
  | 93 => ⟨S4096, .f32⟩
  | 94 => ⟨S4096x1, .f32⟩
  | 95 => ⟨S4096, .f32⟩
  | 96 => ⟨S4096, .f32⟩
  | 97 => ⟨S4096, .f32⟩
  | 98 => ⟨S4096, .f32⟩
  | 99 => ⟨S4096, .f32⟩
  | 100 => ⟨S4096, .f32⟩
  | 101 => ⟨S4096, .f32⟩
  | 102 => ⟨S4096, .f32⟩
  | 103 => ⟨S4096, .f32⟩
  | 104 => ⟨S4096, .f32⟩
  | 105 => ⟨S4096x1, .f32⟩
  | 106 => ⟨S4096x1, .f32⟩
  | 107 => ⟨S4096x1, .f32⟩
  | 108 => ⟨S4096x3, .f32⟩
  | 109 => ⟨S4096x1x3, .f32⟩
  | 110 => ⟨S4096x1x3, .f32⟩
  | 111 => ⟨S4096x1x3, .f32⟩
  | 112 => ⟨S4096x3x3, .f32⟩
  | 113 => ⟨S8x512x3, .f32⟩
  | 114 => ⟨S8x512x1x3, .f32⟩
  | 115 => ⟨S8x1x512x3, .f32⟩
  | 116 => ⟨S8x512x512x3, .f32⟩
  | 117 => ⟨S8x512x512x3, .f32⟩
  | 118 => ⟨S8x512x512x3, .f32⟩
  | 119 => ⟨S8x512x512x3, .f32⟩
  | 120 => ⟨S_, .f32⟩
  | 121 => ⟨S8x512x512, .f32⟩
  | 122 => ⟨S_, .f32⟩
  | 123 => ⟨S8x512x512, .f32⟩
  | 124 => ⟨S8x512x512, .f32⟩
  | 125 => ⟨S8x512x512, .f32⟩
  | 126 => ⟨S8x512x512, .f32⟩
  | 127 => ⟨S_, .f32⟩
  | _ => ⟨S4096x3x3, .f32⟩

abbrev hbmTy0_1 (i : Nat) : BufTy := match i % 128 with
  | 0 => ⟨S8x512x512, .f32⟩
  | 1 => ⟨S8x512x512, .f32⟩
  | 2 => ⟨S8x512x512, .f32⟩
  | 3 => ⟨S8x512x15, .f32⟩
  | 4 => ⟨S8x512x15, .i32⟩
  | 5 => ⟨S8, .i32⟩
  | 6 => ⟨S_, .i32⟩
  | 7 => ⟨S8, .i32⟩
  | 8 => ⟨S8, .i32⟩
  | 9 => ⟨S8x1x1, .i32⟩
  | 10 => ⟨S8x512x15, .i32⟩
  | 11 => ⟨S8x512x15, .i32⟩
  | 12 => ⟨S4096x15, .i32⟩
  | 13 => ⟨S_, .i32⟩
  | 14 => ⟨S4096x15, .i32⟩
  | 15 => ⟨S4096x15, .i1⟩
  | 16 => ⟨S_, .i32⟩
  | 17 => ⟨S4096x15, .i32⟩
  | 18 => ⟨S4096x15, .i32⟩
  | 19 => ⟨S4096x15, .i32⟩
  | 20 => ⟨S4096x15x1, .i32⟩
  | 21 => ⟨S4096x15x3, .f32⟩
  | 22 => ⟨S4096x1x3, .f32⟩
  | 23 => ⟨S4096x15x3, .f32⟩
  | 24 => ⟨S4096x15x3, .f32⟩
  | 25 => ⟨S4096x15x3, .f32⟩
  | 26 => ⟨S_, .f32⟩
  | 27 => ⟨S4096x15, .f32⟩
  | 28 => ⟨S_, .f32⟩
  | 29 => ⟨S4096x15, .f32⟩
  | 30 => ⟨S4096x15, .f32⟩
  | 31 => ⟨S4096x15, .f32⟩
  | 32 => ⟨S4096x15x1, .f32⟩
  | 33 => ⟨S_, .f32⟩
  | 34 => ⟨S4096x15x1, .f32⟩
  | 35 => ⟨S4096x15x1, .f32⟩
  | 36 => ⟨S4096x15x3, .f32⟩
  | 37 => ⟨S4096x15x3, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S15, .f32⟩
  | 46 => ⟨S_, .f32⟩
  | 47 => ⟨S15, .f32⟩
  | 48 => ⟨S15, .f32⟩
  | 49 => ⟨S1, .f32⟩
  | 50 => ⟨S_, .f32⟩
  | 51 => ⟨S15, .f32⟩
  | 52 => ⟨S15, .f32⟩
  | 53 => ⟨S15, .f32⟩
  | 54 => ⟨S15, .f32⟩
  | 55 => ⟨S1, .f32⟩
  | 56 => ⟨S15, .f32⟩
  | 57 => ⟨S15, .f32⟩
  | 58 => ⟨S15, .f32⟩
  | 59 => ⟨S1, .f32⟩
  | 60 => ⟨S16, .f32⟩
  | 61 => ⟨S4096x15x1, .f32⟩
  | 62 => ⟨S1x1x16, .f32⟩
  | 63 => ⟨S4096x15x16, .f32⟩
  | 64 => ⟨S4096x15x16, .f32⟩
  | 65 => ⟨S4096x15x16, .f32⟩
  | 66 => ⟨S_, .f32⟩
  | 67 => ⟨S4096x15x16, .f32⟩
  | 68 => ⟨S4096x15x16, .f32⟩
  | 69 => ⟨S4096x15x16, .f32⟩
  | 70 => ⟨S4096x15x16, .f32⟩
  | 71 => ⟨S4096x15x16, .f32⟩
  | 72 => ⟨S_, .i32⟩
  | 73 => ⟨S4096x15, .i32⟩
  | 74 => ⟨S4096x15, .i1⟩
  | 75 => ⟨S_, .i32⟩
  | 76 => ⟨S4096x15, .i32⟩
  | 77 => ⟨S4096x15, .i32⟩
  | 78 => ⟨S4096x15, .i32⟩
  | 79 => ⟨S4096x15x1, .i32⟩
  | 80 => ⟨S4096x15x3x3, .f32⟩
  | 81 => ⟨S4096x15x3x3, .f32⟩
  | 82 => ⟨S4096x15x3x3, .f32⟩
  | 83 => ⟨S4096x15x9, .f32⟩
  | 84 => ⟨S4096, .f32⟩
  | 85 => ⟨S_, .i32⟩
  | 86 => ⟨S4096x15, .i32⟩
  | 87 => ⟨S4096x15, .i1⟩
  | 88 => ⟨S_, .i32⟩
  | 89 => ⟨S4096x15, .i32⟩
  | 90 => ⟨S4096x15, .i32⟩
  | 91 => ⟨S4096x15, .i32⟩
  | 92 => ⟨S4096x15x1, .i32⟩
  | 93 => ⟨S4096x15, .f32⟩
  | 94 => ⟨S4096x1, .f32⟩
  | 95 => ⟨S4096x15, .f32⟩
  | 96 => ⟨S4096x15, .f32⟩
  | 97 => ⟨S_, .f32⟩
  | 98 => ⟨S4096x15, .f32⟩
  | 99 => ⟨S4096x15, .f32⟩
  | 100 => ⟨S4096x15x1, .f32⟩
  | 101 => ⟨S4096x15x29, .f32⟩
  | 102 => ⟨S_, .f32⟩
  | 103 => ⟨S4096x27, .f32⟩
  | 104 => ⟨S4096x128, .f32⟩
  | 105 => ⟨S1x128x128, .f32⟩
  | 106 => ⟨S128x128, .f32⟩
  | 107 => ⟨S4096x128, .f32⟩
  | 108 => ⟨S4096x8x16, .f32⟩
  | 109 => ⟨S_, .i32⟩
  | 110 => ⟨S4096x15, .i32⟩
  | 111 => ⟨S4096x15, .i1⟩
  | 112 => ⟨S_, .i32⟩
  | 113 => ⟨S4096x15, .i32⟩
  | 114 => ⟨S4096x15, .i32⟩
  | 115 => ⟨S4096x15, .i32⟩
  | 116 => ⟨S4096x15x1, .i32⟩
  | 117 => ⟨S4096x15x128, .f32⟩
  | 118 => ⟨S4096x15x157, .f32⟩
  | 119 => ⟨S1x157x128, .f32⟩
  | 120 => ⟨S157x128, .f32⟩
  | 121 => ⟨S4096x15x128, .f32⟩
  | 122 => ⟨S4096x15x8x16, .f32⟩
  | 123 => ⟨S1x157x128, .f32⟩
  | 124 => ⟨S157x128, .f32⟩
  | 125 => ⟨S4096x15x128, .f32⟩
  | 126 => ⟨S4096x15x8x16, .f32⟩
  | 127 => ⟨S4096x8x15, .f32⟩
  | _ => ⟨S4096x3x3, .f32⟩

abbrev hbmTy0_2 (i : Nat) : BufTy := match i % 128 with
  | 0 => ⟨S_, .f32⟩
  | 1 => ⟨S4096x8x15, .f32⟩
  | 2 => ⟨S4096x8x15, .f32⟩
  | 3 => ⟨S_, .f32⟩
  | 4 => ⟨S4096x8, .f32⟩
  | 5 => ⟨S_, .f32⟩
  | 6 => ⟨S4096x8, .f32⟩
  | 7 => ⟨S4096x8, .f32⟩
  | 8 => ⟨S4096x8x1, .f32⟩
  | 9 => ⟨S4096x8x15, .f32⟩
  | 10 => ⟨S4096x8x15, .f32⟩
  | 11 => ⟨S4096x8x15, .f32⟩
  | 12 => ⟨S_, .f32⟩
  | 13 => ⟨S4096x8, .f32⟩
  | 14 => ⟨S4096x8x1, .f32⟩
  | 15 => ⟨S4096x8x15, .f32⟩
  | 16 => ⟨S4096x8x15, .f32⟩
  | 17 => ⟨S4096x8x16, .f32⟩
  | 18 => ⟨S4096x128, .f32⟩
  | 19 => ⟨S1x128x128, .f32⟩
  | 20 => ⟨S128x128, .f32⟩
  | 21 => ⟨S4096x128, .f32⟩
  | 22 => ⟨S4096x128, .f32⟩
  | 23 => ⟨S1x128x512, .f32⟩
  | 24 => ⟨S128x512, .f32⟩
  | 25 => ⟨S4096x512, .f32⟩
  | 26 => ⟨S1x512, .f32⟩
  | 27 => ⟨S512, .f32⟩
  | 28 => ⟨S1x512, .f32⟩
  | 29 => ⟨S4096x512, .f32⟩
  | 30 => ⟨S4096x512, .f32⟩
  | 31 => ⟨S_, .f32⟩
  | 32 => ⟨S4096x512, .f32⟩
  | 33 => ⟨S4096x512, .f32⟩
  | 34 => ⟨S1x512x512, .f32⟩
  | 35 => ⟨S512x512, .f32⟩
  | 36 => ⟨S4096x512, .f32⟩
  | 37 => ⟨S1x512, .f32⟩
  | 38 => ⟨S512, .f32⟩
  | 39 => ⟨S1x512, .f32⟩
  | 40 => ⟨S4096x512, .f32⟩
  | 41 => ⟨S4096x512, .f32⟩
  | 42 => ⟨S_, .f32⟩
  | 43 => ⟨S4096x512, .f32⟩
  | 44 => ⟨S4096x512, .f32⟩
  | 45 => ⟨S1x512x128, .f32⟩
  | 46 => ⟨S512x128, .f32⟩
  | 47 => ⟨S4096x128, .f32⟩
  | 48 => ⟨S4096x128, .f32⟩
  | 49 => ⟨S1x128, .f32⟩
  | 50 => ⟨S128, .f32⟩
  | 51 => ⟨S1x128, .f32⟩
  | 52 => ⟨S4096x128, .f32⟩
  | 53 => ⟨S4096x128, .f32⟩
  | 54 => ⟨S1x128x128, .f32⟩
  | 55 => ⟨S128x128, .f32⟩
  | 56 => ⟨S4096x128, .f32⟩
  | 57 => ⟨S4096x8x16, .f32⟩
  | 58 => ⟨S_, .i32⟩
  | 59 => ⟨S4096x15, .i32⟩
  | 60 => ⟨S4096x15, .i1⟩
  | 61 => ⟨S_, .i32⟩
  | 62 => ⟨S4096x15, .i32⟩
  | 63 => ⟨S4096x15, .i32⟩
  | 64 => ⟨S4096x15, .i32⟩
  | 65 => ⟨S4096x15x1, .i32⟩
  | 66 => ⟨S4096x15x128, .f32⟩
  | 67 => ⟨S4096x15x157, .f32⟩
  | 68 => ⟨S1x157x128, .f32⟩
  | 69 => ⟨S157x128, .f32⟩
  | 70 => ⟨S4096x15x128, .f32⟩
  | 71 => ⟨S4096x15x8x16, .f32⟩
  | 72 => ⟨S1x157x128, .f32⟩
  | 73 => ⟨S157x128, .f32⟩
  | 74 => ⟨S4096x15x128, .f32⟩
  | 75 => ⟨S4096x15x8x16, .f32⟩
  | 76 => ⟨S4096x8x15, .f32⟩
  | 77 => ⟨S_, .f32⟩
  | 78 => ⟨S4096x8x15, .f32⟩
  | 79 => ⟨S4096x8x15, .f32⟩
  | 80 => ⟨S_, .f32⟩
  | 81 => ⟨S4096x8, .f32⟩
  | 82 => ⟨S_, .f32⟩
  | 83 => ⟨S4096x8, .f32⟩
  | 84 => ⟨S4096x8, .f32⟩
  | 85 => ⟨S4096x8x1, .f32⟩
  | 86 => ⟨S4096x8x15, .f32⟩
  | 87 => ⟨S4096x8x15, .f32⟩
  | 88 => ⟨S4096x8x15, .f32⟩
  | 89 => ⟨S_, .f32⟩
  | 90 => ⟨S4096x8, .f32⟩
  | 91 => ⟨S4096x8x1, .f32⟩
  | 92 => ⟨S4096x8x15, .f32⟩
  | 93 => ⟨S4096x8x15, .f32⟩
  | 94 => ⟨S4096x8x16, .f32⟩
  | 95 => ⟨S4096x128, .f32⟩
  | 96 => ⟨S1x128x128, .f32⟩
  | 97 => ⟨S128x128, .f32⟩
  | 98 => ⟨S4096x128, .f32⟩
  | 99 => ⟨S4096x128, .f32⟩
  | 100 => ⟨S1x128x512, .f32⟩
  | 101 => ⟨S128x512, .f32⟩
  | 102 => ⟨S4096x512, .f32⟩
  | 103 => ⟨S1x512, .f32⟩
  | 104 => ⟨S512, .f32⟩
  | 105 => ⟨S1x512, .f32⟩
  | 106 => ⟨S4096x512, .f32⟩
  | 107 => ⟨S4096x512, .f32⟩
  | 108 => ⟨S_, .f32⟩
  | 109 => ⟨S4096x512, .f32⟩
  | 110 => ⟨S4096x512, .f32⟩
  | 111 => ⟨S1x512x512, .f32⟩
  | 112 => ⟨S512x512, .f32⟩
  | 113 => ⟨S4096x512, .f32⟩
  | 114 => ⟨S1x512, .f32⟩
  | 115 => ⟨S512, .f32⟩
  | 116 => ⟨S1x512, .f32⟩
  | 117 => ⟨S4096x512, .f32⟩
  | 118 => ⟨S4096x512, .f32⟩
  | 119 => ⟨S_, .f32⟩
  | 120 => ⟨S4096x512, .f32⟩
  | 121 => ⟨S4096x512, .f32⟩
  | 122 => ⟨S1x512x128, .f32⟩
  | 123 => ⟨S512x128, .f32⟩
  | 124 => ⟨S4096x128, .f32⟩
  | 125 => ⟨S4096x128, .f32⟩
  | 126 => ⟨S1x128, .f32⟩
  | 127 => ⟨S128, .f32⟩
  | _ => ⟨S4096x3x3, .f32⟩

abbrev hbmTy0_3 (i : Nat) : BufTy := match i % 128 with
  | 0 => ⟨S1x128, .f32⟩
  | 1 => ⟨S4096x128, .f32⟩
  | 2 => ⟨S4096x128, .f32⟩
  | 3 => ⟨S1x128x128, .f32⟩
  | 4 => ⟨S128x128, .f32⟩
  | 5 => ⟨S4096x128, .f32⟩
  | 6 => ⟨S4096x8x16, .f32⟩
  | 7 => ⟨S_, .i32⟩
  | 8 => ⟨S4096x15, .i32⟩
  | 9 => ⟨S4096x15, .i1⟩
  | 10 => ⟨S_, .i32⟩
  | 11 => ⟨S4096x15, .i32⟩
  | 12 => ⟨S4096x15, .i32⟩
  | 13 => ⟨S4096x15, .i32⟩
  | 14 => ⟨S4096x15x1, .i32⟩
  | 15 => ⟨S4096x15x128, .f32⟩
  | 16 => ⟨S4096x15x157, .f32⟩
  | 17 => ⟨S1x157x128, .f32⟩
  | 18 => ⟨S157x128, .f32⟩
  | 19 => ⟨S4096x15x128, .f32⟩
  | 20 => ⟨S4096x15x8x16, .f32⟩
  | 21 => ⟨S1x157x128, .f32⟩
  | 22 => ⟨S157x128, .f32⟩
  | 23 => ⟨S4096x15x128, .f32⟩
  | 24 => ⟨S4096x15x8x16, .f32⟩
  | 25 => ⟨S4096x8x15, .f32⟩
  | 26 => ⟨S_, .f32⟩
  | 27 => ⟨S4096x8x15, .f32⟩
  | 28 => ⟨S4096x8x15, .f32⟩
  | 29 => ⟨S_, .f32⟩
  | 30 => ⟨S4096x8, .f32⟩
  | 31 => ⟨S_, .f32⟩
  | 32 => ⟨S4096x8, .f32⟩
  | 33 => ⟨S4096x8, .f32⟩
  | 34 => ⟨S4096x8x1, .f32⟩
  | 35 => ⟨S4096x8x15, .f32⟩
  | 36 => ⟨S4096x8x15, .f32⟩
  | 37 => ⟨S4096x8x15, .f32⟩
  | 38 => ⟨S_, .f32⟩
  | 39 => ⟨S4096x8, .f32⟩
  | 40 => ⟨S4096x8x1, .f32⟩
  | 41 => ⟨S4096x8x15, .f32⟩
  | 42 => ⟨S4096x8x15, .f32⟩
  | 43 => ⟨S4096x8x16, .f32⟩
  | 44 => ⟨S4096x128, .f32⟩
  | 45 => ⟨S1x128x128, .f32⟩
  | 46 => ⟨S128x128, .f32⟩
  | 47 => ⟨S4096x128, .f32⟩
  | 48 => ⟨S4096x128, .f32⟩
  | 49 => ⟨S1x128x512, .f32⟩
  | 50 => ⟨S128x512, .f32⟩
  | 51 => ⟨S4096x512, .f32⟩
  | 52 => ⟨S1x512, .f32⟩
  | 53 => ⟨S512, .f32⟩
  | 54 => ⟨S1x512, .f32⟩
  | 55 => ⟨S4096x512, .f32⟩
  | 56 => ⟨S4096x512, .f32⟩
  | 57 => ⟨S_, .f32⟩
  | 58 => ⟨S4096x512, .f32⟩
  | 59 => ⟨S4096x512, .f32⟩
  | 60 => ⟨S1x512x512, .f32⟩
  | 61 => ⟨S512x512, .f32⟩
  | 62 => ⟨S4096x512, .f32⟩
  | 63 => ⟨S1x512, .f32⟩
  | 64 => ⟨S512, .f32⟩
  | 65 => ⟨S1x512, .f32⟩
  | 66 => ⟨S4096x512, .f32⟩
  | 67 => ⟨S4096x512, .f32⟩
  | 68 => ⟨S_, .f32⟩
  | 69 => ⟨S4096x512, .f32⟩
  | 70 => ⟨S4096x512, .f32⟩
  | 71 => ⟨S1x512x128, .f32⟩
  | 72 => ⟨S512x128, .f32⟩
  | 73 => ⟨S4096x128, .f32⟩
  | 74 => ⟨S4096x128, .f32⟩
  | 75 => ⟨S1x128, .f32⟩
  | 76 => ⟨S128, .f32⟩
  | 77 => ⟨S1x128, .f32⟩
  | 78 => ⟨S4096x128, .f32⟩
  | 79 => ⟨S4096x128, .f32⟩
  | 80 => ⟨S8x512x128, .f32⟩
  | 81 => ⟨S8x128x512, .f32⟩
  | 82 => ⟨S_, .i32⟩
  | 83 => ⟨S_, .f32⟩
  | 84 => ⟨S8x128x514, .f32⟩
  | 85 => ⟨S8x128x512, .f32⟩
  | 86 => ⟨S1x128x128x1, .f32⟩
  | 87 => ⟨S128x128, .f32⟩
  | 88 => ⟨S128x8x512, .f32⟩
  | 89 => ⟨S8x128x512, .f32⟩
  | 90 => ⟨S_, .f32⟩
  | 91 => ⟨S8x128x512, .f32⟩
  | 92 => ⟨S8x128x512, .f32⟩
  | 93 => ⟨S8x128x512, .f32⟩
  | 94 => ⟨S1x128x128x1, .f32⟩
  | 95 => ⟨S128x128, .f32⟩
  | 96 => ⟨S128x8x512, .f32⟩
  | 97 => ⟨S8x128x512, .f32⟩
  | 98 => ⟨S8x128x512, .f32⟩
  | 99 => ⟨S8x128x512, .f32⟩
  | 100 => ⟨S1x128x128x1, .f32⟩
  | 101 => ⟨S128x128, .f32⟩
  | 102 => ⟨S128x8x512, .f32⟩
  | 103 => ⟨S8x128x512, .f32⟩
  | 104 => ⟨S8x128x512, .f32⟩
  | 105 => ⟨S1x128, .f32⟩
  | 106 => ⟨S128, .f32⟩
  | 107 => ⟨S1x128x1, .f32⟩
  | 108 => ⟨S8x128x512, .f32⟩
  | 109 => ⟨S8x128x512, .f32⟩
  | 110 => ⟨S_, .f32⟩
  | 111 => ⟨S_, .f32⟩
  | 112 => ⟨S8x128x512, .f32⟩
  | 113 => ⟨S8x128x512, .i1⟩
  | 114 => ⟨S_, .f32⟩
  | 115 => ⟨S8x128x512, .f32⟩
  | 116 => ⟨S8x128x512, .f32⟩
  | 117 => ⟨S8x128x512, .f32⟩
  | 118 => ⟨S8x128x512, .f32⟩
  | 119 => ⟨S_, .f32⟩
  | 120 => ⟨S_, .f32⟩
  | 121 => ⟨S8x128x256, .f32⟩
  | 122 => ⟨S_, .i32⟩
  | 123 => ⟨S_, .f32⟩
  | 124 => ⟨S8x128x258, .f32⟩
  | 125 => ⟨S8x128x256, .f32⟩
  | 126 => ⟨S1x128x128x1, .f32⟩
  | 127 => ⟨S128x128, .f32⟩
  | _ => ⟨S4096x3x3, .f32⟩

abbrev hbmTy0_4 (i : Nat) : BufTy := match i % 128 with
  | 0 => ⟨S128x8x256, .f32⟩
  | 1 => ⟨S8x128x256, .f32⟩
  | 2 => ⟨S_, .f32⟩
  | 3 => ⟨S8x128x256, .f32⟩
  | 4 => ⟨S8x128x256, .f32⟩
  | 5 => ⟨S8x128x256, .f32⟩
  | 6 => ⟨S1x128x128x1, .f32⟩
  | 7 => ⟨S128x128, .f32⟩
  | 8 => ⟨S128x8x256, .f32⟩
  | 9 => ⟨S8x128x256, .f32⟩
  | 10 => ⟨S8x128x256, .f32⟩
  | 11 => ⟨S8x128x256, .f32⟩
  | 12 => ⟨S1x128x128x1, .f32⟩
  | 13 => ⟨S128x128, .f32⟩
  | 14 => ⟨S128x8x256, .f32⟩
  | 15 => ⟨S8x128x256, .f32⟩
  | 16 => ⟨S8x128x256, .f32⟩
  | 17 => ⟨S1x128, .f32⟩
  | 18 => ⟨S128, .f32⟩
  | 19 => ⟨S1x128x1, .f32⟩
  | 20 => ⟨S8x128x256, .f32⟩
  | 21 => ⟨S8x128x256, .f32⟩
  | 22 => ⟨S_, .f32⟩
  | 23 => ⟨S_, .f32⟩
  | 24 => ⟨S8x128x256, .f32⟩
  | 25 => ⟨S8x128x256, .i1⟩
  | 26 => ⟨S_, .f32⟩
  | 27 => ⟨S8x128x256, .f32⟩
  | 28 => ⟨S8x128x256, .f32⟩
  | 29 => ⟨S8x128x256, .f32⟩
  | 30 => ⟨S8x128x256, .f32⟩
  | 31 => ⟨S_, .f32⟩
  | 32 => ⟨S_, .f32⟩
  | 33 => ⟨S8x128x128, .f32⟩
  | 34 => ⟨S_, .i32⟩
  | 35 => ⟨S_, .f32⟩
  | 36 => ⟨S8x128x130, .f32⟩
  | 37 => ⟨S8x128x128, .f32⟩
  | 38 => ⟨S1x128x128x1, .f32⟩
  | 39 => ⟨S128x128, .f32⟩
  | 40 => ⟨S128x8x128, .f32⟩
  | 41 => ⟨S8x128x128, .f32⟩
  | 42 => ⟨S_, .f32⟩
  | 43 => ⟨S8x128x128, .f32⟩
  | 44 => ⟨S8x128x128, .f32⟩
  | 45 => ⟨S8x128x128, .f32⟩
  | 46 => ⟨S1x128x128x1, .f32⟩
  | 47 => ⟨S128x128, .f32⟩
  | 48 => ⟨S128x8x128, .f32⟩
  | 49 => ⟨S8x128x128, .f32⟩
  | 50 => ⟨S8x128x128, .f32⟩
  | 51 => ⟨S8x128x128, .f32⟩
  | 52 => ⟨S1x128x128x1, .f32⟩
  | 53 => ⟨S128x128, .f32⟩
  | 54 => ⟨S128x8x128, .f32⟩
  | 55 => ⟨S8x128x128, .f32⟩
  | 56 => ⟨S8x128x128, .f32⟩
  | 57 => ⟨S1x128, .f32⟩
  | 58 => ⟨S128, .f32⟩
  | 59 => ⟨S1x128x1, .f32⟩
  | 60 => ⟨S8x128x128, .f32⟩
  | 61 => ⟨S8x128x128, .f32⟩
  | 62 => ⟨S_, .f32⟩
  | 63 => ⟨S_, .f32⟩
  | 64 => ⟨S8x128x128, .f32⟩
  | 65 => ⟨S8x128x128, .i1⟩
  | 66 => ⟨S_, .f32⟩
  | 67 => ⟨S8x128x128, .f32⟩
  | 68 => ⟨S8x128x128, .f32⟩
  | 69 => ⟨S8x128x128, .f32⟩
  | 70 => ⟨S8x128x128, .f32⟩
  | 71 => ⟨S_, .f32⟩
  | 72 => ⟨S_, .f32⟩
  | 73 => ⟨S8x128x64, .f32⟩
  | 74 => ⟨S_, .i32⟩
  | 75 => ⟨S_, .f32⟩
  | 76 => ⟨S8x128x66, .f32⟩
  | 77 => ⟨S8x128x64, .f32⟩
  | 78 => ⟨S1x128x128x1, .f32⟩
  | 79 => ⟨S128x128, .f32⟩
  | 80 => ⟨S128x8x64, .f32⟩
  | 81 => ⟨S8x128x64, .f32⟩
  | 82 => ⟨S_, .f32⟩
  | 83 => ⟨S8x128x64, .f32⟩
  | 84 => ⟨S8x128x64, .f32⟩
  | 85 => ⟨S8x128x64, .f32⟩
  | 86 => ⟨S1x128x128x1, .f32⟩
  | 87 => ⟨S128x128, .f32⟩
  | 88 => ⟨S128x8x64, .f32⟩
  | 89 => ⟨S8x128x64, .f32⟩
  | 90 => ⟨S8x128x64, .f32⟩
  | 91 => ⟨S8x128x64, .f32⟩
  | 92 => ⟨S1x128x128x1, .f32⟩
  | 93 => ⟨S128x128, .f32⟩
  | 94 => ⟨S128x8x64, .f32⟩
  | 95 => ⟨S8x128x64, .f32⟩
  | 96 => ⟨S8x128x64, .f32⟩
  | 97 => ⟨S1x128, .f32⟩
  | 98 => ⟨S128, .f32⟩
  | 99 => ⟨S1x128x1, .f32⟩
  | 100 => ⟨S8x128x64, .f32⟩
  | 101 => ⟨S8x128x64, .f32⟩
  | 102 => ⟨S_, .f32⟩
  | 103 => ⟨S_, .f32⟩
  | 104 => ⟨S8x128x64, .f32⟩
  | 105 => ⟨S8x128x64, .i1⟩
  | 106 => ⟨S_, .f32⟩
  | 107 => ⟨S8x128x64, .f32⟩
  | 108 => ⟨S8x128x64, .f32⟩
  | 109 => ⟨S8x128x64, .f32⟩
  | 110 => ⟨S8x128x64, .f32⟩
  | 111 => ⟨S_, .f32⟩
  | 112 => ⟨S_, .f32⟩
  | 113 => ⟨S8x128x32, .f32⟩
  | 114 => ⟨S_, .f32⟩
  | 115 => ⟨S8x128, .f32⟩
  | 116 => ⟨S8x1, .f32⟩
  | 117 => ⟨S1x1, .f32⟩
  | 118 => ⟨S8x1, .f32⟩
  | 119 => ⟨S8x1, .f32⟩
  | 120 => ⟨S8x1x1, .f32⟩
  | _ => ⟨S4096x3x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x3x3, .f32⟩

abbrev bufTy : (tb : Table) → Fin (tcTables nBuf tb) → BufTy
  | .hbm, ⟨i, _⟩ => hbmTy i
  | _, _ => ⟨S4096x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_call0_v0 : Ref sig .tc := ⟨.hbm, 24, rfl⟩
abbrev main_call0_cst : Ref sig .tc := ⟨.hbm, 25, rfl⟩
abbrev main_call0_v1 : Ref sig .tc := ⟨.hbm, 26, rfl⟩
abbrev main_call0_v2 : Ref sig .tc := ⟨.hbm, 27, rfl⟩
abbrev main_v5 : Ref sig .tc := ⟨.hbm, 28, rfl⟩
abbrev main_cst : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_call1_v0 : Ref sig .tc := ⟨.hbm, 39, rfl⟩
abbrev main_call1_cst : Ref sig .tc := ⟨.hbm, 40, rfl⟩
abbrev main_call1_v1 : Ref sig .tc := ⟨.hbm, 41, rfl⟩
abbrev main_call1_v2 : Ref sig .tc := ⟨.hbm, 42, rfl⟩
abbrev main_v15 : Ref sig .tc := ⟨.hbm, 43, rfl⟩
abbrev main_cst_0 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_call2_v0 : Ref sig .tc := ⟨.hbm, 74, rfl⟩
abbrev main_call2_cst : Ref sig .tc := ⟨.hbm, 75, rfl⟩
abbrev main_call2_v1 : Ref sig .tc := ⟨.hbm, 76, rfl⟩
abbrev main_call2_v2 : Ref sig .tc := ⟨.hbm, 77, rfl⟩
abbrev main_v45 : Ref sig .tc := ⟨.hbm, 78, rfl⟩
abbrev main_cst_1 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_2 : Ref sig .tc := ⟨.hbm, 120, rfl⟩
abbrev main_v86 : Ref sig .tc := ⟨.hbm, 121, rfl⟩
abbrev main_cst_3 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_4 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_values : Ref sig .tc := ⟨.hbm, 131, rfl⟩
abbrev main_indices : Ref sig .tc := ⟨.hbm, 132, rfl⟩
abbrev main_v94 : Ref sig .tc := ⟨.hbm, 133, rfl⟩
abbrev main_c : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_c_5 : Ref sig .tc := ⟨.hbm, 141, rfl⟩
abbrev main_v101 : Ref sig .tc := ⟨.hbm, 142, rfl⟩
abbrev main_v102 : Ref sig .tc := ⟨.hbm, 143, rfl⟩
abbrev main_c_6 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_cst_7 : Ref sig .tc := ⟨.hbm, 154, rfl⟩
abbrev main_v112 : Ref sig .tc := ⟨.hbm, 155, rfl⟩
abbrev main_cst_8 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_cst_9 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_10 : Ref sig .tc := ⟨.hbm, 166, rfl⟩
abbrev main_cst_11 : Ref sig .tc := ⟨.hbm, 167, rfl⟩
abbrev main_call3_v0 : Ref sig .tc := ⟨.hbm, 168, rfl⟩
abbrev main_call3_v1 : Ref sig .tc := ⟨.hbm, 169, rfl⟩
abbrev main_call3_v2 : Ref sig .tc := ⟨.hbm, 170, rfl⟩
abbrev main_call3_cst : Ref sig .tc := ⟨.hbm, 171, rfl⟩
abbrev main_call3_v3 : Ref sig .tc := ⟨.hbm, 172, rfl⟩
abbrev main_call3_v4 : Ref sig .tc := ⟨.hbm, 173, rfl⟩
abbrev main_call3_cst_0 : Ref sig .tc := ⟨.hbm, 174, rfl⟩
abbrev main_call3_v5 : Ref sig .tc := ⟨.hbm, 175, rfl⟩
abbrev main_call3_v6 : Ref sig .tc := ⟨.hbm, 176, rfl⟩
abbrev main_call3_v7 : Ref sig .tc := ⟨.hbm, 177, rfl⟩
abbrev main_call3_cst_1 : Ref sig .tc := ⟨.hbm, 178, rfl⟩
abbrev main_call3_v8 : Ref sig .tc := ⟨.hbm, 179, rfl⟩
abbrev main_call3_v9 : Ref sig .tc := ⟨.hbm, 180, rfl⟩
abbrev main_call3_v10 : Ref sig .tc := ⟨.hbm, 181, rfl⟩
abbrev main_call3_v11 : Ref sig .tc := ⟨.hbm, 182, rfl⟩
abbrev main_call3_v12 : Ref sig .tc := ⟨.hbm, 183, rfl⟩
abbrev main_call3_v13 : Ref sig .tc := ⟨.hbm, 184, rfl⟩
abbrev main_call3_v14 : Ref sig .tc := ⟨.hbm, 185, rfl⟩
abbrev main_call3_v15 : Ref sig .tc := ⟨.hbm, 186, rfl⟩
abbrev main_call3_v16 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_cst_12 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_c_13 : Ref sig .tc := ⟨.hbm, 200, rfl⟩
abbrev main_v132 : Ref sig .tc := ⟨.hbm, 201, rfl⟩
abbrev main_v133 : Ref sig .tc := ⟨.hbm, 202, rfl⟩
abbrev main_c_14 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_c_15 : Ref sig .tc := ⟨.hbm, 213, rfl⟩
abbrev main_v143 : Ref sig .tc := ⟨.hbm, 214, rfl⟩
abbrev main_v144 : Ref sig .tc := ⟨.hbm, 215, rfl⟩
abbrev main_c_16 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_cst_17 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_cst_18 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_c_19 : Ref sig .tc := ⟨.hbm, 237, rfl⟩
abbrev main_v163 : Ref sig .tc := ⟨.hbm, 238, rfl⟩
abbrev main_v164 : Ref sig .tc := ⟨.hbm, 239, rfl⟩
abbrev main_c_20 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_cst_21 : Ref sig .tc := ⟨.hbm, 256, rfl⟩
abbrev main_v180 : Ref sig .tc := ⟨.hbm, 257, rfl⟩
abbrev main_v181 : Ref sig .tc := ⟨.hbm, 258, rfl⟩
abbrev main_cst_22 : Ref sig .tc := ⟨.hbm, 259, rfl⟩
abbrev main_v182 : Ref sig .tc := ⟨.hbm, 260, rfl⟩
abbrev main_cst_23 : Ref sig .tc := ⟨.hbm, 261, rfl⟩
abbrev main_v183 : Ref sig .tc := ⟨.hbm, 262, rfl⟩
abbrev main_v184 : Ref sig .tc := ⟨.hbm, 263, rfl⟩
abbrev main_v185 : Ref sig .tc := ⟨.hbm, 264, rfl⟩
abbrev main_v186 : Ref sig .tc := ⟨.hbm, 265, rfl⟩
abbrev main_v187 : Ref sig .tc := ⟨.hbm, 266, rfl⟩
abbrev main_v188 : Ref sig .tc := ⟨.hbm, 267, rfl⟩
abbrev main_cst_24 : Ref sig .tc := ⟨.hbm, 268, rfl⟩
abbrev main_v189 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_v197 : Ref sig .tc := ⟨.hbm, 277, rfl⟩
abbrev main_v198 : Ref sig .tc := ⟨.hbm, 278, rfl⟩
abbrev main_v199 : Ref sig .tc := ⟨.hbm, 279, rfl⟩
abbrev main_v200 : Ref sig .tc := ⟨.hbm, 280, rfl⟩
abbrev main_v201 : Ref sig .tc := ⟨.hbm, 281, rfl⟩
abbrev main_v202 : Ref sig .tc := ⟨.hbm, 282, rfl⟩
abbrev main_v203 : Ref sig .tc := ⟨.hbm, 283, rfl⟩
abbrev main_v204 : Ref sig .tc := ⟨.hbm, 284, rfl⟩
abbrev main_v205 : Ref sig .tc := ⟨.hbm, 285, rfl⟩
abbrev main_v206 : Ref sig .tc := ⟨.hbm, 286, rfl⟩
abbrev main_call4_cst : Ref sig .tc := ⟨.hbm, 287, rfl⟩
abbrev main_call4_v0 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_v210 : Ref sig .tc := ⟨.hbm, 292, rfl⟩
abbrev main_v211 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_call5_cst : Ref sig .tc := ⟨.hbm, 298, rfl⟩
abbrev main_call5_v0 : Ref sig .tc := ⟨.hbm, 299, rfl⟩
abbrev main_v216 : Ref sig .tc := ⟨.hbm, 300, rfl⟩
abbrev main_v217 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_v222 : Ref sig .tc := ⟨.hbm, 306, rfl⟩
abbrev main_v223 : Ref sig .tc := ⟨.hbm, 307, rfl⟩
abbrev main_v224 : Ref sig .tc := ⟨.hbm, 308, rfl⟩
abbrev main_v225 : Ref sig .tc := ⟨.hbm, 309, rfl⟩
abbrev main_v226 : Ref sig .tc := ⟨.hbm, 310, rfl⟩
abbrev main_v227 : Ref sig .tc := ⟨.hbm, 311, rfl⟩
abbrev main_v228 : Ref sig .tc := ⟨.hbm, 312, rfl⟩
abbrev main_v229 : Ref sig .tc := ⟨.hbm, 313, rfl⟩
abbrev main_c_25 : Ref sig .tc := ⟨.hbm, 314, rfl⟩
abbrev main_v230 : Ref sig .tc := ⟨.hbm, 315, rfl⟩
abbrev main_v231 : Ref sig .tc := ⟨.hbm, 316, rfl⟩
abbrev main_c_26 : Ref sig .tc := ⟨.hbm, 317, rfl⟩
abbrev main_v232 : Ref sig .tc := ⟨.hbm, 318, rfl⟩
abbrev main_v233 : Ref sig .tc := ⟨.hbm, 319, rfl⟩
abbrev main_v234 : Ref sig .tc := ⟨.hbm, 320, rfl⟩
abbrev main_v235 : Ref sig .tc := ⟨.hbm, 321, rfl⟩
abbrev main_v236 : Ref sig .tc := ⟨.hbm, 322, rfl⟩
abbrev main_v237 : Ref sig .tc := ⟨.hbm, 323, rfl⟩
abbrev main_v238 : Ref sig .tc := ⟨.hbm, 324, rfl⟩
abbrev main_v239 : Ref sig .tc := ⟨.hbm, 325, rfl⟩
abbrev main_v240 : Ref sig .tc := ⟨.hbm, 326, rfl⟩
abbrev main_v241 : Ref sig .tc := ⟨.hbm, 327, rfl⟩
abbrev main_v242 : Ref sig .tc := ⟨.hbm, 328, rfl⟩
abbrev main_v243 : Ref sig .tc := ⟨.hbm, 329, rfl⟩
abbrev main_v244 : Ref sig .tc := ⟨.hbm, 330, rfl⟩
abbrev main_v245 : Ref sig .tc := ⟨.hbm, 331, rfl⟩
abbrev main_v246 : Ref sig .tc := ⟨.hbm, 332, rfl⟩
abbrev main_cst_27 : Ref sig .tc := ⟨.hbm, 333, rfl⟩
abbrev main_v247 : Ref sig .tc := ⟨.hbm, 334, rfl⟩
abbrev main_v248 : Ref sig .tc := ⟨.hbm, 335, rfl⟩
abbrev main_cst_28 : Ref sig .tc := ⟨.hbm, 336, rfl⟩
abbrev main_v249 : Ref sig .tc := ⟨.hbm, 337, rfl⟩
abbrev main_cst_29 : Ref sig .tc := ⟨.hbm, 338, rfl⟩
abbrev main_v250 : Ref sig .tc := ⟨.hbm, 339, rfl⟩
abbrev main_v251 : Ref sig .tc := ⟨.hbm, 340, rfl⟩
abbrev main_v252 : Ref sig .tc := ⟨.hbm, 341, rfl⟩
abbrev main_v253 : Ref sig .tc := ⟨.hbm, 342, rfl⟩
abbrev main_v254 : Ref sig .tc := ⟨.hbm, 343, rfl⟩
abbrev main_v255 : Ref sig .tc := ⟨.hbm, 344, rfl⟩
abbrev main_cst_30 : Ref sig .tc := ⟨.hbm, 345, rfl⟩
abbrev main_v256 : Ref sig .tc := ⟨.hbm, 346, rfl⟩
abbrev main_v257 : Ref sig .tc := ⟨.hbm, 347, rfl⟩
abbrev main_v258 : Ref sig .tc := ⟨.hbm, 348, rfl⟩
abbrev main_v259 : Ref sig .tc := ⟨.hbm, 349, rfl⟩
abbrev main_v260 : Ref sig .tc := ⟨.hbm, 350, rfl⟩
abbrev main_v261 : Ref sig .tc := ⟨.hbm, 351, rfl⟩
abbrev main_v262 : Ref sig .tc := ⟨.hbm, 352, rfl⟩
abbrev main_v263 : Ref sig .tc := ⟨.hbm, 353, rfl⟩
abbrev main_v264 : Ref sig .tc := ⟨.hbm, 354, rfl⟩
abbrev main_v265 : Ref sig .tc := ⟨.hbm, 355, rfl⟩
abbrev main_v266 : Ref sig .tc := ⟨.hbm, 356, rfl⟩
abbrev main_v267 : Ref sig .tc := ⟨.hbm, 357, rfl⟩
abbrev main_v268 : Ref sig .tc := ⟨.hbm, 358, rfl⟩
abbrev main_v269 : Ref sig .tc := ⟨.hbm, 359, rfl⟩
abbrev main_v270 : Ref sig .tc := ⟨.hbm, 360, rfl⟩
abbrev main_v271 : Ref sig .tc := ⟨.hbm, 361, rfl⟩
abbrev main_v272 : Ref sig .tc := ⟨.hbm, 362, rfl⟩
abbrev main_v273 : Ref sig .tc := ⟨.hbm, 363, rfl⟩
abbrev main_call6_cst : Ref sig .tc := ⟨.hbm, 364, rfl⟩
abbrev main_call6_v0 : Ref sig .tc := ⟨.hbm, 365, rfl⟩
abbrev main_v274 : Ref sig .tc := ⟨.hbm, 366, rfl⟩
abbrev main_v275 : Ref sig .tc := ⟨.hbm, 367, rfl⟩
abbrev main_v276 : Ref sig .tc := ⟨.hbm, 368, rfl⟩
abbrev main_v277 : Ref sig .tc := ⟨.hbm, 369, rfl⟩
abbrev main_v278 : Ref sig .tc := ⟨.hbm, 370, rfl⟩
abbrev main_v279 : Ref sig .tc := ⟨.hbm, 371, rfl⟩
abbrev main_v280 : Ref sig .tc := ⟨.hbm, 372, rfl⟩
abbrev main_v281 : Ref sig .tc := ⟨.hbm, 373, rfl⟩
abbrev main_v282 : Ref sig .tc := ⟨.hbm, 374, rfl⟩
abbrev main_call7_cst : Ref sig .tc := ⟨.hbm, 375, rfl⟩
abbrev main_call7_v0 : Ref sig .tc := ⟨.hbm, 376, rfl⟩
abbrev main_v283 : Ref sig .tc := ⟨.hbm, 377, rfl⟩
abbrev main_v284 : Ref sig .tc := ⟨.hbm, 378, rfl⟩
abbrev main_v285 : Ref sig .tc := ⟨.hbm, 379, rfl⟩
abbrev main_v286 : Ref sig .tc := ⟨.hbm, 380, rfl⟩
abbrev main_v287 : Ref sig .tc := ⟨.hbm, 381, rfl⟩
abbrev main_v288 : Ref sig .tc := ⟨.hbm, 382, rfl⟩
abbrev main_v289 : Ref sig .tc := ⟨.hbm, 383, rfl⟩
abbrev main_v290 : Ref sig .tc := ⟨.hbm, 384, rfl⟩
abbrev main_v291 : Ref sig .tc := ⟨.hbm, 385, rfl⟩
abbrev main_v292 : Ref sig .tc := ⟨.hbm, 386, rfl⟩
abbrev main_v293 : Ref sig .tc := ⟨.hbm, 387, rfl⟩
abbrev main_v294 : Ref sig .tc := ⟨.hbm, 388, rfl⟩
abbrev main_v295 : Ref sig .tc := ⟨.hbm, 389, rfl⟩
abbrev main_v296 : Ref sig .tc := ⟨.hbm, 390, rfl⟩
abbrev main_c_31 : Ref sig .tc := ⟨.hbm, 391, rfl⟩
abbrev main_v297 : Ref sig .tc := ⟨.hbm, 392, rfl⟩
abbrev main_v298 : Ref sig .tc := ⟨.hbm, 393, rfl⟩
abbrev main_c_32 : Ref sig .tc := ⟨.hbm, 394, rfl⟩
abbrev main_v299 : Ref sig .tc := ⟨.hbm, 395, rfl⟩
abbrev main_v300 : Ref sig .tc := ⟨.hbm, 396, rfl⟩
abbrev main_v301 : Ref sig .tc := ⟨.hbm, 397, rfl⟩
abbrev main_v302 : Ref sig .tc := ⟨.hbm, 398, rfl⟩
abbrev main_v303 : Ref sig .tc := ⟨.hbm, 399, rfl⟩
abbrev main_v304 : Ref sig .tc := ⟨.hbm, 400, rfl⟩
abbrev main_v305 : Ref sig .tc := ⟨.hbm, 401, rfl⟩
abbrev main_v306 : Ref sig .tc := ⟨.hbm, 402, rfl⟩
abbrev main_v307 : Ref sig .tc := ⟨.hbm, 403, rfl⟩
abbrev main_v308 : Ref sig .tc := ⟨.hbm, 404, rfl⟩
abbrev main_v309 : Ref sig .tc := ⟨.hbm, 405, rfl⟩
abbrev main_v310 : Ref sig .tc := ⟨.hbm, 406, rfl⟩
abbrev main_v311 : Ref sig .tc := ⟨.hbm, 407, rfl⟩
abbrev main_v312 : Ref sig .tc := ⟨.hbm, 408, rfl⟩
abbrev main_v313 : Ref sig .tc := ⟨.hbm, 409, rfl⟩
abbrev main_cst_33 : Ref sig .tc := ⟨.hbm, 410, rfl⟩
abbrev main_v314 : Ref sig .tc := ⟨.hbm, 411, rfl⟩
abbrev main_v315 : Ref sig .tc := ⟨.hbm, 412, rfl⟩
abbrev main_cst_34 : Ref sig .tc := ⟨.hbm, 413, rfl⟩
abbrev main_v316 : Ref sig .tc := ⟨.hbm, 414, rfl⟩
abbrev main_cst_35 : Ref sig .tc := ⟨.hbm, 415, rfl⟩
abbrev main_v317 : Ref sig .tc := ⟨.hbm, 416, rfl⟩
abbrev main_v318 : Ref sig .tc := ⟨.hbm, 417, rfl⟩
abbrev main_v319 : Ref sig .tc := ⟨.hbm, 418, rfl⟩
abbrev main_v320 : Ref sig .tc := ⟨.hbm, 419, rfl⟩
abbrev main_v321 : Ref sig .tc := ⟨.hbm, 420, rfl⟩
abbrev main_v322 : Ref sig .tc := ⟨.hbm, 421, rfl⟩
abbrev main_cst_36 : Ref sig .tc := ⟨.hbm, 422, rfl⟩
abbrev main_v323 : Ref sig .tc := ⟨.hbm, 423, rfl⟩
abbrev main_v324 : Ref sig .tc := ⟨.hbm, 424, rfl⟩
abbrev main_v325 : Ref sig .tc := ⟨.hbm, 425, rfl⟩
abbrev main_v326 : Ref sig .tc := ⟨.hbm, 426, rfl⟩
abbrev main_v327 : Ref sig .tc := ⟨.hbm, 427, rfl⟩
abbrev main_v328 : Ref sig .tc := ⟨.hbm, 428, rfl⟩
abbrev main_v329 : Ref sig .tc := ⟨.hbm, 429, rfl⟩
abbrev main_v330 : Ref sig .tc := ⟨.hbm, 430, rfl⟩
abbrev main_v331 : Ref sig .tc := ⟨.hbm, 431, rfl⟩
abbrev main_v332 : Ref sig .tc := ⟨.hbm, 432, rfl⟩
abbrev main_v333 : Ref sig .tc := ⟨.hbm, 433, rfl⟩
abbrev main_v334 : Ref sig .tc := ⟨.hbm, 434, rfl⟩
abbrev main_v335 : Ref sig .tc := ⟨.hbm, 435, rfl⟩
abbrev main_v336 : Ref sig .tc := ⟨.hbm, 436, rfl⟩
abbrev main_v337 : Ref sig .tc := ⟨.hbm, 437, rfl⟩
abbrev main_v338 : Ref sig .tc := ⟨.hbm, 438, rfl⟩
abbrev main_v339 : Ref sig .tc := ⟨.hbm, 439, rfl⟩
abbrev main_v340 : Ref sig .tc := ⟨.hbm, 440, rfl⟩
abbrev main_call8_cst : Ref sig .tc := ⟨.hbm, 441, rfl⟩
abbrev main_call8_v0 : Ref sig .tc := ⟨.hbm, 442, rfl⟩
abbrev main_v341 : Ref sig .tc := ⟨.hbm, 443, rfl⟩
abbrev main_v342 : Ref sig .tc := ⟨.hbm, 444, rfl⟩
abbrev main_v343 : Ref sig .tc := ⟨.hbm, 445, rfl⟩
abbrev main_v344 : Ref sig .tc := ⟨.hbm, 446, rfl⟩
abbrev main_v345 : Ref sig .tc := ⟨.hbm, 447, rfl⟩
abbrev main_v346 : Ref sig .tc := ⟨.hbm, 448, rfl⟩
abbrev main_v347 : Ref sig .tc := ⟨.hbm, 449, rfl⟩
abbrev main_v348 : Ref sig .tc := ⟨.hbm, 450, rfl⟩
abbrev main_v349 : Ref sig .tc := ⟨.hbm, 451, rfl⟩
abbrev main_call9_cst : Ref sig .tc := ⟨.hbm, 452, rfl⟩
abbrev main_call9_v0 : Ref sig .tc := ⟨.hbm, 453, rfl⟩
abbrev main_v350 : Ref sig .tc := ⟨.hbm, 454, rfl⟩
abbrev main_v351 : Ref sig .tc := ⟨.hbm, 455, rfl⟩
abbrev main_v352 : Ref sig .tc := ⟨.hbm, 456, rfl⟩
abbrev main_v353 : Ref sig .tc := ⟨.hbm, 457, rfl⟩
abbrev main_v354 : Ref sig .tc := ⟨.hbm, 458, rfl⟩
abbrev main_v355 : Ref sig .tc := ⟨.hbm, 459, rfl⟩
abbrev main_v356 : Ref sig .tc := ⟨.hbm, 460, rfl⟩
abbrev main_v357 : Ref sig .tc := ⟨.hbm, 461, rfl⟩
abbrev main_v358 : Ref sig .tc := ⟨.hbm, 462, rfl⟩
abbrev main_v359 : Ref sig .tc := ⟨.hbm, 463, rfl⟩
abbrev main_v360 : Ref sig .tc := ⟨.hbm, 464, rfl⟩
abbrev main_v361 : Ref sig .tc := ⟨.hbm, 465, rfl⟩
abbrev main_c_37 : Ref sig .tc := ⟨.hbm, 466, rfl⟩
abbrev main_call10_v0 : Ref sig .tc := ⟨.hbm, 467, rfl⟩
abbrev main_v362 : Ref sig .tc := ⟨.hbm, 468, rfl⟩
abbrev main_v363 : Ref sig .tc := ⟨.hbm, 469, rfl⟩
abbrev main_v364 : Ref sig .tc := ⟨.hbm, 470, rfl⟩
abbrev main_v365 : Ref sig .tc := ⟨.hbm, 471, rfl⟩
abbrev main_v366 : Ref sig .tc := ⟨.hbm, 472, rfl⟩
abbrev main_v367 : Ref sig .tc := ⟨.hbm, 473, rfl⟩
abbrev main_cst_38 : Ref sig .tc := ⟨.hbm, 474, rfl⟩
abbrev main_v368 : Ref sig .tc := ⟨.hbm, 475, rfl⟩
abbrev main_v369 : Ref sig .tc := ⟨.hbm, 476, rfl⟩
abbrev main_v370 : Ref sig .tc := ⟨.hbm, 477, rfl⟩
abbrev main_v371 : Ref sig .tc := ⟨.hbm, 478, rfl⟩
abbrev main_v372 : Ref sig .tc := ⟨.hbm, 479, rfl⟩
abbrev main_v373 : Ref sig .tc := ⟨.hbm, 480, rfl⟩
abbrev main_v374 : Ref sig .tc := ⟨.hbm, 481, rfl⟩
abbrev main_v375 : Ref sig .tc := ⟨.hbm, 482, rfl⟩
abbrev main_v376 : Ref sig .tc := ⟨.hbm, 483, rfl⟩
abbrev main_v377 : Ref sig .tc := ⟨.hbm, 484, rfl⟩
abbrev main_v378 : Ref sig .tc := ⟨.hbm, 485, rfl⟩
abbrev main_v379 : Ref sig .tc := ⟨.hbm, 486, rfl⟩
abbrev main_v380 : Ref sig .tc := ⟨.hbm, 487, rfl⟩
abbrev main_v381 : Ref sig .tc := ⟨.hbm, 488, rfl⟩
abbrev main_v382 : Ref sig .tc := ⟨.hbm, 489, rfl⟩
abbrev main_v383 : Ref sig .tc := ⟨.hbm, 490, rfl⟩
abbrev main_v384 : Ref sig .tc := ⟨.hbm, 491, rfl⟩
abbrev main_v385 : Ref sig .tc := ⟨.hbm, 492, rfl⟩
abbrev main_v386 : Ref sig .tc := ⟨.hbm, 493, rfl⟩
abbrev main_cst_39 : Ref sig .tc := ⟨.hbm, 494, rfl⟩
abbrev main_call11_cst : Ref sig .tc := ⟨.hbm, 495, rfl⟩
abbrev main_call11_v0 : Ref sig .tc := ⟨.hbm, 496, rfl⟩
abbrev main_call11_v1 : Ref sig .tc := ⟨.hbm, 497, rfl⟩
abbrev main_call11_v2 : Ref sig .tc := ⟨.hbm, 498, rfl⟩
abbrev main_call11_v3 : Ref sig .tc := ⟨.hbm, 499, rfl⟩
abbrev main_call11_v4 : Ref sig .tc := ⟨.hbm, 500, rfl⟩
abbrev main_v387 : Ref sig .tc := ⟨.hbm, 501, rfl⟩
abbrev main_v388 : Ref sig .tc := ⟨.hbm, 502, rfl⟩
abbrev main_cst_40 : Ref sig .tc := ⟨.hbm, 503, rfl⟩
abbrev main_v389 : Ref sig .tc := ⟨.hbm, 504, rfl⟩
abbrev main_v390 : Ref sig .tc := ⟨.hbm, 505, rfl⟩
abbrev main_c_41 : Ref sig .tc := ⟨.hbm, 506, rfl⟩
abbrev main_call12_v0 : Ref sig .tc := ⟨.hbm, 507, rfl⟩
abbrev main_v391 : Ref sig .tc := ⟨.hbm, 508, rfl⟩
abbrev main_v392 : Ref sig .tc := ⟨.hbm, 509, rfl⟩
abbrev main_v393 : Ref sig .tc := ⟨.hbm, 510, rfl⟩
abbrev main_v394 : Ref sig .tc := ⟨.hbm, 511, rfl⟩
abbrev main_v395 : Ref sig .tc := ⟨.hbm, 512, rfl⟩
abbrev main_v396 : Ref sig .tc := ⟨.hbm, 513, rfl⟩
abbrev main_cst_42 : Ref sig .tc := ⟨.hbm, 514, rfl⟩
abbrev main_v397 : Ref sig .tc := ⟨.hbm, 515, rfl⟩
abbrev main_v398 : Ref sig .tc := ⟨.hbm, 516, rfl⟩
abbrev main_v399 : Ref sig .tc := ⟨.hbm, 517, rfl⟩
abbrev main_v400 : Ref sig .tc := ⟨.hbm, 518, rfl⟩
abbrev main_v401 : Ref sig .tc := ⟨.hbm, 519, rfl⟩
abbrev main_v402 : Ref sig .tc := ⟨.hbm, 520, rfl⟩
abbrev main_v403 : Ref sig .tc := ⟨.hbm, 521, rfl⟩
abbrev main_v404 : Ref sig .tc := ⟨.hbm, 522, rfl⟩
abbrev main_v405 : Ref sig .tc := ⟨.hbm, 523, rfl⟩
abbrev main_v406 : Ref sig .tc := ⟨.hbm, 524, rfl⟩
abbrev main_v407 : Ref sig .tc := ⟨.hbm, 525, rfl⟩
abbrev main_v408 : Ref sig .tc := ⟨.hbm, 526, rfl⟩
abbrev main_v409 : Ref sig .tc := ⟨.hbm, 527, rfl⟩
abbrev main_v410 : Ref sig .tc := ⟨.hbm, 528, rfl⟩
abbrev main_v411 : Ref sig .tc := ⟨.hbm, 529, rfl⟩
abbrev main_v412 : Ref sig .tc := ⟨.hbm, 530, rfl⟩
abbrev main_v413 : Ref sig .tc := ⟨.hbm, 531, rfl⟩
abbrev main_v414 : Ref sig .tc := ⟨.hbm, 532, rfl⟩
abbrev main_v415 : Ref sig .tc := ⟨.hbm, 533, rfl⟩
abbrev main_cst_43 : Ref sig .tc := ⟨.hbm, 534, rfl⟩
abbrev main_call13_cst : Ref sig .tc := ⟨.hbm, 535, rfl⟩
abbrev main_call13_v0 : Ref sig .tc := ⟨.hbm, 536, rfl⟩
abbrev main_call13_v1 : Ref sig .tc := ⟨.hbm, 537, rfl⟩
abbrev main_call13_v2 : Ref sig .tc := ⟨.hbm, 538, rfl⟩
abbrev main_call13_v3 : Ref sig .tc := ⟨.hbm, 539, rfl⟩
abbrev main_call13_v4 : Ref sig .tc := ⟨.hbm, 540, rfl⟩
abbrev main_v416 : Ref sig .tc := ⟨.hbm, 541, rfl⟩
abbrev main_v417 : Ref sig .tc := ⟨.hbm, 542, rfl⟩
abbrev main_cst_44 : Ref sig .tc := ⟨.hbm, 543, rfl⟩
abbrev main_v418 : Ref sig .tc := ⟨.hbm, 544, rfl⟩
abbrev main_v419 : Ref sig .tc := ⟨.hbm, 545, rfl⟩
abbrev main_c_45 : Ref sig .tc := ⟨.hbm, 546, rfl⟩
abbrev main_call14_v0 : Ref sig .tc := ⟨.hbm, 547, rfl⟩
abbrev main_v420 : Ref sig .tc := ⟨.hbm, 548, rfl⟩
abbrev main_v421 : Ref sig .tc := ⟨.hbm, 549, rfl⟩
abbrev main_v422 : Ref sig .tc := ⟨.hbm, 550, rfl⟩
abbrev main_v423 : Ref sig .tc := ⟨.hbm, 551, rfl⟩
abbrev main_v424 : Ref sig .tc := ⟨.hbm, 552, rfl⟩
abbrev main_v425 : Ref sig .tc := ⟨.hbm, 553, rfl⟩
abbrev main_cst_46 : Ref sig .tc := ⟨.hbm, 554, rfl⟩
abbrev main_v426 : Ref sig .tc := ⟨.hbm, 555, rfl⟩
abbrev main_v427 : Ref sig .tc := ⟨.hbm, 556, rfl⟩
abbrev main_v428 : Ref sig .tc := ⟨.hbm, 557, rfl⟩
abbrev main_v429 : Ref sig .tc := ⟨.hbm, 558, rfl⟩
abbrev main_v430 : Ref sig .tc := ⟨.hbm, 559, rfl⟩
abbrev main_v431 : Ref sig .tc := ⟨.hbm, 560, rfl⟩
abbrev main_v432 : Ref sig .tc := ⟨.hbm, 561, rfl⟩
abbrev main_v433 : Ref sig .tc := ⟨.hbm, 562, rfl⟩
abbrev main_v434 : Ref sig .tc := ⟨.hbm, 563, rfl⟩
abbrev main_v435 : Ref sig .tc := ⟨.hbm, 564, rfl⟩
abbrev main_v436 : Ref sig .tc := ⟨.hbm, 565, rfl⟩
abbrev main_v437 : Ref sig .tc := ⟨.hbm, 566, rfl⟩
abbrev main_v438 : Ref sig .tc := ⟨.hbm, 567, rfl⟩
abbrev main_v439 : Ref sig .tc := ⟨.hbm, 568, rfl⟩
abbrev main_v440 : Ref sig .tc := ⟨.hbm, 569, rfl⟩
abbrev main_v441 : Ref sig .tc := ⟨.hbm, 570, rfl⟩
abbrev main_v442 : Ref sig .tc := ⟨.hbm, 571, rfl⟩
abbrev main_v443 : Ref sig .tc := ⟨.hbm, 572, rfl⟩
abbrev main_v444 : Ref sig .tc := ⟨.hbm, 573, rfl⟩
abbrev main_cst_47 : Ref sig .tc := ⟨.hbm, 574, rfl⟩
abbrev main_call15_cst : Ref sig .tc := ⟨.hbm, 575, rfl⟩
abbrev main_call15_v0 : Ref sig .tc := ⟨.hbm, 576, rfl⟩
abbrev main_call15_v1 : Ref sig .tc := ⟨.hbm, 577, rfl⟩
abbrev main_call15_v2 : Ref sig .tc := ⟨.hbm, 578, rfl⟩
abbrev main_call15_v3 : Ref sig .tc := ⟨.hbm, 579, rfl⟩
abbrev main_call15_v4 : Ref sig .tc := ⟨.hbm, 580, rfl⟩
abbrev main_v445 : Ref sig .tc := ⟨.hbm, 581, rfl⟩
abbrev main_v446 : Ref sig .tc := ⟨.hbm, 582, rfl⟩
abbrev main_cst_48 : Ref sig .tc := ⟨.hbm, 583, rfl⟩
abbrev main_v447 : Ref sig .tc := ⟨.hbm, 584, rfl⟩
abbrev main_v448 : Ref sig .tc := ⟨.hbm, 585, rfl⟩
abbrev main_c_49 : Ref sig .tc := ⟨.hbm, 586, rfl⟩
abbrev main_call16_v0 : Ref sig .tc := ⟨.hbm, 587, rfl⟩
abbrev main_v449 : Ref sig .tc := ⟨.hbm, 588, rfl⟩
abbrev main_v450 : Ref sig .tc := ⟨.hbm, 589, rfl⟩
abbrev main_v451 : Ref sig .tc := ⟨.hbm, 590, rfl⟩
abbrev main_v452 : Ref sig .tc := ⟨.hbm, 591, rfl⟩
abbrev main_v453 : Ref sig .tc := ⟨.hbm, 592, rfl⟩
abbrev main_v454 : Ref sig .tc := ⟨.hbm, 593, rfl⟩
abbrev main_cst_50 : Ref sig .tc := ⟨.hbm, 594, rfl⟩
abbrev main_v455 : Ref sig .tc := ⟨.hbm, 595, rfl⟩
abbrev main_v456 : Ref sig .tc := ⟨.hbm, 596, rfl⟩
abbrev main_v457 : Ref sig .tc := ⟨.hbm, 597, rfl⟩
abbrev main_v458 : Ref sig .tc := ⟨.hbm, 598, rfl⟩
abbrev main_v459 : Ref sig .tc := ⟨.hbm, 599, rfl⟩
abbrev main_v460 : Ref sig .tc := ⟨.hbm, 600, rfl⟩
abbrev main_v461 : Ref sig .tc := ⟨.hbm, 601, rfl⟩
abbrev main_v462 : Ref sig .tc := ⟨.hbm, 602, rfl⟩
abbrev main_v463 : Ref sig .tc := ⟨.hbm, 603, rfl⟩
abbrev main_v464 : Ref sig .tc := ⟨.hbm, 604, rfl⟩
abbrev main_v465 : Ref sig .tc := ⟨.hbm, 605, rfl⟩
abbrev main_v466 : Ref sig .tc := ⟨.hbm, 606, rfl⟩
abbrev main_v467 : Ref sig .tc := ⟨.hbm, 607, rfl⟩
abbrev main_v468 : Ref sig .tc := ⟨.hbm, 608, rfl⟩
abbrev main_v469 : Ref sig .tc := ⟨.hbm, 609, rfl⟩
abbrev main_v470 : Ref sig .tc := ⟨.hbm, 610, rfl⟩
abbrev main_v471 : Ref sig .tc := ⟨.hbm, 611, rfl⟩
abbrev main_v472 : Ref sig .tc := ⟨.hbm, 612, rfl⟩
abbrev main_v473 : Ref sig .tc := ⟨.hbm, 613, rfl⟩
abbrev main_cst_51 : Ref sig .tc := ⟨.hbm, 614, rfl⟩
abbrev main_call17_cst : Ref sig .tc := ⟨.hbm, 615, rfl⟩
abbrev main_call17_v0 : Ref sig .tc := ⟨.hbm, 616, rfl⟩
abbrev main_call17_v1 : Ref sig .tc := ⟨.hbm, 617, rfl⟩
abbrev main_call17_v2 : Ref sig .tc := ⟨.hbm, 618, rfl⟩
abbrev main_call17_v3 : Ref sig .tc := ⟨.hbm, 619, rfl⟩
abbrev main_call17_v4 : Ref sig .tc := ⟨.hbm, 620, rfl⟩
abbrev main_v474 : Ref sig .tc := ⟨.hbm, 621, rfl⟩
abbrev main_v475 : Ref sig .tc := ⟨.hbm, 622, rfl⟩
abbrev main_cst_52 : Ref sig .tc := ⟨.hbm, 623, rfl⟩
abbrev main_v476 : Ref sig .tc := ⟨.hbm, 624, rfl⟩
abbrev main_v477 : Ref sig .tc := ⟨.hbm, 625, rfl⟩
abbrev main_cst_53 : Ref sig .tc := ⟨.hbm, 626, rfl⟩
abbrev main_v478 : Ref sig .tc := ⟨.hbm, 627, rfl⟩
abbrev main_v479 : Ref sig .tc := ⟨.hbm, 628, rfl⟩
abbrev main_v480 : Ref sig .tc := ⟨.hbm, 629, rfl⟩
abbrev main_v481 : Ref sig .tc := ⟨.hbm, 630, rfl⟩
abbrev main_v482 : Ref sig .tc := ⟨.hbm, 631, rfl⟩
abbrev main_v483 : Ref sig .tc := ⟨.hbm, 632, rfl⟩

abbrev nD : Nat := 1
abbrev τ : Topo := Topo.v7x

variable {F : FTy → Type} [FloatOps F]
-- ==== Proof.Model.lean ====
/-
The computation as functions on plain index types over the extended reals: what one protein block's forward pass is,
with no array layout in it. Kernel and reference are both shown to compute these functions.
-/
module

public import Idealize.ShloMosaic.Lib.Pointwise

@[expose] public section

noncomputable section

namespace Cert.Model

open Idealize.ShloMosaic

/-! ## The constants both programs write -/

/-- The number added to a length before dividing by it. -/
def epsLen : EReal := Ideal.ofBits .f32 0x358637BD#32
/-- The number added to a squared distance before the root. -/
def epsSq : EReal := Ideal.ofBits .f32 0x322BCC77#32
/-- The noise's factor. -/
def three : EReal := Ideal.ofBits .f32 0x40400000#32
/-- The width of a bump. -/
def width : EReal := Ideal.ofBits .f32 0x3FA00000#32
/-- The slope below zero. -/
def slope : EReal := Ideal.ofBits .f32 0x3C23D70A#32

/-! ## Frames -/

/-- Length of a vector. -/
def len (v : Fin 3 → EReal) : EReal := Ideal.sqrt (v 0 * v 0 + v 1 * v 1 + v 2 * v 2)

/-- A vector over its length plus a small number. -/
def unit (v : Fin 3 → EReal) (c : Fin 3) : EReal := Ideal.div (v c) (len v + epsLen)

/-- The cross product. -/
def cross (a b : Fin 3 → EReal) : Fin 3 → EReal :=
  ![a 1 * b 2 - a 2 * b 1, a 2 * b 0 - a 0 * b 2, a 0 * b 1 - a 1 * b 0]

/-- The unit step from residue `n` to the next. -/
def step (p : Fin 4096 → Fin 3 → EReal) (n : Fin 4095) : Fin 3 → EReal :=
  unit fun c => p ⟨n.val + 1, by omega⟩ c - p ⟨n.val, by omega⟩ c

/-- The step into residue `n` (the first residue takes the step out of it). -/
def into (p : Fin 4096 → Fin 3 → EReal) (n : Fin 4096) : Fin 3 → EReal := step p ⟨n.val - 1, by omega⟩

/-- The step out of residue `n` (the last residue takes the step into it). -/
def out (p : Fin 4096 → Fin 3 → EReal) (n : Fin 4096) : Fin 3 → EReal := step p ⟨min n.val 4094, by omega⟩

/-- The three axes of residue `n`. -/
def axis (p : Fin 4096 → Fin 3 → EReal) (n : Fin 4096) : Fin 3 → Fin 3 → EReal :=
  ![unit fun c => into p n c - out p n c, unit (cross (into p n) (out p n)),
    cross (unit fun c => into p n c - out p n c) (unit (cross (into p n) (out p n)))]

/-! ## One block: `P` its positions, `T` its axes -/

section Block
variable (P : Fin 512 → Fin 3 → EReal) (T : Fin 512 → Fin 3 → Fin 3 → EReal)

/-- How near residue `j` is to residue `r`. -/
def near (noise : Fin 512 → Fin 512 → EReal) (r j : Fin 512) : EReal :=
  -Ideal.sqrt ((∑ c, (P r c - P j c) * (P r c - P j c)) + epsSq) + three * noise r j

variable (idx : Fin 512 → Fin 15 → Fin 512)

/-- The vector from residue `r` to residue `j`. -/
def toward (r j : Fin 512) (c : Fin 3) : EReal := P j c - P r c

/-- The distance from residue `r` to residue `j`. -/
def far (r j : Fin 512) : EReal := Ideal.sqrt ((∑ c, toward P r j c * toward P r j c) + epsSq)

/-- The `m`-th bump's offset. -/
def offset (r j : Fin 512) (m : Fin 16) : EReal := Ideal.div (far P r j - ((4 / 3 * (m.val : ℝ) : ℝ) : EReal)) width

/-- One entry of the relative rotation. -/
def turn (r j : Fin 512) (a b : Fin 3) : EReal := ∑ v, T r v a * T j v b

/-- How far apart the residues are in the sequence. -/
def hop (r j : Fin 512) : EReal := ((((j.val : ℝ) - (r.val : ℝ)) / 512 : ℝ) : EReal)

/-- The twenty-nine features of a pair. -/
def feat (r j : Fin 512) (c : Fin 29) : EReal :=
  if h : c.val < 3 then Ideal.div (toward P r j ⟨c.val, h⟩) (far P r j + epsLen)
  else if h : c.val < 19 then Ideal.exp (-(offset P r j ⟨c.val - 3, by omega⟩ * offset P r j ⟨c.val - 3, by omega⟩))
  else if h : c.val < 28 then turn T r j ⟨(c.val - 19) / 3, by omega⟩ ⟨(c.val - 19) % 3, by omega⟩
  else hop r j

end Block

/-! ## One attention layer -/

/-- A row times a matrix. -/
def lin {K N : ℕ} (a : Fin K → EReal) (w : Fin K → Fin N → EReal) (n : Fin N) : EReal := ∑ k, a k * w k n

/-- The weights of a layer. -/
structure Weights where
  q : Fin 128 → Fin 128 → EReal
  k : Fin 157 → Fin 128 → EReal
  v : Fin 157 → Fin 128 → EReal
  o : Fin 128 → Fin 128 → EReal
  m1 : Fin 128 → Fin 512 → EReal
  b1 : Fin 512 → EReal
  m2 : Fin 512 → Fin 512 → EReal
  b2 : Fin 512 → EReal
  m3 : Fin 512 → Fin 128 → EReal
  b3 : Fin 128 → EReal

section Layer
variable (ft : Fin 512 → Fin 15 → Fin 29 → EReal) (idx : Fin 512 → Fin 15 → Fin 512) (W : Weights)
variable (x : Fin 512 → Fin 128 → EReal)

/-- A linear map of the message of a pair: the neighbour's row, then the features. -/
def msg (w : Fin 157 → Fin 128 → EReal) (r : Fin 512) (k : Fin 15) (f : Fin 128) : EReal :=
  (∑ c : Fin 128, x (idx r k) c * w ⟨c.val, by omega⟩ f) + ∑ c : Fin 29, ft r k c * w ⟨128 + c.val, by omega⟩ f

/-- Feature `d` of head `h`. -/
def at_ (h : Fin 8) (d : Fin 16) : Fin 128 := ⟨16 * h.val + d.val, by omega⟩

/-- The head a feature belongs to. -/
def headOf (f : Fin 128) : Fin 8 := ⟨f.val / 16, by omega⟩

/-- The score of neighbour `k` for head `h`. -/
def score (r : Fin 512) (h : Fin 8) (k : Fin 15) : EReal :=
  Ideal.div (∑ d, lin (x r) W.q (at_ h d) * msg ft idx x W.k r k (at_ h d)) ((4 : ℝ) : EReal)

/-- The largest of fifteen numbers. -/
def top (s : Fin 15 → EReal) : EReal := Finset.univ.sup s

/-- The exponentials. -/
def ex (s : Fin 15 → EReal) (k : Fin 15) : EReal := Ideal.exp (s k - top s)

/-- The shares. -/
def share (s : Fin 15 → EReal) (k : Fin 15) : EReal := Ideal.div (ex s k) (∑ j, ex s j)

/-- What a residue gathers from its neighbours. -/
def attn (r : Fin 512) (f : Fin 128) : EReal :=
  ∑ k, share (score ft idx W x r (headOf f)) k * msg ft idx x W.v r k f

/-- The row after attention. -/
def mid (r : Fin 512) (f : Fin 128) : EReal := x r f + lin (attn ft idx W x r) W.o f

/-- The first hidden row. -/
def hid1 (r : Fin 512) (f : Fin 512) : EReal := max (lin (mid ft idx W x r) W.m1 f + W.b1 f) 0

/-- The second hidden row. -/
def hid2 (r : Fin 512) (f : Fin 512) : EReal := max (lin (hid1 ft idx W x r) W.m2 f + W.b2 f) 0

/-- The row after the layer. -/
def layer (r : Fin 512) (f : Fin 128) : EReal := mid ft idx W x r f + lin (hid2 ft idx W x r) W.m3 f + W.b3 f

end Layer

/-! ## One convolution stage -/

section Conv
variable {n : ℕ} (w : Fin 3 → Fin 128 → Fin 128 → EReal) (b : Fin 128 → EReal) (t : Fin n → Fin 128 → EReal)

/-- The rows with a zero row before and after. -/
def padded (i : ℕ) (c : Fin 128) : EReal := if h : 0 < i ∧ i ≤ n then t ⟨i - 1, by omega⟩ c else 0

/-- The convolution. -/
def conv (r : Fin n) (o : Fin 128) : EReal :=
  (lin (padded t r.val) (w 0) o + lin (padded t (r.val + 1)) (w 1) o + lin (padded t (r.val + 2)) (w 2) o) + b o

/-- A number, or a small multiple of it below zero. -/
def leaky (c : EReal) : EReal := if 0 ≤ c then c else slope * c

/-- The rows with the convolution added. -/
def bent (r : Fin n) (o : Fin 128) : EReal := t r o + leaky (conv w b t r o)

/-- The larger of two neighbouring rows. -/
def stage (m : ℕ) (h : n = 2 * m) (r : Fin m) (o : Fin 128) : EReal :=
  max (bent w b t ⟨2 * r.val, by omega⟩ o) (bent w b t ⟨2 * r.val + 1, by omega⟩ o)

end Conv

/-- The head's number. -/
def head (t : Fin 32 → Fin 128 → EReal) (w : Fin 128 → EReal) (b : EReal) : EReal := (∑ c, (∑ r, t r c) * w c) + b

end Cert.Model
-- ==== Proof.Whole.lean ====
/-
The whole computation of one protein, from the parts of the model.
-/
module

public import proofs.«01_k».proof.Proof.Model

@[expose] public section

noncomputable section

namespace Cert.Model

/-- The rows after the three layers. -/
def three_layers (ft : Fin 512 → Fin 15 → Fin 29 → EReal) (idx : Fin 512 → Fin 15 → Fin 512) (W : Fin 3 → Weights) (x : Fin 512 → Fin 128 → EReal) :
    Fin 512 → Fin 128 → EReal :=
  layer ft idx (W 2) (layer ft idx (W 1) (layer ft idx (W 0) x))

/-- The rows after the four convolution stages. -/
def four_stages (w : Fin 4 → Fin 3 → Fin 128 → Fin 128 → EReal) (b : Fin 4 → Fin 128 → EReal) (t : Fin 512 → Fin 128 → EReal) :
    Fin 32 → Fin 128 → EReal :=
  stage (w 3) (b 3) (stage (w 2) (b 2) (stage (w 1) (b 1) (stage (w 0) (b 0) t 256 rfl) 128 rfl) 64 rfl) 32 rfl

/-- The number of a protein: `P` its positions, `T` its axes, `idx` its residues' neighbours, `s` the row every residue
    starts from. -/
def answer (P : Fin 512 → Fin 3 → EReal) (T : Fin 512 → Fin 3 → Fin 3 → EReal) (idx : Fin 512 → Fin 15 → Fin 512) (s : Fin 128 → EReal)
    (W : Fin 3 → Weights) (w : Fin 4 → Fin 3 → Fin 128 → Fin 128 → EReal) (b : Fin 4 → Fin 128 → EReal) (hw : Fin 128 → EReal) (hb : EReal) : EReal :=
  head (four_stages w b (three_layers (fun r k => feat P T r (idx r k)) idx W fun _ => s)) hw hb

end Cert.Model
-- ==== Proof.Finite.lean ====
/-
Where the computation stays among the real numbers: from real positions, noise and weights, every closeness, feature,
score and row is a real number, and no sum of exponentials is zero.
-/
module

public import proofs.«01_k».proof.Proof.Whole

@[expose] public section

noncomputable section

namespace Cert.Model

open Idealize.ShloMosaic

/-- A real number, neither infinity. -/
def IsReal (x : EReal) : Prop := ∃ r : ℝ, x = (r : EReal)

/-- A real number is real. -/
theorem IsReal.coe (r : ℝ) : IsReal (r : EReal) := ⟨r, rfl⟩
/-- Zero is real. -/
theorem IsReal.zero : IsReal 0 := ⟨0, rfl⟩
/-- A sum of two reals is real. -/
theorem IsReal.add {x y : EReal} : IsReal x → IsReal y → IsReal (x + y) := by
  rintro ⟨a, rfl⟩ ⟨b, rfl⟩
  exact ⟨a + b, (EReal.coe_add a b).symm⟩
/-- A difference of reals is real. -/
theorem IsReal.sub {x y : EReal} : IsReal x → IsReal y → IsReal (x - y) := by
  rintro ⟨a, rfl⟩ ⟨b, rfl⟩
  exact ⟨a - b, (EReal.coe_sub a b).symm⟩
/-- A product of reals is real. -/
theorem IsReal.mul {x y : EReal} : IsReal x → IsReal y → IsReal (x * y) := by
  rintro ⟨a, rfl⟩ ⟨b, rfl⟩
  exact ⟨a * b, (EReal.coe_mul a b).symm⟩
/-- The negative of a real is real. -/
theorem IsReal.neg {x : EReal} : IsReal x → IsReal (-x) := by
  rintro ⟨a, rfl⟩
  exact ⟨-a, (EReal.coe_neg a).symm⟩
/-- The larger of two reals is real. -/
theorem IsReal.max {x y : EReal} (hx : IsReal x) (hy : IsReal y) : IsReal (max x y) := by
  rcases max_choice x y with h | h <;> rw [h] <;> assumption
/-- A finite sum of reals is real. -/
theorem IsReal.sum {ι : Type} (s : Finset ι) {f : ι → EReal} (h : ∀ i, IsReal (f i)) : IsReal (∑ i ∈ s, f i) :=
  Finset.sum_induction f IsReal (fun _ _ => IsReal.add) IsReal.zero fun i _ => h i
/-- The exponential of a real is real. -/
theorem IsReal.exp {x : EReal} : IsReal x → IsReal (Ideal.exp x) := by
  rintro ⟨a, rfl⟩
  exact ⟨Real.exp a, rfl⟩
/-- A quotient of reals is real when the divisor is not zero. -/
theorem IsReal.div {x y : EReal} (hx : IsReal x) (hy : IsReal y) (h : y ≠ 0) : IsReal (Ideal.div x y) := by
  obtain ⟨b, rfl⟩ := hy
  rw [Ideal.div_coe (fun g => h (by rw [g]; rfl))]
  exact hx.mul (IsReal.coe _)

/-- The root of a real number that is not negative is one. -/
theorem sqrt_real {x : EReal} (hx : IsReal x) (h : 0 ≤ x) : ∃ r : ℝ, 0 ≤ r ∧ Ideal.sqrt x = (r : EReal) := by
  obtain ⟨a, rfl⟩ := hx
  have ha : 0 ≤ a := EReal.coe_nonneg.1 h
  refine ⟨Real.sqrt a, Real.sqrt_nonneg a, ?_⟩
  show (if a < 0 then (⊥ : EReal) else (Real.sqrt a : EReal)) = _
  rw [if_neg (not_lt.2 ha)]

/-- The square of a real is not negative. -/
theorem IsReal.mul_self_nonneg {x : EReal} : IsReal x → 0 ≤ x * x := by
  rintro ⟨a, rfl⟩
  rw [← EReal.coe_mul]
  exact EReal.coe_nonneg.2 (_root_.mul_self_nonneg a)

/-- The number added to a length, as a fraction. -/
theorem epsLen_eq : epsLen = ((8796093 / 8796093022208 : ℝ) : EReal) := by
  simp [epsLen, Ideal.ofBits, Ideal.ieee, -EReal.coe_mul]; norm_num
/-- The number added to a squared distance, as a fraction. -/
theorem epsSq_eq : epsSq = ((11258999 / 1125899906842624 : ℝ) : EReal) := by
  simp [epsSq, Ideal.ofBits, Ideal.ieee, -EReal.coe_mul]; norm_num
/-- The noise's factor is three. -/
theorem three_eq : three = ((3 : ℝ) : EReal) := by
  simp [three, Ideal.ofBits, Ideal.ieee, -EReal.coe_mul]; norm_num
/-- The width of a bump is 5/4. -/
theorem width_eq : width = ((5 / 4 : ℝ) : EReal) := by
  simp [width, Ideal.ofBits, Ideal.ieee, -EReal.coe_mul]; norm_num

/-- The number added to a squared distance is not negative. -/
theorem epsSq_nonneg : 0 ≤ epsSq := by
  rw [epsSq_eq]
  exact EReal.coe_nonneg.2 (by norm_num)

/-- A length plus the small number is a positive real number. -/
theorem past_eps {x : EReal} (h : ∃ r : ℝ, 0 ≤ r ∧ x = (r : EReal)) : IsReal (x + epsLen) ∧ x + epsLen ≠ 0 := by
  obtain ⟨r, hr, rfl⟩ := h
  rw [epsLen_eq, ← EReal.coe_add]
  exact ⟨IsReal.coe _, fun g => by have := EReal.coe_eq_zero.1 g; linarith [show (0 : ℝ) < 8796093 / 8796093022208 by norm_num]⟩

/-! ## Frames -/

/-- The length of a real vector is real and not negative. -/
theorem len_real {v : Fin 3 → EReal} (h : ∀ c, IsReal (v c)) : ∃ r : ℝ, 0 ≤ r ∧ len v = (r : EReal) :=
  sqrt_real ((((h 0).mul (h 0)).add ((h 1).mul (h 1))).add ((h 2).mul (h 2)))
    (add_nonneg (add_nonneg (h 0).mul_self_nonneg (h 1).mul_self_nonneg) (h 2).mul_self_nonneg)

/-- The unit vector of a real vector is real. -/
theorem unit_real {v : Fin 3 → EReal} (h : ∀ c, IsReal (v c)) (c : Fin 3) : IsReal (unit v c) :=
  (h c).div (past_eps (len_real h)).1 (past_eps (len_real h)).2

/-- The cross product of real vectors is real. -/
theorem cross_real {a b : Fin 3 → EReal} (ha : ∀ c, IsReal (a c)) (hb : ∀ c, IsReal (b c)) (c : Fin 3) : IsReal (cross a b c) := by
  fin_cases c
  · exact ((ha 1).mul (hb 2)).sub ((ha 2).mul (hb 1))
  · exact ((ha 2).mul (hb 0)).sub ((ha 0).mul (hb 2))
  · exact ((ha 0).mul (hb 1)).sub ((ha 1).mul (hb 0))

/-- Steps between real places are real. -/
theorem step_real {p : Fin 4096 → Fin 3 → EReal} (h : ∀ n c, IsReal (p n c)) (n : Fin 4095) (c : Fin 3) : IsReal (step p n c) :=
  unit_real (fun c => (h _ c).sub (h _ c)) c

/-- Axes from real places are real. -/
theorem axis_real {p : Fin 4096 → Fin 3 → EReal} (h : ∀ n c, IsReal (p n c)) (n : Fin 4096) (v c : Fin 3) : IsReal (axis p n v c) := by
  have hi : ∀ c, IsReal (into p n c) := fun c => step_real h _ c
  have ho : ∀ c, IsReal (out p n c) := fun c => step_real h _ c
  have hd : ∀ c, IsReal (unit (fun c => into p n c - out p n c) c) := unit_real fun c => (hi c).sub (ho c)
  have hn : ∀ c, IsReal (unit (cross (into p n) (out p n)) c) := unit_real (cross_real hi ho)
  fin_cases v
  · exact hd c
  · exact hn c
  · exact cross_real hd hn c

/-! ## Pairs -/

section Pairs
variable {P : Fin 512 → Fin 3 → EReal} (hP : ∀ r c, IsReal (P r c))
include hP

/-- Closeness of real places is above −∞ where the noise is. -/
theorem near_above {noise : Fin 512 → Fin 512 → EReal} (hn : ∀ r j, ⊥ < noise r j) (r j : Fin 512) : ⊥ < near P noise r j := by
  have h : ∀ c, IsReal (P r c - P j c) := fun c => (hP r c).sub (hP j c)
  obtain ⟨a, -, e⟩ := sqrt_real ((IsReal.sum Finset.univ fun c => (h c).mul (h c)).add (epsSq_eq ▸ IsReal.coe _))
    (add_nonneg (Finset.sum_nonneg fun c _ => (h c).mul_self_nonneg) epsSq_nonneg)
  unfold near
  rw [e, three_eq]
  generalize hv : noise r j = v
  have hb : ⊥ < v := hv ▸ hn r j
  induction v with
  | bot => exact absurd hb (lt_irrefl _)
  | top =>
    rw [EReal.coe_mul_top_of_pos (by norm_num), ← EReal.coe_neg, EReal.coe_add_top]
    exact bot_lt_top
  | coe v =>
    rw [← EReal.coe_neg, ← EReal.coe_mul, ← EReal.coe_add]
    exact EReal.bot_lt_coe _

/-- The vector between real places is real. -/
theorem toward_real (r j : Fin 512) (c : Fin 3) : IsReal (toward P r j c) := (hP j c).sub (hP r c)

/-- The distance between real places is real and not negative. -/
theorem far_real (r j : Fin 512) : ∃ a : ℝ, 0 ≤ a ∧ far P r j = (a : EReal) :=
  sqrt_real ((IsReal.sum Finset.univ fun c => (toward_real hP r j c).mul (toward_real hP r j c)).add (epsSq_eq ▸ IsReal.coe _))
    (add_nonneg (Finset.sum_nonneg fun c _ => (toward_real hP r j c).mul_self_nonneg) epsSq_nonneg)

/-- The features of a pair are real. -/
theorem feat_real {T : Fin 512 → Fin 3 → Fin 3 → EReal} (hT : ∀ r v a, IsReal (T r v a)) (r j : Fin 512) (c : Fin 29) : IsReal (feat P T r j c) := by
  have hfar : IsReal (far P r j) := by
    obtain ⟨a, -, e⟩ := far_real hP r j
    exact ⟨a, e⟩
  unfold feat
  by_cases h3 : c.val < 3
  · rw [dif_pos h3]
    exact (toward_real hP r j _).div (past_eps (far_real hP r j)).1 (past_eps (far_real hP r j)).2
  rw [dif_neg h3]
  by_cases h19 : c.val < 19
  · rw [dif_pos h19]
    have ho : ∀ m, IsReal (offset P r j m) := fun m =>
      (hfar.sub (IsReal.coe _)).div (width_eq ▸ IsReal.coe _) (by rw [width_eq]; exact fun g => by have := EReal.coe_eq_zero.1 g; norm_num at this)
    exact ((ho _).mul (ho _)).neg.exp
  rw [dif_neg h19]
  by_cases h28 : c.val < 28
  · rw [dif_pos h28]
    exact IsReal.sum Finset.univ fun v => (hT r v _).mul (hT j v _)
  · rw [dif_neg h28]
    exact IsReal.coe _

end Pairs

/-! ## A layer -/

/-- Weights whose score part is real numbers. -/
structure Weights.Scored (W : Weights) : Prop where
  q : ∀ c f, IsReal (W.q c f)
  k : ∀ c f, IsReal (W.k c f)

/-- Weights that are real numbers. -/
structure Weights.AllReal (W : Weights) : Prop extends W.Scored where
  v : ∀ c f, IsReal (W.v c f)
  o : ∀ c f, IsReal (W.o c f)
  m1 : ∀ c f, IsReal (W.m1 c f)
  b1 : ∀ f, IsReal (W.b1 f)
  m2 : ∀ c f, IsReal (W.m2 c f)
  b2 : ∀ f, IsReal (W.b2 f)
  m3 : ∀ c f, IsReal (W.m3 c f)
  b3 : ∀ f, IsReal (W.b3 f)

/-- A real row times a real matrix is real. -/
theorem lin_real {K N : ℕ} {a : Fin K → EReal} {w : Fin K → Fin N → EReal} (ha : ∀ k, IsReal (a k)) (hw : ∀ k n, IsReal (w k n)) (n : Fin N) :
    IsReal (lin a w n) :=
  IsReal.sum Finset.univ fun k => (ha k).mul (hw k n)

/-- The largest of fifteen reals is real. -/
theorem top_real {s : Fin 15 → EReal} (h : ∀ k, IsReal (s k)) : IsReal (top s) := by
  obtain ⟨k, -, e⟩ := Finset.exists_mem_eq_sup Finset.univ ⟨0, Finset.mem_univ 0⟩ s
  unfold top
  rw [e]
  exact h k

/-- The exponentials of real scores are real and positive. -/
theorem ex_pos {s : Fin 15 → EReal} (h : ∀ k, IsReal (s k)) (k : Fin 15) : ∃ r : ℝ, 0 < r ∧ ex s k = (r : EReal) := by
  obtain ⟨a, e⟩ := (h k).sub (top_real h)
  refine ⟨Real.exp a, Real.exp_pos a, ?_⟩
  unfold ex
  rw [e]
  rfl

/-- A sum of exponentials of real numbers is not zero. -/
theorem sum_ex_ne {s : Fin 15 → EReal} (h : ∀ k, IsReal (s k)) : ∑ k, ex s k ≠ 0 := by
  have hp : ∀ k, 0 ≤ ex s k := fun k => by
    obtain ⟨r, hr, e⟩ := ex_pos h k
    rw [e]
    exact EReal.coe_nonneg.2 hr.le
  intro g
  have h0 := (Finset.sum_eq_zero_iff_of_nonneg fun k _ => hp k).1 g 0 (Finset.mem_univ 0)
  obtain ⟨r, hr, e⟩ := ex_pos h 0
  rw [e] at h0
  exact hr.ne' (EReal.coe_eq_zero.1 h0)

section Layer
variable {ft : Fin 512 → Fin 15 → Fin 29 → EReal} {idx : Fin 512 → Fin 15 → Fin 512} {W : Weights} {x : Fin 512 → Fin 128 → EReal}
variable (hf : ∀ r k c, IsReal (ft r k c)) (hx : ∀ r c, IsReal (x r c))
include hf hx

/-- Mapped messages are real. -/
theorem msg_real {w : Fin 157 → Fin 128 → EReal} (hw : ∀ c f, IsReal (w c f)) (r : Fin 512) (k : Fin 15) (f : Fin 128) : IsReal (msg ft idx x w r k f) :=
  (IsReal.sum Finset.univ fun c => (hx _ c).mul (hw _ f)).add (IsReal.sum Finset.univ fun c => (hf r k c).mul (hw _ f))

/-- Scores are real. -/
theorem score_real (hW : W.Scored) (r : Fin 512) (h : Fin 8) (k : Fin 15) : IsReal (score ft idx W x r h k) :=
  (IsReal.sum Finset.univ fun d => (lin_real (hx r) hW.q _).mul (msg_real hf hx hW.k r k _)).div (IsReal.coe 4)
    (fun g => by have := EReal.coe_eq_zero.1 g; norm_num at this)

/-- Shares are real. -/
theorem share_real (hW : W.Scored) (r : Fin 512) (h : Fin 8) (k : Fin 15) : IsReal (share (score ft idx W x r h) k) := by
  have he : ∀ k, IsReal (ex (score ft idx W x r h) k) := fun k => by
    obtain ⟨a, -, e⟩ := ex_pos (score_real hf hx hW r h) k
    exact ⟨a, e⟩
  exact (he k).div (IsReal.sum Finset.univ he) (sum_ex_ne (score_real hf hx hW r h))

/-- Rows after attention are real. -/
theorem mid_real (hW : W.AllReal) (r : Fin 512) (f : Fin 128) : IsReal (mid ft idx W x r f) :=
  (hx r f).add (lin_real (fun f => IsReal.sum Finset.univ fun k => (share_real hf hx hW.toScored r _ k).mul (msg_real hf hx hW.v r k f)) hW.o f)

/-- Rows after a layer are real. -/
theorem layer_real (hW : W.AllReal) (r : Fin 512) (f : Fin 128) : IsReal (layer ft idx W x r f) := by
  have h1 : ∀ f, IsReal (hid1 ft idx W x r f) := fun f => ((lin_real (mid_real hf hx hW r) hW.m1 f).add (hW.b1 f)).max IsReal.zero
  have h2 : ∀ f, IsReal (hid2 ft idx W x r f) := fun f => ((lin_real h1 hW.m2 f).add (hW.b2 f)).max IsReal.zero
  exact ((mid_real hf hx hW r f).add (lin_real h2 hW.m3 f)).add (hW.b3 f)

end Layer

end Cert.Model
-- ==== Proof.Block.lean ====
/-
The kernel's body as functions of whole vectors, one per step of the computation: the frames of the residues, the
distances, the rounds that pick the nearest neighbours, the features of a pair, one attention layer, one
convolution stage, and the head. Nothing is proved about their values here; they only name the steps.
-/
module

public import proofs.«01_k».proof.KernelIdeal

@[expose] public section

set_option maxRecDepth 16384

noncomputable section

namespace Cert.KernelIdeal.Block

open Cert.KernelIdeal Idealize.ShloMosaic
open Facts₀ Facts

variable {F : FTy → Type} [FloatOps F] [Named F] [Facts]

/-- A product of two matrices, started from zeros. -/
def mm {M K N : ℕ} (a : FVec F ⟨2, ![M, K]⟩ .f32) (w : FVec F ⟨2, ![K, N]⟩ .f32) : FVec F ⟨2, ![M, N]⟩ .f32 :=
  matmul (DotDims.plain M K N) none a w (constant ⟨2, ![M, N]⟩ .f32 0x00000000#32)

/-! ## The residues' frames -/

/-- One row of a three-row array. -/
def row0 (v : FVec F S3x4096 .f32) : FVec F S1x4096 .f32 := extractStridedSlice S1x4096 ![0, 0] v slices_S3x4096_o0_0_S1x4096
/-- The second row. -/
def row1 (v : FVec F S3x4096 .f32) : FVec F S1x4096 .f32 := extractStridedSlice S1x4096 ![1, 0] v slices_S3x4096_o1_0_S1x4096
/-- The third row. -/
def row2 (v : FVec F S3x4096 .f32) : FVec F S1x4096 .f32 := extractStridedSlice S1x4096 ![2, 0] v slices_S3x4096_o2_0_S1x4096

/-- Every column divided by its length plus a small number. -/
def unit3 (v : FVec F S3x4096 .f32) : FVec F S3x4096 .f32 :=
  divf v (broadcastTo S3x4096 (addf (sqrt (addf (addf (mulf (row0 v) (row0 v)) (mulf (row1 v) (row1 v))) (mulf (row2 v) (row2 v))))
    (broadcast S1x4096 (Scalar.ofBits .f32 0x358637BD#32))) broadcasts_S1x4096_S3x4096)

/-- The cross product, column by column. -/
def cross3 (a b : FVec F S3x4096 .f32) : FVec F S3x4096 .f32 :=
  concatenate S3x4096 0
    [⟨S1x4096, subf (mulf (row1 a) (row2 b)) (mulf (row2 a) (row1 b))⟩,
     ⟨S1x4096, subf (mulf (row2 a) (row0 b)) (mulf (row0 a) (row2 b))⟩,
     ⟨S1x4096, subf (mulf (row0 a) (row1 b)) (mulf (row1 a) (row0 b))⟩]
    concatenates_S1x4096_S1x4096_S1x4096_S3x4096_d0

/-- The unit step from each residue to the next one (the last residue's is zero over the small number). -/
def heading (p : FVec F S3x4096 .f32) : FVec F S3x4096 .f32 :=
  unit3 (subf (concatenate S3x4096 1
    [⟨S3x4095, extractStridedSlice S3x4095 ![0, 1] p slices_S3x4096_o0_1_S3x4095⟩,
     ⟨S3x1, extractStridedSlice S3x1 ![0, 4095] p slices_S3x4096_o0_4095_S3x1⟩] concatenates_S3x4095_S3x1_S3x4096_d1) p)

/-- The step that leads to each residue. -/
def before (d : FVec F S3x4096 .f32) : FVec F S3x4096 .f32 :=
  concatenate S3x4096 1
    [⟨S3x1, extractStridedSlice S3x1 ![0, 0] d slices_S3x4096_o0_0_S3x1⟩,
     ⟨S3x4095, extractStridedSlice S3x4095 ![0, 0] d slices_S3x4096_o0_0_S3x4095⟩] concatenates_S3x1_S3x4095_S3x4096_d1

/-- The step that leaves each residue. -/
def after (d : FVec F S3x4096 .f32) : FVec F S3x4096 .f32 :=
  concatenate S3x4096 1
    [⟨S3x4095, extractStridedSlice S3x4095 ![0, 0] d slices_S3x4096_o0_0_S3x4095⟩,
     ⟨S3x1, extractStridedSlice S3x1 ![0, 4094] d slices_S3x4096_o0_4094_S3x1⟩] concatenates_S3x4095_S3x1_S3x4096_d1

/-- First axis of the frame. -/
def axisB (d : FVec F S3x4096 .f32) : FVec F S3x4096 .f32 := unit3 (subf (before d) (after d))
/-- Second axis of the frame. -/
def axisN (d : FVec F S3x4096 .f32) : FVec F S3x4096 .f32 := unit3 (cross3 (before d) (after d))
/-- Third axis of the frame. -/
def axisC (d : FVec F S3x4096 .f32) : FVec F S3x4096 .f32 := cross3 (axisB d) (axisN d)

/-! ## Distances and the picks -/

/-- The column number of each entry. -/
def lane : IVec S512x512 32 := iota .tc S512x512 32 [1] iota_S512x512_d1_w32

/-- A truth value as the number 0 or 1. -/
def asNum {s : Shape} (c : IVec s 1) : FVec F s .f32 := sitofp .f32 (extui 32 c natLt_1_32)

/-- The block's frames as rows: the block's columns, turned by a product with the unit matrix. -/
def frames (st : FVec F S12x512 .f32) : FVec F S512x12 .f32 :=
  matmul (DotDims.transposedRhs 512 512 12) none (asNum (cmpi .eq (iota .tc S512x512 32 [0] iota_S512x512_d0_w32) lane)) st
    (constant S512x12 .f32 0x00000000#32)

/-- A column can be cut from the frames. -/
theorem slices_col (c : ℕ) : S512x12.Slices ![0, c % 12] S512x1 :=
  ⟨rfl, fun a => match a with | ⟨0, _⟩ => by simp | ⟨1, _⟩ => by have := Nat.mod_lt c (show 0 < 12 by norm_num); simp; omega⟩

/-- Column `c` of the frames. -/
def col (c : ℕ) (s : FVec F S512x12 .f32) : FVec F S512x1 .f32 := extractStridedSlice S512x1 ![0, c % 12] s (slices_col c)

/-- The differences of one coordinate, squared. -/
def gap (s : FVec F S512x1 .f32) (t : FVec F S1x512 .f32) : FVec F S512x512 .f32 :=
  mulf (subf (broadcastTo S512x512 s broadcasts_S512x1_S512x512) (broadcastTo S512x512 t broadcasts_S1x512_S512x512))
    (subf (broadcastTo S512x512 s broadcasts_S512x1_S512x512) (broadcastTo S512x512 t broadcasts_S1x512_S512x512))

/-- How near each pair is: minus the distance, plus three times the noise. -/
def closeness (st : FVec F S12x512 .f32) (noise : FVec F S512x512 .f32) : FVec F S512x512 .f32 :=
  addf (subf (broadcast S512x512 (Scalar.ofBits .f32 0x00000000#32)) (sqrt (addf (addf (addf (addf (broadcast S512x512 (Scalar.ofBits .f32 0x00000000#32))
      (gap (extractStridedSlice S512x1 ![0, 0] (frames st) slices_S512x12_o0_0_S512x1)
        (extractStridedSlice S1x512 ![0, 0] (extractStridedSlice S3x512 ![0, 0] st slices_S12x512_o0_0_S3x512) slices_S3x512_o0_0_S1x512)))
      (gap (extractStridedSlice S512x1 ![0, 1] (frames st) slices_S512x12_o0_1_S512x1)
        (extractStridedSlice S1x512 ![1, 0] (extractStridedSlice S3x512 ![0, 0] st slices_S12x512_o0_0_S3x512) slices_S3x512_o1_0_S1x512)))
      (gap (extractStridedSlice S512x1 ![0, 2] (frames st) slices_S512x12_o0_2_S512x1)
        (extractStridedSlice S1x512 ![2, 0] (extractStridedSlice S3x512 ![0, 0] st slices_S12x512_o0_0_S3x512) slices_S3x512_o2_0_S1x512)))
    (broadcast S512x512 (Scalar.ofBits .f32 0x322BCC77#32)))))
    (mulf (broadcast S512x512 (Scalar.ofBits .f32 0x40400000#32)) noise)

/-- The first column that holds each row's largest entry. -/
def best (w : FVec F S512x512 .f32) : IVec S512x1 32 :=
  shapeCast S512x1 (multiReductionI .minsi [1] S512
    (select (cmpf .oge w (broadcastTo S512x512 (shapeCast S512x1
      (multiReduction .maximumf [1] S512 w 0xFF800000#32 reduces_S512x512_S512 (.inl rfl) rfl) shapeCasts_S512_S512x1) broadcasts_S512x1_S512x512))
      lane (broadcast S512x512 512#32)) 2147483647#32 reduces_S512x512_S512 rfl) shapeCasts_S512_S512x1

/-- Where a column is the picked one. -/
def isPick (p : IVec S512x1 32) : IVec S512x512 1 := cmpi .eq lane (broadcastTo S512x512 p broadcasts_S512x1_S512x512)

/-- What is left to pick from after some rounds. -/
def left (w : FVec F S512x512 .f32) : ℕ → FVec F S512x512 .f32
  | 0 => w
  | k + 1 => select (isPick (best (left w k))) (broadcast S512x512 (Named.named κ "taken" 0xF149F2CA#32)) (left w k)

/-- The pick of round `k`. -/
def pick (w : FVec F S512x512 .f32) (k : ℕ) : IVec S512x1 32 := best (left w k)

/-- The picked column's rows as a matrix of zeros and ones. -/
def hot (p : IVec S512x1 32) : FVec F S512x512 .f32 := asNum (isPick p)

/-! ## The features of a pair -/

/-- The picked residues' frames. -/
def slab (s : FVec F S512x12 .f32) (p : IVec S512x1 32) : FVec F S512x12 .f32 := mm (hot p) s

/-- The vector from each residue to its pick. -/
def rel (s t : FVec F S512x12 .f32) : FVec F S512x3 .f32 :=
  subf (extractStridedSlice S512x3 ![0, 0] t slices_S512x12_o0_0_S512x3) (extractStridedSlice S512x3 ![0, 0] s slices_S512x12_o0_0_S512x3)

/-- The length of the vector. -/
def dist (v : FVec F S512x3 .f32) : FVec F S512x1 .f32 :=
  sqrt (addf (addf (addf
      (mulf (extractStridedSlice S512x1 ![0, 0] v slices_S512x3_o0_0_S512x1) (extractStridedSlice S512x1 ![0, 0] v slices_S512x3_o0_0_S512x1))
      (mulf (extractStridedSlice S512x1 ![0, 1] v slices_S512x3_o0_1_S512x1) (extractStridedSlice S512x1 ![0, 1] v slices_S512x3_o0_1_S512x1)))
      (mulf (extractStridedSlice S512x1 ![0, 2] v slices_S512x3_o0_2_S512x1) (extractStridedSlice S512x1 ![0, 2] v slices_S512x3_o0_2_S512x1)))
    (broadcast S512x1 (Scalar.ofBits .f32 0x322BCC77#32)))

/-- The vector over its length plus a small number. -/
def direction (v : FVec F S512x3 .f32) : FVec F S512x3 .f32 :=
  divf v (broadcastTo S512x3 (addf (dist v) (broadcast S512x1 (Scalar.ofBits .f32 0x358637BD#32))) broadcasts_S512x1_S512x3)

/-- The sixteen centres. -/
def centres : FVec F S512x16 .f32 :=
  mulf (sitofp .f32 (iota .tc S512x16 32 [1] iota_S512x16_d1_w32)) (broadcast S512x16 (Named.named κ "rbf_step" 0x3FAAAAAB#32))

/-- The distance's offset from each centre, in widths. -/
def offset (d : FVec F S512x1 .f32) : FVec F S512x16 .f32 :=
  divf (subf (broadcastTo S512x16 d broadcasts_S512x1_S512x16) centres) (broadcast S512x16 (Scalar.ofBits .f32 0x3FA00000#32))

/-- The sixteen bumps. -/
def bumps (d : FVec F S512x1 .f32) : FVec F S512x16 .f32 :=
  exp (subf (broadcast S512x16 (Scalar.ofBits .f32 0x00000000#32)) (mulf (offset d) (offset d)))

/-- One entry of the relative rotation: column `a` of the residue's frame against column `b` of the pick's. -/
def turn (s t : FVec F S512x12 .f32) (a b : ℕ) : FVec F S512x1 .f32 :=
  addf (addf (addf (broadcast S512x1 (Scalar.ofBits .f32 0x00000000#32)) (mulf (col (3 + a) s) (col (3 + b) t)))
    (mulf (col (6 + a) s) (col (6 + b) t))) (mulf (col (9 + a) s) (col (9 + b) t))

/-- How far the pick is along the sequence. -/
def hop (p : IVec S512x1 32) : FVec F S512x1 .f32 :=
  mulf (subf (sitofp .f32 p) (sitofp .f32 (iota .tc S512x1 32 [0] iota_S512x1_d0_w32))) (broadcast S512x1 (Scalar.ofBits .f32 0x3B000000#32))

/-- The thirty-two feature columns of one round's picks. -/
def feat (s : FVec F S512x12 .f32) (p : IVec S512x1 32) : FVec F S512x32 .f32 :=
  concatenate S512x32 1
    [⟨S512x16, bumps (dist (rel s (slab s p)))⟩, ⟨S512x3, direction (rel s (slab s p))⟩,
     ⟨S512x1, turn s (slab s p) 0 0⟩, ⟨S512x1, turn s (slab s p) 0 1⟩, ⟨S512x1, turn s (slab s p) 0 2⟩,
     ⟨S512x1, turn s (slab s p) 1 0⟩, ⟨S512x1, turn s (slab s p) 1 1⟩, ⟨S512x1, turn s (slab s p) 1 2⟩,
     ⟨S512x1, turn s (slab s p) 2 0⟩, ⟨S512x1, turn s (slab s p) 2 1⟩, ⟨S512x1, turn s (slab s p) 2 2⟩,
     ⟨S512x1, hop p⟩, ⟨S512x3, broadcast S512x3 (Scalar.ofBits .f32 0x00000000#32)⟩]
    concatenates_S512x16_S512x3_S512x1_S512x1_S512x1_S512x1_S512x1_S512x1_S512x1_S512x1_S512x1_S512x1_S512x3_S512x32_d1

/-- Sixteen blocks of 512 rows, one below the other. -/
def stack32 (f : ℕ → FVec F S512x32 .f32) : FVec F S8192x32 .f32 :=
  concatenate S8192x32 0 (List.ofFn fun k : Fin 16 => ⟨S512x32, f k.val⟩)
    concatenates_S512x32_S512x32_S512x32_S512x32_S512x32_S512x32_S512x32_S512x32_S512x32_S512x32_S512x32_S512x32_S512x32_S512x32_S512x32_S512x32_S8192x32_d0

/-- Sixteen blocks of 512 rows, one below the other. -/
def stack128 (f : ℕ → FVec F S512x128 .f32) : FVec F S8192x128 .f32 :=
  concatenate S8192x128 0 (List.ofFn fun k : Fin 16 => ⟨S512x128, f k.val⟩)
    concatenates_S512x128_S512x128_S512x128_S512x128_S512x128_S512x128_S512x128_S512x128_S512x128_S512x128_S512x128_S512x128_S512x128_S512x128_S512x128_S512x128_S8192x128_d0

/-- All rounds' features. -/
def feats (s : FVec F S512x12 .f32) (p : ℕ → IVec S512x1 32) : FVec F S8192x32 .f32 := stack32 fun k => feat s (p k)

/-! ## One attention layer -/

/-- Division by 16 rounded down, as the kernel spells it. -/
def sixteenth {s : Shape} (x : IVec s 32) : IVec s 32 :=
  select (andi (cmpi .ne (subi (extui 32 (cmpi .sgt x (broadcast s 0#32)) natLt_1_32) (extui 32 (cmpi .slt x (broadcast s 0#32)) natLt_1_32))
      (broadcast s (Scalar.subi (Scalar.extui (Scalar.cmpi .sgt 16#32 0#32)) (Scalar.extui (Scalar.cmpi .slt 16#32 0#32)))))
      (cmpi .ne (remsi x (broadcast s 16#32)) (broadcast s 0#32)))
    (subi (divsi x (broadcast s 16#32)) (broadcast s 1#32)) (divsi x (broadcast s 16#32))

/-- Which head a feature belongs to, times a quarter. -/
def headSel : FVec F S128x8 .f32 :=
  mulf (asNum (cmpi .eq (sixteenth (iota .tc S128x8 32 [0] iota_S128x8_d0_w32)) (iota .tc S128x8 32 [1] iota_S128x8_d1_w32)))
    (broadcast S128x8 (Scalar.ofBits .f32 0x3E800000#32))

/-- Which features belong to a head. -/
def spread : FVec F S8x128 .f32 :=
  asNum (cmpi .eq (iota .tc S8x128 32 [0] iota_S8x128_d0_w32) (sixteenth (iota .tc S8x128 32 [1] iota_S8x128_d1_w32)))

/-- The first layer's rows: the sum of the input weights' rows, on every row. -/
def start (w : FVec F S27x128 .f32) : FVec F S512x128 .f32 :=
  broadcastTo S512x128 (shapeCast S1x128 (shapeCast S1x128
    (multiReduction .add [0] S128 w 0x00000000#32 reduces_S27x128_S128 (.inl rfl) rfl) shapeCasts_S128_S1x128) shapeCasts_S1x128_S1x128) broadcasts_S1x128_S512x128

/-- The picked residues' rows, all rounds. -/
def gathered (p : ℕ → IVec S512x1 32) (x : FVec F S512x128 .f32) : FVec F S8192x128 .f32 := stack128 fun k => mm (hot (p k)) x

/-- A linear map of the message: of the picked rows and of the features. -/
def message (rf : FVec F S8192x32 .f32) (p : ℕ → IVec S512x1 32) (x : FVec F S512x128 .f32)
    (wx : FVec F S128x128 .f32) (wr : FVec F S32x128 .f32) : FVec F S8192x128 .f32 :=
  addf (mm (gathered p x) wx) (mm rf wr)

/-- One neighbour's rows can be cut from the stack. -/
theorem slices_part (n : ℕ) (k : ℕ) : (⟨2, ![8192, n]⟩ : Shape).Slices ![512 * (k % 16), 0] ⟨2, ![512, n]⟩ :=
  ⟨rfl, fun a => match a with | ⟨0, _⟩ => by have := Nat.mod_lt k (show 0 < 16 by norm_num); simp; omega | ⟨1, _⟩ => by simp⟩

/-- The rows of round `k`. -/
def part {n : ℕ} (v : FVec F ⟨2, ![8192, n]⟩ .f32) (k : ℕ) : FVec F ⟨2, ![512, n]⟩ .f32 :=
  extractStridedSlice ⟨2, ![512, n]⟩ ![512 * (k % 16), 0] v (slices_part n k)

/-- The scores of all rounds. -/
def scores (q : FVec F S512x128 .f32) (kk : FVec F S8192x128 .f32) : FVec F S8192x8 .f32 :=
  mm (mulf (stack128 fun _ => q) kk) headSel

/-- The largest of the scores up to round `k`. -/
def topScore (lg : FVec F S8192x8 .f32) : ℕ → FVec F S512x8 .f32
  | 0 => part lg 0
  | k + 1 => maximumf (topScore lg k) (part lg (k + 1))

/-- The exponential of a score less the largest. -/
def weight (lg : FVec F S8192x8 .f32) (k : ℕ) : FVec F S512x8 .f32 := exp (subf (part lg k) (topScore lg 14))

/-- The sum of the exponentials up to round `k`. -/
def total (lg : FVec F S8192x8 .f32) : ℕ → FVec F S512x8 .f32
  | 0 => weight lg 0
  | k + 1 => addf (total lg k) (weight lg (k + 1))

/-- One over the sum. -/
def scale (lg : FVec F S8192x8 .f32) : FVec F S512x8 .f32 := divf (broadcast S512x8 (Scalar.ofBits .f32 0x3F800000#32)) (total lg 14)

/-- The weighted sum of the values of the first `k` rounds. -/
def attend (lg : FVec F S8192x8 .f32) (vv : FVec F S8192x128 .f32) : ℕ → FVec F S512x128 .f32
  | 0 => broadcast S512x128 (Scalar.ofBits .f32 0x00000000#32)
  | k + 1 => addf (attend lg vv k) (mulf (mm (mulf (weight lg k) (scale lg)) spread) (part vv k))

/-- The rows after attention. -/
def attended (rf : FVec F S8192x32 .f32) (p : ℕ → IVec S512x1 32) (x : FVec F S512x128 .f32)
    (wq wkx : FVec F S128x128 .f32) (wkr : FVec F S32x128 .f32) (wvx : FVec F S128x128 .f32) (wvr : FVec F S32x128 .f32)
    (wo : FVec F S128x128 .f32) : FVec F S512x128 .f32 :=
  addf x (mm (attend (scores (mm x wq) (message rf p x wkx wkr)) (message rf p x wvx wvr) 15) wo)

/-- One half of the pointwise network: a product, a bias, and zero where negative. -/
def relu {K : ℕ} (x : FVec F ⟨2, ![512, K]⟩ .f32) (w : FVec F ⟨2, ![K, 512]⟩ .f32) (b : FVec F S1x512 .f32) : FVec F S512x512 .f32 :=
  maximumf (addf (mm x w) (broadcastTo S512x512 b broadcasts_S1x512_S512x512)) (broadcast S512x512 (Scalar.ofBits .f32 0x00000000#32))

/-- The pointwise network. -/
def network (x : FVec F S512x128 .f32) (m1 : FVec F S128x512 .f32) (b1 : FVec F S1x512 .f32) (m2 : FVec F S512x512 .f32)
    (b2 : FVec F S1x512 .f32) (m3 : FVec F S512x128 .f32) (b3 : FVec F S1x128 .f32) : FVec F S512x128 .f32 :=
  addf (addf x (mm (relu (relu x m1 b1) m2 b2) m3)) (broadcastTo S512x128 b3 broadcasts_S1x128_S512x128)

/-! ## One convolution stage, on `n = k + 1 = 2 m` rows -/

/-- The shape facts of a stage. -/
structure StageFacts (n k m : ℕ) : Prop where
  b : S1x128.Broadcasts ⟨2, ![n, 128]⟩
  s0 : (⟨2, ![n, 128]⟩ : Shape).Slices ![0, 0] ⟨2, ![k, 128]⟩
  s1 : (⟨2, ![n, 128]⟩ : Shape).Slices ![1, 0] ⟨2, ![k, 128]⟩
  c0 : Shape.Concatenates [S1x128, ⟨2, ![k, 128]⟩] ⟨2, ![n, 128]⟩ 0
  c1 : Shape.Concatenates [⟨2, ![k, 128]⟩, S1x128] ⟨2, ![n, 128]⟩ 0
  p : (⟨2, ![n, 128]⟩ : Shape).ShapeCasts ⟨3, ![m, 2, 128]⟩
  e0 : (⟨3, ![m, 2, 128]⟩ : Shape).Slices ![0, 0, 0] ⟨3, ![m, 1, 128]⟩
  e1 : (⟨3, ![m, 2, 128]⟩ : Shape).Slices ![0, 1, 0] ⟨3, ![m, 1, 128]⟩
  f : (⟨3, ![m, 1, 128]⟩ : Shape).ShapeCasts ⟨2, ![m, 128]⟩

section Stage
variable {n k m : ℕ} (h : StageFacts n k m)

/-- The three shifted products and the bias. -/
def conv (t : FVec F ⟨2, ![n, 128]⟩ .f32) (w0 w1 w2 : FVec F S128x128 .f32) (b : FVec F S1x128 .f32) : FVec F ⟨2, ![n, 128]⟩ .f32 :=
  addf (addf (addf
    (mm (concatenate ⟨2, ![n, 128]⟩ 0 [⟨S1x128, broadcast S1x128 (Scalar.ofBits .f32 0x00000000#32)⟩,
      ⟨⟨2, ![k, 128]⟩, extractStridedSlice ⟨2, ![k, 128]⟩ ![0, 0] t h.s0⟩] h.c0) w0)
    (mm t w1))
    (mm (concatenate ⟨2, ![n, 128]⟩ 0 [⟨⟨2, ![k, 128]⟩, extractStridedSlice ⟨2, ![k, 128]⟩ ![1, 0] t h.s1⟩,
      ⟨S1x128, broadcast S1x128 (Scalar.ofBits .f32 0x00000000#32)⟩] h.c1) w2))
    (broadcastTo ⟨2, ![n, 128]⟩ b h.b)

/-- A number, or a hundredth of it where it is not positive. -/
def leaky (c : FVec F ⟨2, ![n, 128]⟩ .f32) : FVec F ⟨2, ![n, 128]⟩ .f32 :=
  select (cmpf .ogt c (broadcast ⟨2, ![n, 128]⟩ (Scalar.ofBits .f32 0x00000000#32))) c
    (mulf (broadcast ⟨2, ![n, 128]⟩ (Scalar.ofBits .f32 0x3C23D70A#32)) c)

/-- The larger of each two neighbouring rows. -/
def halve (t : FVec F ⟨2, ![n, 128]⟩ .f32) : FVec F ⟨2, ![m, 128]⟩ .f32 :=
  maximumf (shapeCast ⟨2, ![m, 128]⟩ (extractStridedSlice ⟨3, ![m, 1, 128]⟩ ![0, 0, 0] (shapeCast ⟨3, ![m, 2, 128]⟩ t h.p) h.e0) h.f)
    (shapeCast ⟨2, ![m, 128]⟩ (extractStridedSlice ⟨3, ![m, 1, 128]⟩ ![0, 1, 0] (shapeCast ⟨3, ![m, 2, 128]⟩ t h.p) h.e1) h.f)

/-- The whole stage. -/
def stage (t : FVec F ⟨2, ![n, 128]⟩ .f32) (w0 w1 w2 : FVec F S128x128 .f32) (b : FVec F S1x128 .f32) : FVec F ⟨2, ![m, 128]⟩ .f32 :=
  halve h (addf t (leaky (conv h t w0 w1 w2 b)))

end Stage

/-- The shape facts of the first stage. -/
theorem stage512 : StageFacts 512 511 256 :=
  ⟨broadcasts_S1x128_S512x128, slices_S512x128_o0_0_S511x128, slices_S512x128_o1_0_S511x128, concatenates_S1x128_S511x128_S512x128_d0,
    concatenates_S511x128_S1x128_S512x128_d0, shapeCasts_S512x128_S256x2x128, slices_S256x2x128_o0_0_0_S256x1x128,
    slices_S256x2x128_o0_1_0_S256x1x128, shapeCasts_S256x1x128_S256x128⟩

/-- The shape facts of the second stage. -/
theorem stage256 : StageFacts 256 255 128 :=
  ⟨broadcasts_S1x128_S256x128, slices_S256x128_o0_0_S255x128, slices_S256x128_o1_0_S255x128, concatenates_S1x128_S255x128_S256x128_d0,
    concatenates_S255x128_S1x128_S256x128_d0, shapeCasts_S256x128_S128x2x128, slices_S128x2x128_o0_0_0_S128x1x128,
    slices_S128x2x128_o0_1_0_S128x1x128, shapeCasts_S128x1x128_S128x128⟩

/-- The shape facts of the third stage. -/
theorem stage128 : StageFacts 128 127 64 :=
  ⟨broadcasts_S1x128_S128x128, slices_S128x128_o0_0_S127x128, slices_S128x128_o1_0_S127x128, concatenates_S1x128_S127x128_S128x128_d0,
    concatenates_S127x128_S1x128_S128x128_d0, shapeCasts_S128x128_S64x2x128, slices_S64x2x128_o0_0_0_S64x1x128,
    slices_S64x2x128_o0_1_0_S64x1x128, shapeCasts_S64x1x128_S64x128⟩

/-- The shape facts of the fourth stage. -/
theorem stage64 : StageFacts 64 63 32 :=
  ⟨broadcasts_S1x128_S64x128, slices_S64x128_o0_0_S63x128, slices_S64x128_o1_0_S63x128, concatenates_S1x128_S63x128_S64x128_d0,
    concatenates_S63x128_S1x128_S64x128_d0, shapeCasts_S64x128_S32x2x128, slices_S32x2x128_o0_0_0_S32x1x128,
    slices_S32x2x128_o0_1_0_S32x1x128, shapeCasts_S32x1x128_S32x128⟩

/-- The head: the sum of the last rows, times the last weights, plus the last bias. -/
def final (t : FVec F S32x128 .f32) (w : FVec F S128x1 .f32) (b : FVec F S1x1 .f32) : FVec F S1x1x1 .f32 :=
  shapeCast S1x1x1 (addf (mm (shapeCast S1x128
    (multiReduction .add [0] S128 t 0x00000000#32 reduces_S32x128_S128 (.inl rfl) rfl) shapeCasts_S128_S1x128) w)
    (shapeCast S1x1 b shapeCasts_S1x1_S1x1)) shapeCasts_S1x1_S1x1x1

end Cert.KernelIdeal.Block
-- ==== Proof.ValueFrames.lean ====
/-
The residues' frames, as the kernel computes them, over the reals extended by the two infinities.
-/
module

public import proofs.«01_k».proof.Proof.Block
public import proofs.«01_k».proof.Proof.Model

@[expose] public section

set_option maxRecDepth 16384

noncomputable section

namespace Cert.KernelIdeal.Block

open Cert.KernelIdeal Idealize.ShloMosaic Idealize.ShloMosaic
open Cert

variable [Facts]

/-- A three-row array as a function of residue and coordinate. -/
def cols {N : ℕ} (v : FVec Ideal ⟨2, ![3, N]⟩ .f32) (n : Fin N) (c : Fin 3) : EReal := v (ix2 c n)

/-- Unit vectors, entry by entry. -/
theorem unit3_apply (v : FVec Ideal S3x4096 .f32) (c : Fin 3) (n : Fin 4096) : unit3 v (ix2 c n) = Model.unit (cols v n) c := by
  pointwise [unit3, row0, row1, row2]
  rfl

/-- Unit vectors, column by column. -/
theorem cols_unit3 (v : FVec Ideal S3x4096 .f32) (n : Fin 4096) : cols (unit3 v) n = Model.unit (cols v n) :=
  funext fun c => unit3_apply v c n

/-- Cross products, entry by entry. -/
theorem cross3_apply (a b : FVec Ideal S3x4096 .f32) (c : Fin 3) (n : Fin 4096) :
    cross3 a b (ix2 c n) = Model.cross (cols a n) (cols b n) c := by
  fin_cases c <;> (pointwise [cross3, row0, row1, row2]; rfl)

/-- Cross products, column by column. -/
theorem cols_cross3 (a b : FVec Ideal S3x4096 .f32) (n : Fin 4096) :
    cols (cross3 a b) n = Model.cross (cols a n) (cols b n) :=
  funext fun c => cross3_apply a b c n

/-- The unit steps. -/
theorem heading_apply (p : FVec Ideal S3x4096 .f32) (c : Fin 3) (n : Fin 4095) (m : Fin 4096) (hm : m.val = n.val) :
    heading p (ix2 c m) = Model.step (cols p) n c := by
  have h : n.val < 4095 := n.isLt
  have e : m = ⟨n.val, Nat.lt_succ_of_lt h⟩ := Fin.ext hm
  subst e
  rw [heading, unit3_apply, Model.step]
  congr 1
  funext c
  unfold cols
  pointwise
  simp only [Nat.add_comm 1]

/-- The steps into residues. -/
theorem before_apply (p : FVec Ideal S3x4096 .f32) (n : Fin 4096) :
    cols (before (heading p)) n = Model.into (cols p) n := by
  funext c
  unfold cols before
  pointwise
  split
  · exact heading_apply p c _ _ (by simp; omega)
  · exact heading_apply p c _ _ rfl

/-- The steps out of residues. -/
theorem after_apply (p : FVec Ideal S3x4096 .f32) (n : Fin 4096) :
    cols (after (heading p)) n = Model.out (cols p) n := by
  funext c
  unfold cols after
  pointwise
  split
  · exact heading_apply p c _ _ (by simp; omega)
  · exact heading_apply p c _ _ (by simp; omega)

/-- The first axes. -/
theorem axisB_apply (p : FVec Ideal S3x4096 .f32) (n : Fin 4096) :
    cols (axisB (heading p)) n = Model.axis (cols p) n 0 := by
  rw [axisB, cols_unit3]
  show _ = Model.unit fun c => _
  rw [← before_apply, ← after_apply]
  rfl

/-- The second axes. -/
theorem axisN_apply (p : FVec Ideal S3x4096 .f32) (n : Fin 4096) :
    cols (axisN (heading p)) n = Model.axis (cols p) n 1 := by
  rw [axisN, cols_unit3, cols_cross3, before_apply, after_apply]
  rfl

/-- The third axes. -/
theorem axisC_apply (p : FVec Ideal S3x4096 .f32) (n : Fin 4096) :
    cols (axisC (heading p)) n = Model.axis (cols p) n 2 := by
  rw [axisC, cols_cross3, axisB_apply, axisN_apply]
  rfl

end Cert.KernelIdeal.Block
-- ==== Proof.Reals.lean ====
/-
The precondition makes what it tests real numbers, and the noise more than −∞.
-/
module

public import proofs.«01_k».proof.Defs
public import proofs.«01_k».proof.Proof.Finite
public import proofs.«01_k».proof.Proof.ValueFrames

@[expose] public section

set_option maxRecDepth 16384

noncomputable section

namespace Cert.Proof

open Idealize.ShloMosaic

/-- The precondition's shape facts. -/
instance facts_finite : Cert.Pre_finite.Facts where
  slices_S4096x3x3_S4096x1x3_0_1_0 := by decide
  shapeCasts_S4096x1x3_S4096x3 := by decide
  slices_S3x157x128_S2x157x128_0_0_0 := by decide
  slices_S3x128x128_S2x128x128_0_0_0 := by decide
  slices_S3x128x512_S2x128x512_0_0_0 := by decide
  slices_S3x512_S2x512_0_0 := by decide
  slices_S3x512x512_S2x512x512_0_0_0 := by decide
  slices_S3x512x128_S2x512x128_0_0_0 := by decide
  slices_S3x128_S2x128_0_0 := by decide
  bcast_S_S4096x3 := by decide
  bcast_S_S27x128 := by decide
  bcast_S_S3x128x128 := by decide
  bcast_S_S3x157x128 := by decide
  bcast_S_S2x157x128 := by decide
  bcast_S_S2x128x128 := by decide
  bcast_S_S2x128x512 := by decide
  bcast_S_S2x512 := by decide
  bcast_S_S2x512x512 := by decide
  bcast_S_S2x512x128 := by decide
  bcast_S_S2x128 := by decide
  bcast_S_S8x512x512 := by decide

/-- A number whose absolute value is below +∞ is real. -/
theorem real_of_abs_lt {x : EReal} (h : max x (-x) < ⊤) : Model.IsReal x := by
  induction x with
  | bot => simp at h
  | top => simp at h
  | coe a => exact ⟨a, rfl⟩

/-- An array that passes the precondition's test is real everywhere. -/
theorem real_of_test {s : Shape} (x : FVec Ideal s .f32) (hb : (⟨0, ![]⟩ : Shape).BroadcastsInDim s (![] : Fin 0 → Fin s.rank))
    (h : cmpf .olt (Host.absf x) (broadcastInDim s ![] hb (constant (F := Ideal) ⟨0, ![]⟩ .f32 0x7F800000#32)) = fun _ => 1#1)
    (j : s.Idx) : Model.IsReal (x j) := by
  have e : (Ideal.ofBits .f32 0x7F800000#32 : EReal) = ⊤ := by simp [Ideal.ofBits, Ideal.ieee]
  have g : Ideal.cmp .olt (max (x j) (-(x j))) (Ideal.ofBits .f32 0x7F800000#32) = 1#1 := congrFun h j
  rw [e] at g
  refine real_of_abs_lt ?_
  by_contra hn
  simp only [Ideal.cmp, hn, decide_false] at g
  exact absurd g (by decide)

/-- An array that passes the precondition's other test is above −∞ everywhere. -/
theorem above_of_test {s : Shape} (x : FVec Ideal s .f32) (hb : (⟨0, ![]⟩ : Shape).BroadcastsInDim s (![] : Fin 0 → Fin s.rank))
    (h : cmpf .ogt x (broadcastInDim s ![] hb (constant (F := Ideal) ⟨0, ![]⟩ .f32 0xFF800000#32)) = fun _ => 1#1)
    (j : s.Idx) : (⊥ : EReal) < x j := by
  have e : (Ideal.ofBits .f32 0xFF800000#32 : EReal) = ⊥ := by simp [Ideal.ofBits, Ideal.ieee]
  have g : Ideal.cmp .ogt (x j) (Ideal.ofBits .f32 0xFF800000#32) = 1#1 := congrFun h j
  rw [e] at g
  by_contra hn
  simp only [Ideal.cmp, hn, decide_false] at g
  exact absurd g (by decide)

/-- Where the first two pages of a stack are real, so is each entry of theirs. -/
theorem page_real {a b : ℕ} (x : FVec Ideal ⟨3, ![3, a, b]⟩ .f32) (hs : (⟨3, ![3, a, b]⟩ : Shape).Slices ![0, 0, 0] ⟨3, ![2, a, b]⟩)
    (h : ∀ j, Model.IsReal (extractStridedSlice ⟨3, ![2, a, b]⟩ ![0, 0, 0] x hs j)) (l : Fin 3) (hl : l.val < 2) (c : Fin a) (f : Fin b) :
    Model.IsReal (x (ix3 l c f)) := by
  have e : extractStridedSlice ⟨3, ![2, a, b]⟩ ![0, 0, 0] x hs (ix3 ⟨l.val, hl⟩ c f) = x (ix3 l c f) :=
    extractStridedSlice_apply _ _ _ _ _ (by intro d; fin_cases d <;> simp [ix3])
  exact e ▸ h _

/-- Where the first two lines of a stack are real, so is each entry of theirs. -/
theorem line_real {a : ℕ} (x : FVec Ideal ⟨2, ![3, a]⟩ .f32) (hs : (⟨2, ![3, a]⟩ : Shape).Slices ![0, 0] ⟨2, ![2, a]⟩)
    (h : ∀ j, Model.IsReal (extractStridedSlice ⟨2, ![2, a]⟩ ![0, 0] x hs j)) (l : Fin 3) (hl : l.val < 2) (f : Fin a) :
    Model.IsReal (x (ix2 l f)) := by
  have e : extractStridedSlice ⟨2, ![2, a]⟩ ![0, 0] x hs (ix2 ⟨l.val, hl⟩ f) = x (ix2 l f) :=
    extractStridedSlice_apply _ _ _ _ _ (by intro d; fin_cases d <;> simp [ix2])
  exact e ▸ h _

end Cert.Proof
-- ==== Proof.Frames.lean ====
/- The programs run to completion and leave their arguments alone, and the two named constants have the values
   the table gives them. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Reals
public import Idealize.ShloMosaic.Lib.Quiescent

@[expose] public section

noncomputable section

namespace Cert.Proof

open Idealize.ShloMosaic Idealize.SL.Sem

/-- The kernel finishes, keeps its arguments and leaves every semaphore at zero. -/
theorem frame_kernel : Cert.quiescent_Kernel := fun m ρ _ => Cert.Kernel.Gen.frame m ρ

/-- So does its idealization. -/
theorem frame_kernelIdeal : Cert.quiescent_KernelIdeal := fun m ρ _ => Cert.KernelIdeal.Gen.frame m ρ

/-- So does the reference, which has no semaphores. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The idealization's frame, from arguments that meet the precondition. -/
theorem frame_kernelIdeal_finite : Cert.quiescent_KernelIdeal_pre_finite := fun m ρ _ => Cert.KernelIdeal.Gen.frame m ρ

/-- The reference's frame, from arguments that meet the precondition. -/
theorem frame_reference_finite : Cert.quiescent_ReferenceIdeal_pre_finite := fun m ρ _ => frame_reference m ρ trivial

/-- The mask value is named −∞ and the step of the radial centres 4/3. -/
theorem preserves : Cert.preserves_Kernel_KernelIdeal :=
  ⟨IdealRules.named_const.statement Cert.KernelIdeal.κ "taken" .f32 0xF149F2CA#32 ⊥ rfl,
   IdealRules.named_const.statement Cert.KernelIdeal.κ "rbf_step" .f32 0x3FAAAAAB#32 ((4 / 3 : ℝ) : EReal) rfl⟩

end Cert.Proof

end
-- ==== Proof.Found.lean ====
/-
What the body leaves in the output's block is the chain of named steps.
-/
module

public import proofs.«01_k».proof.Proof.Gen.KernelIdeal.Frame
public import proofs.«01_k».proof.Proof.Block
public import Idealize.ShloMosaic.Lib.Pipeline.Value

@[expose] public section

set_option maxRecDepth 16384

noncomputable section

namespace Cert.KernelIdeal.Block

open Cert.KernelIdeal Cert.KernelIdeal.Gen Idealize.ShloMosaic Idealize.ShloMosaic.TcCoe

variable {F : FTy → Type} [FloatOps F] [Named F]

/-- A page lies inside its array. -/
theorem inb_page (M N l : ℕ) : ∀ a, (![l % 3, 0, 0] : Fin 3 → ℕ) a + (![1, M, N] : Fin 3 → ℕ) a ≤ (⟨3, ![3, M, N]⟩ : Shape).size a :=
  fun a => match a with
    | ⟨0, _⟩ => by have := Nat.mod_lt l (show 0 < 3 by norm_num); simp; omega
    | ⟨1, _⟩ => by simp
    | ⟨2, _⟩ => by simp

/-- A page is a matrix. -/
theorem cast_page (M N : ℕ) : (⟨3, ![1, M, N]⟩ : Shape).ShapeCasts ⟨2, ![M, N]⟩ := by
  simp [Shape.ShapeCasts, Shape.numel, Fin.prod_univ_succ]

/-- Matrix `l` of a stack of three, as the body loads it. -/
def page {M N : ℕ} (r : Memref sig .tc .vmem ⟨3, ![3, M, N]⟩ .f32) (h : r.IsWhole) (x : Vec F ⟨3, ![3, M, N]⟩ .f32) (l : ℕ) :
    FVec F ⟨2, ![M, N]⟩ .f32 :=
  shapeCast ⟨2, ![M, N]⟩ (View.readAt (Elt F) r.view (Rect.unit (s := ⟨3, ![3, M, N]⟩) ![l % 3, 0, 0] ![1, M, N] (inb_page M N l)).toLoadRect (h.unread x))
    (cast_page M N)

/-- A line lies inside its array. -/
theorem inb_line (R N l : ℕ) (h : l < R) : ∀ a, (![l, 0] : Fin 2 → ℕ) a + (![1, N] : Fin 2 → ℕ) a ≤ (⟨2, ![R, N]⟩ : Shape).size a :=
  fun a => match a with
    | ⟨0, _⟩ => by simp; omega
    | ⟨1, _⟩ => by simp

/-- Row `l` of a matrix, as the body loads it. -/
def line {R N : ℕ} (r : Memref sig .tc .vmem ⟨2, ![R, N]⟩ .f32) (h : r.IsWhole) (x : Vec F ⟨2, ![R, N]⟩ .f32) (l : ℕ) (hl : l < R) :
    FVec F ⟨2, ![1, N]⟩ .f32 :=
  View.readAt (Elt F) r.view (Rect.unit (s := ⟨2, ![R, N]⟩) ![l, 0] ![1, N] (inb_line R N l hl)).toLoadRect (h.unread x)

/-- A tap's matrix lies inside its array. -/
theorem inb_tap (i t : ℕ) : ∀ a, (![i % 4, t % 3, 0, 0] : Fin 4 → ℕ) a + (![1, 1, 128, 128] : Fin 4 → ℕ) a ≤ S4x3x128x128.size a :=
  fun a => match a with
    | ⟨0, _⟩ => by have := Nat.mod_lt i (show 0 < 4 by norm_num); simp; omega
    | ⟨1, _⟩ => by have := Nat.mod_lt t (show 0 < 3 by norm_num); simp; omega
    | ⟨2, _⟩ => by simp
    | ⟨3, _⟩ => by simp

/-- Tap `t` of convolution `i`, as the body loads it. -/
def tap (r : Memref sig .tc .vmem S4x3x128x128 .f32) (h : r.IsWhole) (x : Vec F S4x3x128x128 .f32) (i t : ℕ) : FVec F S128x128 .f32 :=
  shapeCast S128x128 (View.readAt (Elt F) r.view (Rect.unit (s := S4x3x128x128) ![i % 4, t % 3, 0, 0] ![1, 1, 128, 128] (inb_tap i t)).toLoadRect (h.unread x))
    shapeCasts_S1x1x128x128_S128x128

/-- A whole array, as the body loads it. -/
def whole2 {M N : ℕ} (r : Memref sig .tc .vmem ⟨2, ![M, N]⟩ .f32) (h : r.IsWhole) (x : Vec F ⟨2, ![M, N]⟩ .f32)
    (hb : ∀ a, (![0, 0] : Fin 2 → ℕ) a + (![M, N] : Fin 2 → ℕ) a ≤ (⟨2, ![M, N]⟩ : Shape).size a) : Vec F ⟨2, ![M, N]⟩ .f32 :=
  View.readAt (Elt F) r.view (Rect.unit (s := ⟨2, ![M, N]⟩) ![0, 0] ![M, N] hb).toLoadRect (h.unread x)

section Out
variable (c : Dev nD) (i : grid0.Coords) (arg1 : Memref sig .tc .vmem S3x4096 .f32) (harg1 : arg1.IsWhole) (arg2 : Memref sig .tc .vmem S1x512x512 .f32) (harg2 : arg2.IsWhole) (arg3 : Memref sig .tc .vmem S27x128 .f32) (harg3 : arg3.IsWhole) (arg4 : Memref sig .tc .vmem S3x128x128 .f32) (harg4 : arg4.IsWhole) (arg5 : Memref sig .tc .vmem S3x128x128 .f32) (harg5 : arg5.IsWhole) (arg6 : Memref sig .tc .vmem S3x32x128 .f32) (harg6 : arg6.IsWhole) (arg7 : Memref sig .tc .vmem S3x128x128 .f32) (harg7 : arg7.IsWhole) (arg8 : Memref sig .tc .vmem S3x32x128 .f32) (harg8 : arg8.IsWhole) (arg9 : Memref sig .tc .vmem S3x128x128 .f32) (harg9 : arg9.IsWhole) (arg10 : Memref sig .tc .vmem S3x128x512 .f32) (harg10 : arg10.IsWhole) (arg11 : Memref sig .tc .vmem S3x512 .f32) (harg11 : arg11.IsWhole) (arg12 : Memref sig .tc .vmem S3x512x512 .f32) (harg12 : arg12.IsWhole) (arg13 : Memref sig .tc .vmem S3x512 .f32) (harg13 : arg13.IsWhole) (arg14 : Memref sig .tc .vmem S3x512x128 .f32) (harg14 : arg14.IsWhole) (arg15 : Memref sig .tc .vmem S3x128 .f32) (harg15 : arg15.IsWhole) (arg16 : Memref sig .tc .vmem S4x3x128x128 .f32) (harg16 : arg16.IsWhole) (arg17 : Memref sig .tc .vmem S4x128 .f32) (harg17 : arg17.IsWhole) (arg18 : Memref sig .tc .vmem S128x1 .f32) (harg18 : arg18.IsWhole) (arg19 : Memref sig .tc .vmem S1x1 .f32) (harg19 : arg19.IsWhole) (arg20 : Memref sig .tc .vmem S1x1x1 .f32) (harg20 : arg20.IsWhole) (arg21 : Memref sig .tc .vmem S12x4096 .f32) (harg21 : arg21.IsWhole)
    (x0 : Vec F S3x4096 .f32) (x1 : Vec F S1x512x512 .f32) (x2 : Vec F S27x128 .f32) (x3 : Vec F S3x128x128 .f32) (x4 : Vec F S3x128x128 .f32) (x5 : Vec F S3x32x128 .f32) (x6 : Vec F S3x128x128 .f32) (x7 : Vec F S3x32x128 .f32) (x8 : Vec F S3x128x128 .f32) (x9 : Vec F S3x128x512 .f32) (x10 : Vec F S3x512 .f32) (x11 : Vec F S3x512x512 .f32) (x12 : Vec F S3x512 .f32) (x13 : Vec F S3x512x128 .f32) (x14 : Vec F S3x128 .f32) (x15 : Vec F S4x3x128x128 .f32) (x16 : Vec F S4x128 .f32) (x17 : Vec F S128x1 .f32) (x18 : Vec F S1x1 .f32)

/-- The residues' coordinates. -/
def points : FVec F S3x4096 .f32 := shapeCast S3x4096 (whole2 arg1 harg1 x0 inb_S3x4096_S3x4096_0_0) shapeCasts_S3x4096_S3x4096

/-- The block's columns of the frames, read back from the scratch. -/
def columns : FVec F S12x512 .f32 :=
  View.readAt (Elt F) arg21.view (Rect.unit (s := S12x4096) (k0_off1 i) S12x512.size (k0_off1_inb i)).toLoadRect
    (arg21.view.writes (Elt F) arg21.view.junk
      [⟨Rect.unit (s := S12x4096) ![9, 0] S3x4096.size inb_S12x4096_S3x4096_9_0, shapeCast S3x4096 (axisC (heading (points arg1 harg1 x0))) shapeCasts_S3x4096_S3x4096⟩,
       ⟨Rect.unit (s := S12x4096) ![6, 0] S3x4096.size inb_S12x4096_S3x4096_6_0, shapeCast S3x4096 (axisN (heading (points arg1 harg1 x0))) shapeCasts_S3x4096_S3x4096⟩,
       ⟨Rect.unit (s := S12x4096) ![3, 0] S3x4096.size inb_S12x4096_S3x4096_3_0, shapeCast S3x4096 (axisB (heading (points arg1 harg1 x0))) shapeCasts_S3x4096_S3x4096⟩,
       ⟨Rect.unit (s := S12x4096) ![0, 0] S3x4096.size inb_S12x4096_S3x4096_0_0, shapeCast S3x4096 (points arg1 harg1 x0) shapeCasts_S3x4096_S3x4096⟩])

/-- The block's noise. -/
def noise : FVec F S512x512 .f32 :=
  shapeCast S512x512 (View.readAt (Elt F) arg2.view (Rect.unit (s := S1x512x512) ![0, 0, 0] S1x512x512.size inb_S1x512x512_S1x512x512_0_0_0).toLoadRect (harg2.unread x1))
    shapeCasts_S1x512x512_S512x512

/-- The picks. -/
def picks : ℕ → IVec S512x1 32 := pick (closeness (columns i arg1 harg1 arg21 x0) (noise arg2 harg2 x1))

/-- The features. -/
def pairs : FVec F S8192x32 .f32 := feats (frames (columns i arg1 harg1 arg21 x0)) (picks i arg1 harg1 arg2 harg2 arg21 x0 x1)

/-- Layer `l`, from the rows before it. -/
def layer (l : ℕ) (hl : l < 3) (x : FVec F S512x128 .f32) : FVec F S512x128 .f32 :=
  network (attended (pairs i arg1 harg1 arg2 harg2 arg21 x0 x1) (picks i arg1 harg1 arg2 harg2 arg21 x0 x1) x
      (page arg4 harg4 x3 l) (page arg5 harg5 x4 l) (page arg6 harg6 x5 l) (page arg7 harg7 x6 l) (page arg8 harg8 x7 l) (page arg9 harg9 x8 l))
    (page arg10 harg10 x9 l) (line arg11 harg11 x10 l hl) (page arg12 harg12 x11 l) (line arg13 harg13 x12 l hl)
    (page arg14 harg14 x13 l) (line arg15 harg15 x14 l hl)

/-- Convolution stage `l`. -/
def pooled {n k m : ℕ} (h : StageFacts n k m) (l : ℕ) (hl : l < 4) (t : FVec F ⟨2, ![n, 128]⟩ .f32) : FVec F ⟨2, ![m, 128]⟩ .f32 :=
  stage h t (tap arg16 harg16 x15 l 0) (tap arg16 harg16 x15 l 1) (tap arg16 harg16 x15 l 2) (line arg17 harg17 x16 l hl)

/-- The rows before the first layer. -/
def rows0 : FVec F S512x128 .f32 := start (whole2 arg3 harg3 x2 inb_S27x128_S27x128_0_0)

/-- The rows after `l` layers. -/
def rows : ℕ → FVec F S512x128 .f32
  | 0 => rows0 arg3 harg3 x2
  | l + 1 => layer i arg1 harg1 arg2 harg2 arg4 harg4 arg5 harg5 arg6 harg6 arg7 harg7 arg8 harg8 arg9 harg9 arg10 harg10 arg11 harg11 arg12 harg12 arg13 harg13 arg14 harg14 arg15 harg15 arg21 x0 x1 x3 x4 x5 x6 x7 x8 x9 x10 x11 x12 x13 x14 (l % 3) (Nat.mod_lt l (by norm_num)) (rows l)

/-- The body's result, as the chain of its steps. -/
def outcome : FVec F S1x1x1 .f32 :=
  final (pooled arg16 harg16 arg17 harg17 x15 x16 stage64 3 (by norm_num) (pooled arg16 harg16 arg17 harg17 x15 x16 stage128 2 (by norm_num) (pooled arg16 harg16 arg17 harg17 x15 x16 stage256 1 (by norm_num)
    (pooled arg16 harg16 arg17 harg17 x15 x16 stage512 0 (by norm_num) (rows i arg1 harg1 arg2 harg2 arg3 harg3 arg4 harg4 arg5 harg5 arg6 harg6 arg7 harg7 arg8 harg8 arg9 harg9 arg10 harg10 arg11 harg11 arg12 harg12 arg13 harg13 arg14 harg14 arg15 harg15 arg21 x0 x1 x2 x3 x4 x5 x6 x7 x8 x9 x10 x11 x12 x13 x14 3))))) (whole2 arg18 harg18 x17 inb_S128x1_S128x1_0_0) (whole2 arg19 harg19 x18 inb_S1x1_S1x1_0_0)

/-- What the body leaves in the output's block. -/
theorem out_eq : out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18 = outcome i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 x0 x1 x2 x3 x4 x5 x6 x7 x8 x9 x10 x11 x12 x13 x14 x15 x16 x17 x18 := by
  unfold out0_A_19
  rw [View.read_writes_eq_canon _ _ _ (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18)]
  unfold kernelRun0_A
  dsimp only
  refine (View.canon_cons_unit_zero (by funext a; fin_cases a <;> rfl) _ _ _).trans ?_
  sl_kernel_rfl

end Out

end Cert.KernelIdeal.Block
-- ==== Proof.ValuePairs.lean ====
/-
Pairs of residues, as the kernel computes them, over the reals extended by the two infinities: how near they are, and
the features of a residue and its pick.
-/
module

public import proofs.«01_k».proof.Proof.Block
public import proofs.«01_k».proof.Proof.Model
public import Idealize.ShloMosaic.Lib.WordArith
public import Idealize.ShloMosaic.Lib.MatmulPlain

@[expose] public section

set_option maxRecDepth 16384

noncomputable section

namespace Cert.KernelIdeal.Block

open Cert.KernelIdeal Idealize.ShloMosaic
open Cert

variable [Facts]

/-- A matrix product, entry by entry. -/
theorem mm_apply {M K N : ℕ} (a : FVec Ideal ⟨2, ![M, K]⟩ .f32) (w : FVec Ideal ⟨2, ![K, N]⟩ .f32) (r : Fin M) (n : Fin N) :
    mm a w (ix2 r n) = ∑ k : Fin K, a (ix2 r k) * w (ix2 k n) := by
  refine (Ideal.matmul_plain_apply (prec := none) (lhs := a) (rhs := w) (acc := constant ⟨2, ![M, N]⟩ .f32 0x00000000#32) (r := r) (c := n)).trans ?_
  show Ideal.ofBits .f32 0x00000000#32 + _ = _
  have e : Ideal.ofBits .f32 0x00000000#32 = 0 := by simp [Ideal.ofBits, Ideal.ieee]
  rw [e, zero_add]
  rfl

/-- A bit as a number. -/
theorem asNum_apply {s : Shape} (c : IVec s 1) (i : s.Idx) : asNum (F := Ideal) c i = if c i = 1#1 then (1 : EReal) else 0 := by
  pointwise [asNum]
  rcases BitVec.eq_zero_or_eq_one (c i) with h | h <;> rw [h]
  · show (((0 : ℤ) : ℝ) : EReal) = _
    simp
  · show (((1 : ℤ) : ℝ) : EReal) = _
    simp

/-- A small number, as a word, is that number. -/
theorem num_ofNat (n : ℕ) (h : n < 2 ^ 31) : (FloatOps.sitofp .f32 (BitVec.ofNat 32 n) : Ideal .f32) = ((n : ℝ) : EReal) := by
  show ((((BitVec.ofNat 32 n).toInt : ℤ) : ℝ) : EReal) = _
  rw [WordArith.toInt_ofNat_small n h]
  simp

/-- Small words are equal when their numbers are. -/
theorem ofNat_inj {a b : ℕ} (ha : a < 2 ^ 31) (hb : b < 2 ^ 31) : BitVec.ofNat 32 a = BitVec.ofNat 32 b ↔ a = b :=
  ⟨fun h => by simpa [Nat.mod_eq_of_lt (show a < 4294967296 by omega), Nat.mod_eq_of_lt (show b < 4294967296 by omega)] using congrArg BitVec.toNat h, fun h => h ▸ rfl⟩

/-- The comparison bit says equality. -/
theorem cmpi_eq (a b : BitVec 32) : IntOp.cmpi .eq a b = 1#1 ↔ a = b := by
  show BitVec.ofBool (a == b) = 1#1 ↔ a = b
  rw [WordArith.ofBool_eq_one_iff]
  simp

/-- A block's columns, turned to rows. -/
theorem frames_apply (st : FVec Ideal S12x512 .f32) (r : Fin 512) (c : Fin 12) : frames st (ix2 r c) = st (ix2 c r) := by
  pointwise [frames]
  simp only [asNum_apply]
  rw [Finset.sum_eq_single r]
  · pointwise [lane]
  · intro k _ hk
    pointwise [lane]
    rw [if_neg, zero_mul]
    rw [cmpi_eq, ofNat_inj (by omega) (by omega)]
    exact fun h => hk (Fin.ext h.symm)
  · simp

/-- The positions of a block's columns. -/
def posOf (st : FVec Ideal S12x512 .f32) (n : Fin 512) (c : Fin 3) : EReal := st (ix2 ⟨c.val, by omega⟩ n)
/-- The axes of a block's columns. -/
def axesOf (st : FVec Ideal S12x512 .f32) (n : Fin 512) (v a : Fin 3) : EReal := st (ix2 ⟨3 + 3 * v.val + a.val, by omega⟩ n)

/-- How near two residues are. -/
theorem closeness_apply (st : FVec Ideal S12x512 .f32) (noise : FVec Ideal S512x512 .f32) (r j : Fin 512) :
    closeness st noise (ix2 r j) = Model.near (posOf st) (fun a b => noise (ix2 a b)) r j := by
  pointwise [closeness, gap]
  simp only [frames_apply]
  rw [Model.near, Fin.sum_univ_three, sub_eq_add_neg, zero_add]
  rfl

/-- The named step is 4/3. -/
theorem named_step : Named.named (F := Ideal) κ "rbf_step" (φ := .f32) 0x3FAAAAAB#32 = ((4 / 3 : ℝ) : EReal) :=
  IdealRules.named_const.ideal_named_scalar _ _ _ _ rfl

/-- A choice between equal values. -/
theorem dite_to {α : Type} {c : Prop} [Decidable c] {a : c → α} {b : ¬c → α} {t : α} (ha : ∀ h, a h = t) (hb : ∀ h, b h = t) : dite c a b = t := by
  by_cases h : c
  · rw [dif_pos h, ha]
  · rw [dif_neg h, hb]

/-- The first three features: the direction. -/
theorem feat_direction (P : Fin 512 → Fin 3 → EReal) (T : Fin 512 → Fin 3 → Fin 3 → EReal) (r j : Fin 512) (c : Fin 3) (d : Fin 29) (hd : d.val = c.val) :
    Model.feat P T r j d = Ideal.div (Model.toward P r j c) (Model.far P r j + Model.epsLen) := by
  obtain ⟨d, hlt⟩ := d
  obtain rfl : d = c.val := hd
  rw [Model.feat, dif_pos c.isLt]

/-- The next sixteen: the bumps. -/
theorem feat_bump (P : Fin 512 → Fin 3 → EReal) (T : Fin 512 → Fin 3 → Fin 3 → EReal) (r j : Fin 512) (m : Fin 16) (d : Fin 29) (hd : d.val = 3 + m.val) :
    Model.feat P T r j d = Ideal.exp (-(Model.offset P r j m * Model.offset P r j m)) := by
  have e : (⟨d.val - 3, by omega⟩ : Fin 16) = m := Fin.ext (by simp; omega)
  rw [Model.feat, dif_neg (by omega), dif_pos (by omega), e]

/-- The next nine: the relative rotation. -/
theorem feat_turn (P : Fin 512 → Fin 3 → EReal) (T : Fin 512 → Fin 3 → Fin 3 → EReal) (r j : Fin 512) (a b : Fin 3) (d : Fin 29) (hd : d.val = 19 + (3 * a.val + b.val)) :
    Model.feat P T r j d = Model.turn T r j a b := by
  have e : (⟨(d.val - 19) / 3, by omega⟩ : Fin 3) = a := Fin.ext (by simp; omega)
  have e' : (⟨(d.val - 19) % 3, by omega⟩ : Fin 3) = b := Fin.ext (by simp; omega)
  rw [Model.feat, dif_neg (by omega), dif_neg (by omega), dif_pos (by omega), e, e']

/-- The last: how far apart in the sequence. -/
theorem feat_hop (P : Fin 512 → Fin 3 → EReal) (T : Fin 512 → Fin 3 → Fin 3 → EReal) (r j : Fin 512) (d : Fin 29) (hd : d.val = 28) :
    Model.feat P T r j d = Model.hop r j := by
  rw [Model.feat, dif_neg (by omega), dif_neg (by omega), dif_neg (by omega)]

section Pick
variable {p : IVec S512x1 32} {r i : Fin 512} (h : p (ix2 r 0) = BitVec.ofNat 32 i.val)
include h

/-- The bit of the picked column. -/
theorem isPick_apply (j : Fin 512) : isPick p (ix2 r j) = 1#1 ↔ j = i := by
  pointwise [isPick, lane]
  rw [h, cmpi_eq, ofNat_inj (by omega) (by omega), Fin.ext_iff]

/-- One at the picked column, zero elsewhere. -/
theorem hot_apply (j : Fin 512) : hot (F := Ideal) p (ix2 r j) = if j = i then 1 else 0 := by
  rw [hot, asNum_apply]
  simp only [isPick_apply h]

/-- A product with the picked columns' zeros and ones is the picked row. -/
theorem mm_hot {N : ℕ} (x : FVec Ideal ⟨2, ![512, N]⟩ .f32) (n : Fin N) : mm (hot (F := Ideal) p) x (ix2 r n) = x (ix2 i n) := by
  rw [mm_apply, Finset.sum_eq_single i]
  · rw [hot_apply h, if_pos rfl, one_mul]
  · intro k _ hk
    rw [hot_apply h, if_neg hk, zero_mul]
  · simp

/-- The picked column. -/
theorem slab_apply (st : FVec Ideal S12x512 .f32) (c : Fin 12) : slab (frames st) p (ix2 r c) = st (ix2 c i) := by
  rw [slab, mm_hot h, frames_apply]

/-- The vector to the picked residue. -/
theorem rel_apply (st : FVec Ideal S12x512 .f32) (c : Fin 3) :
    rel (frames st) (slab (frames st) p) (ix2 r c) = Model.toward (posOf st) r i c := by
  pointwise [rel]
  rw [slab_apply h, frames_apply]
  rfl

/-- The distance to the picked residue. -/
theorem dist_apply (st : FVec Ideal S12x512 .f32) :
    dist (rel (frames st) (slab (frames st) p)) (ix2 r 0) = Model.far (posOf st) r i := by
  pointwise [dist]
  simp only [rel_apply h]
  rw [Model.far, Fin.sum_univ_three]
  rfl

/-- The direction to the picked residue. -/
theorem direction_apply (st : FVec Ideal S12x512 .f32) (c : Fin 3) :
    direction (rel (frames st) (slab (frames st) p)) (ix2 r c) = Ideal.div (Model.toward (posOf st) r i c) (Model.far (posOf st) r i + Model.epsLen) := by
  pointwise [direction]
  rw [dist_apply h, rel_apply h]
  rfl

/-- The bumps of the picked residue. -/
theorem bumps_apply (st : FVec Ideal S12x512 .f32) (m : Fin 16) :
    bumps (dist (rel (frames st) (slab (frames st) p))) (ix2 r m) =
      Ideal.exp (-(Model.offset (posOf st) r i m * Model.offset (posOf st) r i m)) := by
  pointwise [bumps, offset, centres]
  rw [dist_apply h, num_ofNat _ (by omega), named_step, ← EReal.coe_mul, sub_eq_add_neg 0, zero_add, mul_comm (m.val : ℝ)]
  rfl

/-- The relative rotation. -/
theorem turn_apply (st : FVec Ideal S12x512 .f32) (a b : Fin 3) :
    turn (frames st) (slab (frames st) p) a.val b.val (ix2 r 0) = Model.turn (axesOf st) r i a b := by
  have ha := a.isLt
  have hb := b.isLt
  pointwise [turn, col]
  simp only [slab_apply h, frames_apply]
  rw [Model.turn, Fin.sum_univ_three]
  simp only [axesOf, Nat.mod_eq_of_lt (show 3 + a.val < 12 by omega), Nat.mod_eq_of_lt (show 6 + a.val < 12 by omega), Nat.mod_eq_of_lt (show 9 + a.val < 12 by omega),
    Nat.mod_eq_of_lt (show 3 + b.val < 12 by omega), Nat.mod_eq_of_lt (show 6 + b.val < 12 by omega), Nat.mod_eq_of_lt (show 9 + b.val < 12 by omega)]
  rfl

/-- How far apart in the sequence. -/
theorem hop_apply : hop (F := Ideal) p (ix2 r 0) = Model.hop r i := by
  pointwise [hop]
  rw [h, num_ofNat _ (by omega), num_ofNat _ (by omega), Model.hop]
  have e : Ideal.ofBits .f32 989855744#32 = ((1 / 512 : ℝ) : EReal) := by
    simp [Ideal.ofBits, Ideal.ieee, -EReal.coe_mul]; norm_num
  rw [e, ← EReal.coe_sub, ← EReal.coe_mul, mul_one_div]

/-- The features in the kernel's order. -/
theorem feat_apply (st : FVec Ideal S12x512 .f32) (c : Fin 32) :
    feat (frames st) p (ix2 r c) =
      if h : c.val < 16 then Model.feat (posOf st) (axesOf st) r i ⟨3 + c.val, by omega⟩
      else if h : c.val < 19 then Model.feat (posOf st) (axesOf st) r i ⟨c.val - 16, by omega⟩
      else if h : c.val < 29 then Model.feat (posOf st) (axesOf st) r i ⟨c.val, by omega⟩
      else 0 := by
  have hz (k : ℕ) (hk : k < 1) : (⟨k, hk⟩ : Fin 1) = 0 := Fin.ext (by simp; omega)
  pointwise [feat]
  by_cases h16 : c.val < 16
  · rw [dif_pos h16, dif_pos h16, feat_bump _ _ _ _ ⟨c.val, h16⟩ _ rfl]
    exact bumps_apply h st _
  rw [dif_neg h16, dif_neg h16]
  by_cases h19 : c.val < 19
  · rw [dif_pos (by omega), dif_pos h19, feat_direction _ _ _ _ ⟨c.val - 16, by omega⟩ _ rfl]
    exact direction_apply h st _
  rw [dif_neg (by omega), dif_neg h19]
  have ht (a b : Fin 3) (hc : c.val = 19 + (3 * a.val + b.val)) (hlt : c.val < 29) (k : ℕ) (hk : k < 1) :
      turn (frames st) (slab (frames st) p) a.val b.val (ix2 r ⟨k, hk⟩) =
        if h : c.val < 29 then Model.feat (posOf st) (axesOf st) r i ⟨c.val, h⟩ else 0 := by
    rw [dif_pos hlt, hz k hk, turn_apply h st a b, feat_turn _ _ _ _ a b _ hc]
  refine dite_to (fun _ => ht 0 0 (by simp; omega) (by omega) _ _) fun _ => ?_
  refine dite_to (fun _ => ht 0 1 (by simp; omega) (by omega) _ _) fun _ => ?_
  refine dite_to (fun _ => ht 0 2 (by simp; omega) (by omega) _ _) fun _ => ?_
  refine dite_to (fun _ => ht 1 0 (by simp; omega) (by omega) _ _) fun _ => ?_
  refine dite_to (fun _ => ht 1 1 (by simp; omega) (by omega) _ _) fun _ => ?_
  refine dite_to (fun _ => ht 1 2 (by simp; omega) (by omega) _ _) fun _ => ?_
  refine dite_to (fun _ => ht 2 0 (by simp; omega) (by omega) _ _) fun _ => ?_
  refine dite_to (fun _ => ht 2 1 (by simp; omega) (by omega) _ _) fun _ => ?_
  refine dite_to (fun _ => ht 2 2 (by simp; omega) (by omega) _ _) fun _ => ?_
  refine dite_to (fun _ => ?_) fun _ => ?_
  · rw [hz _ (by omega), hop_apply h, dif_pos (by omega), feat_hop _ _ _ _ _ (by simp; omega)]
  · rw [dif_neg (by omega)]

end Pick

end Cert.KernelIdeal.Block
-- ==== Proof.Loads.lean ====
/-
What the body loads: each array, matrix or row it reads is the corresponding part of the block handed to it, and the
columns it reads back from its scratch are the positions and the axes of the block's residues.
-/
module

public import proofs.«01_k».proof.Proof.Found
public import proofs.«01_k».proof.Proof.ValueFrames
public import proofs.«01_k».proof.Proof.ValuePairs
public import Idealize.ShloMosaic.Lib.Pipeline.ValueKit.Tiles

@[expose] public section

set_option maxRecDepth 16384

noncomputable section

namespace Cert.KernelIdeal.Block

open Cert.KernelIdeal Cert.KernelIdeal.Gen Idealize.ShloMosaic Idealize.ShloMosaic.TcCoe
open Cert

/-- A load of a whole view's rectangle, at an index. -/
theorem load_apply {S : Shape} (r : Memref sig .tc .vmem S .f32) (h : r.IsWhole) (x : Vec Ideal S .f32) (off size : Fin S.rank → ℕ)
    (inb : ∀ a, off a + size a ≤ S.size a) (j : (⟨S.rank, size⟩ : Shape).Idx) (k : S.Idx) (hk : ∀ a, (k a).val = off a + (j a).val) :
    View.readAt (Elt Ideal) r.view (Rect.unit off size inb).toLoadRect (h.unread x) j = x k := by
  rw [View.readAt_eq_ld, Memref.IsWhole.read_unread]
  exact View.ld_unit_apply_of x off size inb j k hk

/-- A loaded page, entry by entry. -/
theorem page_apply {M N : ℕ} (r : Memref sig .tc .vmem ⟨3, ![3, M, N]⟩ .f32) (h : r.IsWhole) (x : Vec Ideal ⟨3, ![3, M, N]⟩ .f32) (l : Fin 3)
    (a : Fin M) (b : Fin N) : page r h x l.val (ix2 a b) = x (ix3 l a b) := by
  have hl : l.val % 3 = l.val := Nat.mod_eq_of_lt l.isLt
  refine (shapeCast_apply (s := ⟨3, ![1, M, N]⟩) (t := ⟨2, ![M, N]⟩) _ (cast_page M N) (ix2 a b) (ix3 0 a b) ?_).trans ?_
  · rw [Shape.rowMajor_val_two, Shape.rowMajor_val_three]
    simp
  · refine load_apply r h x _ _ _ (ix3 0 a b) (ix3 l a b) fun c => ?_
    match c with
    | ⟨0, _⟩ => show l.val = l.val % 3 + 0; omega
    | ⟨1, _⟩ => show a.val = 0 + a.val; omega
    | ⟨2, _⟩ => show b.val = 0 + b.val; omega

/-- A loaded line, entry by entry. -/
theorem line_apply {R N : ℕ} (r : Memref sig .tc .vmem ⟨2, ![R, N]⟩ .f32) (h : r.IsWhole) (x : Vec Ideal ⟨2, ![R, N]⟩ .f32) (l : Fin R)
    (b : Fin N) : line r h x l.val l.isLt (ix2 0 b) = x (ix2 l b) := by
  refine load_apply r h x _ _ _ (ix2 0 b) (ix2 l b) fun c => ?_
  match c with
  | ⟨0, _⟩ => show l.val = l.val + 0; omega
  | ⟨1, _⟩ => show b.val = 0 + b.val; omega

/-- A loaded tap's matrix, entry by entry. -/
theorem tap_apply (r : Memref sig .tc .vmem S4x3x128x128 .f32) (h : r.IsWhole) (x : Vec Ideal S4x3x128x128 .f32) (i : Fin 4) (t : Fin 3)
    (a b : Fin 128) : tap r h x i.val t.val (ix2 a b) = x (ix4 i t a b) := by
  have hs : ∀ v : FVec Ideal S1x1x128x128 .f32, shapeCast S128x128 v shapeCasts_S1x1x128x128_S128x128 (ix2 a b) = v (ix4 0 0 a b) := fun v => by
    pointwise
  refine (hs _).trans ?_
  refine load_apply r h x _ _ _ (ix4 0 0 a b) (ix4 i t a b) fun c => ?_
  match c with
  | ⟨0, _⟩ => show i.val = i.val % 4 + 0; omega
  | ⟨1, _⟩ => show t.val = t.val % 3 + 0; omega
  | ⟨2, _⟩ => show a.val = 0 + a.val; omega
  | ⟨3, _⟩ => show b.val = 0 + b.val; omega

/-- A matrix loaded whole, entry by entry. -/
theorem whole2_apply {M N : ℕ} (r : Memref sig .tc .vmem ⟨2, ![M, N]⟩ .f32) (h : r.IsWhole) (x : Vec Ideal ⟨2, ![M, N]⟩ .f32)
    (hb : ∀ a, (![0, 0] : Fin 2 → ℕ) a + (![M, N] : Fin 2 → ℕ) a ≤ (⟨2, ![M, N]⟩ : Shape).size a) (a : Fin M) (b : Fin N) :
    whole2 r h x hb (ix2 a b) = x (ix2 a b) := by
  refine load_apply r h x _ _ _ (ix2 a b) (ix2 a b) fun c => ?_
  match c with
  | ⟨0, _⟩ => show a.val = 0 + a.val; omega
  | ⟨1, _⟩ => show b.val = 0 + b.val; omega

/-- The loaded noise, entry by entry. -/
theorem noise_apply (r : Memref sig .tc .vmem S1x512x512 .f32) (h : r.IsWhole) (x : Vec Ideal S1x512x512 .f32) (a b : Fin 512) :
    noise r h x (ix2 a b) = x (ix3 0 a b) := by
  pointwise [noise]
  refine load_apply r h x _ _ _ (ix3 0 a b) (ix3 0 a b) fun c => ?_
  match c with
  | ⟨0, _⟩ => show 0 = 0 + 0; omega
  | ⟨1, _⟩ => show a.val = 0 + a.val; omega
  | ⟨2, _⟩ => show b.val = 0 + b.val; omega

/-- The loaded coordinates, entry by entry. -/
theorem points_apply (r : Memref sig .tc .vmem S3x4096 .f32) (h : r.IsWhole) (x : Vec Ideal S3x4096 .f32) (c : Fin 3) (n : Fin 4096) :
    points r h x (ix2 c n) = x (ix2 c n) := by
  pointwise [points]
  exact whole2_apply r h x _ c n

/-! ## The scratch -/

/-- Four three-row arrays, one under the other. -/
def stacked (u : Fin 4 → FVec Ideal S3x4096 .f32) : List (View.Piece (Elt Ideal) S12x4096 .f32) :=
  [⟨Rect.unit (s := S12x4096) ![9, 0] S3x4096.size inb_S12x4096_S3x4096_9_0, u 3⟩,
   ⟨Rect.unit (s := S12x4096) ![6, 0] S3x4096.size inb_S12x4096_S3x4096_6_0, u 2⟩,
   ⟨Rect.unit (s := S12x4096) ![3, 0] S3x4096.size inb_S12x4096_S3x4096_3_0, u 1⟩,
   ⟨Rect.unit (s := S12x4096) ![0, 0] S3x4096.size inb_S12x4096_S3x4096_0_0, u 0⟩]

/-- Where three stored rows lie among the twelve. -/
theorem under (k : ℕ) (inb) (c : Fin 3) (n : Fin 4096) (hk : k + c.val < 12) :
    (Rect.unit (s := S12x4096) ![k, 0] S3x4096.size inb).emb (ix2 c n) = ix2 ⟨k + c.val, hk⟩ n := by
  funext a
  refine Fin.ext ((Rect.idx_unit_val (s := S12x4096) ![k, 0] S3x4096.size inb (ix2 c n) a).trans ?_)
  match a with
  | ⟨0, _⟩ => rfl
  | ⟨1, _⟩ => show 0 + n.val = n.val; omega

/-- The other rows are not among those three. -/
theorem not_under (k : ℕ) (inb) (a : Fin 12) (n : Fin 4096) (h : a.val < k ∨ k + 3 ≤ a.val) :
    (ix2 a n : S12x4096.Idx) ∉ (Rect.unit (s := S12x4096) ![k, 0] S3x4096.size inb).set := by
  intro hm
  obtain ⟨x, hx⟩ := LoadRect.exists_idx_of_mem _ hm
  have h0 := congrArg (fun y : S12x4096.Idx => (y 0).val) hx
  have h1 : k + (x 0).val = a.val := (Rect.idx_unit_val (s := S12x4096) ![k, 0] S3x4096.size inb x 0).symm.trans h0
  have h2 : (x 0).val < 3 := (x 0).isLt
  omega

/-- Off the last piece, the canon of the pieces before. -/
theorem skip (k : ℕ) (inb) (w : FVec Ideal S3x4096 .f32) (L : List (View.Piece (Elt Ideal) S12x4096 .f32)) (a : Fin 12) (n : Fin 4096)
    (h : a.val < k ∨ k + 3 ≤ a.val) :
    View.canon (⟨Rect.unit (s := S12x4096) ![k, 0] S3x4096.size inb, w⟩ :: L) (ix2 a n) = View.canon L (ix2 a n) :=
  View.canon_cons_of_not_mem _ _ (not_under k inb a n h)

/-- Under the last piece, its payload. -/
theorem canon_at {S : Shape} {e : EltTy} (r : Rect S) (w : r.shape.Idx → Elt Ideal e) (L : List (View.Piece (Elt Ideal) S e)) (x : r.shape.Idx)
    (y : S.Idx) (h : r.emb x = y) : View.canon (⟨r, w⟩ :: L) y = w x := by
  subst h
  exact View.canon_cons_emb r w L x

/-- Under the last piece, its entry. -/
theorem take (k : ℕ) (inb) (w : FVec Ideal S3x4096 .f32) (L : List (View.Piece (Elt Ideal) S12x4096 .f32)) (a : Fin 12) (c : Fin 3) (n : Fin 4096)
    (h : a.val = k + c.val) :
    View.canon (⟨Rect.unit (s := S12x4096) ![k, 0] S3x4096.size inb, w⟩ :: L) (ix2 a n) = w (ix2 c n) := by
  have e : (Rect.unit (s := S12x4096) ![k, 0] S3x4096.size inb).emb (ix2 c n) = (ix2 a n : S12x4096.Idx) := by
    rw [under k inb c n (by omega)]
    exact congrArg (fun a => ix2 a n) (Fin.ext h.symm)
  have g := canon_at (Rect.unit (s := S12x4096) ![k, 0] S3x4096.size inb) w L (ix2 c n : S3x4096.Idx) (ix2 a n : S12x4096.Idx) e
  exact g

/-- The four stores, read back row by row. -/
theorem stacked_apply (u : Fin 4 → FVec Ideal S3x4096 .f32) (q : Fin 4) (c : Fin 3) (a : Fin 12) (ha : a.val = 3 * q.val + c.val) (n : Fin 4096) :
    View.canon (stacked u) (ix2 a n) = u q (ix2 c n) := by
  have hc := c.isLt
  unfold stacked
  match q, ha with
  | ⟨3, _⟩, ha => exact take 9 _ _ _ a c n ha
  | ⟨2, _⟩, ha =>
    have ha : a.val = 6 + c.val := ha
    rw [skip 9 _ _ _ a n (by omega)]
    exact take 6 _ _ _ a c n ha
  | ⟨1, _⟩, ha =>
    have ha : a.val = 3 + c.val := ha
    rw [skip 9 _ _ _ a n (by omega), skip 6 _ _ _ a n (by omega)]
    exact take 3 _ _ _ a c n ha
  | ⟨0, _⟩, ha =>
    have ha : a.val = 0 + c.val := ha
    rw [skip 9 _ _ _ a n (by omega), skip 6 _ _ _ a n (by omega), skip 3 _ _ _ a n (by omega)]
    exact take 0 _ _ _ a c n ha

/-- The four stores cover the twelve rows. -/
theorem stacked_cover (u : Fin 4 → FVec Ideal S3x4096 .f32) (a : Fin 12) (n : Fin 4096) :
    ∃ p ∈ stacked u, (ix2 a n : S12x4096.Idx) ∈ p.1.set := by
  have ha := a.isLt
  have hit : ∀ (k : ℕ) (inb) (c : Fin 3) (hk : k + c.val = a.val), (ix2 a n : S12x4096.Idx) ∈ (Rect.unit (s := S12x4096) ![k, 0] S3x4096.size inb).set := by
    intro k inb c hk
    have e : (ix2 a n : S12x4096.Idx) = (Rect.unit (s := S12x4096) ![k, 0] S3x4096.size inb).emb (ix2 c n) := by
      rw [under k inb c n (by omega)]
      exact congrArg (fun a => ix2 a n) (Fin.ext hk.symm)
    rw [e]
    exact LoadRect.idx_mem _ _
  unfold stacked
  by_cases h3 : a.val < 3
  · exact ⟨_, List.mem_cons_of_mem _ (List.mem_cons_of_mem _ (List.mem_cons_of_mem _ (List.mem_cons_self ..))), hit 0 inb_S12x4096_S3x4096_0_0 ⟨a.val, by omega⟩ (by simp)⟩
  by_cases h6 : a.val < 6
  · exact ⟨_, List.mem_cons_of_mem _ (List.mem_cons_of_mem _ (List.mem_cons_self ..)), hit 3 inb_S12x4096_S3x4096_3_0 ⟨a.val - 3, by omega⟩ (by simp; omega)⟩
  by_cases h9 : a.val < 9
  · exact ⟨_, List.mem_cons_of_mem _ (List.mem_cons_self ..), hit 6 inb_S12x4096_S3x4096_6_0 ⟨a.val - 6, by omega⟩ (by simp; omega)⟩
  · exact ⟨_, List.mem_cons_self .., hit 9 inb_S12x4096_S3x4096_9_0 ⟨a.val - 9, by omega⟩ (by simp; omega)⟩

/-- Where a block's columns start. -/
theorem off_block (i : grid0.Coords) : k0_off1 i = ![0, (i 0).val * 512] := by
  have h : (i 0).val < 8 := (i 0).isLt
  have e : ∀ k : Fin 8, (Scalar.indexCast (Scalar.muli (BitVec.ofNat 32 k.val) 512#32)).toNat = k.val * 512 := by decide +kernel
  funext a
  match a with
  | ⟨0, _⟩ => rfl
  | ⟨1, _⟩ => exact e ⟨_, h⟩

section Columns
variable (i : grid0.Coords) (b : Fin 8) (hb : (i 0).val = b.val) (r1 : Memref sig .tc .vmem S3x4096 .f32) (h1 : r1.IsWhole)
  (r21 : Memref sig .tc .vmem S12x4096 .f32) (x0 : Vec Ideal S3x4096 .f32)
include hb

/-- A block's columns hold the places and the three axes of its residues. -/
theorem columns_apply (q : Fin 4) (c : Fin 3) (r : Fin 512) :
    columns i r1 h1 r21 x0 (ix2 ⟨3 * q.val + c.val, by omega⟩ r)
      = (![points r1 h1 x0, axisB (heading (points r1 h1 x0)), axisN (heading (points r1 h1 x0)), axisC (heading (points r1 h1 x0))] : Fin 4 → FVec Ideal S3x4096 .f32) q
          (ix2 c ⟨b.val * 512 + r.val, by omega⟩) := by
  have e : (Rect.unit (s := S12x4096) (k0_off1 i) S12x512.size (k0_off1_inb i)).idx (ix2 (⟨3 * q.val + c.val, by omega⟩ : Fin 12) r)
      = (ix2 (⟨3 * q.val + c.val, by omega⟩ : Fin 12) (⟨b.val * 512 + r.val, by omega⟩ : Fin 4096) : S12x4096.Idx) := by
    funext a
    refine Fin.ext ((Rect.idx_unit_val (s := S12x4096) (k0_off1 i) S12x512.size (k0_off1_inb i) _ a).trans ?_)
    refine (congrArg (fun f : Fin 2 → ℕ => f a + _) (off_block i)).trans ?_
    match a with
    | ⟨0, _⟩ => show 0 + (3 * q.val + c.val) = _; simp
    | ⟨1, _⟩ => show (i 0).val * 512 + r.val = b.val * 512 + r.val; rw [hb]
  have hs : ∀ v : FVec Ideal S3x4096 .f32, shapeCast S3x4096 v shapeCasts_S3x4096_S3x4096 = v := fun v => by
    funext j
    exact shapeCast_apply v _ j j rfl
  have hu : ∀ p0 p1 p2 p3 : FVec Ideal S3x4096 .f32, (View.read (Elt Ideal) r21.view (r21.view.writes (Elt Ideal) r21.view.junk (stacked ![p0, p1, p2, p3])))
      (ix2 (⟨3 * q.val + c.val, by omega⟩ : Fin 12) (⟨b.val * 512 + r.val, by omega⟩ : Fin 4096)) = (![p0, p1, p2, p3] : Fin 4 → FVec Ideal S3x4096 .f32) q (ix2 c ⟨b.val * 512 + r.val, by omega⟩) := by
    intro p0 p1 p2 p3
    rw [View.read_writes_apply_eq_canon _ _ _ _ (stacked_cover _ _ _), stacked_apply _ q c _ rfl]
  unfold columns
  rw [hs, hs, hs, hs, View.readAt_apply]
  refine (congrArg _ e).trans ?_
  exact hu _ _ _ _

/-- The positions of the block's residues. -/
theorem posOf_columns : posOf (columns i r1 h1 r21 x0) = fun r => cols x0 ⟨b.val * 512 + r.val, by omega⟩ := by
  funext r c
  have h := columns_apply i b hb r1 h1 r21 x0 0 c r
  simp only [Fin.val_zero, mul_zero, zero_add] at h
  refine h.trans ?_
  exact points_apply r1 h1 x0 c _

/-- The axes of the block's residues. -/
theorem axesOf_columns : axesOf (columns i r1 h1 r21 x0) = fun r => Model.axis (cols x0) ⟨b.val * 512 + r.val, by omega⟩ := by
  have hp : cols (points r1 h1 x0) = cols x0 := funext fun n => funext fun c => points_apply r1 h1 x0 c n
  funext r v a
  have e : (ix2 (⟨3 + 3 * v.val + a.val, by omega⟩ : Fin 12) r : S12x512.Idx) = ix2 (⟨3 * (v.succ : Fin 4).val + a.val, by simp; omega⟩ : Fin 12) r :=
    congrArg (fun k => ix2 k r) (Fin.ext (by simp; omega))
  refine (congrArg _ e).trans ((columns_apply i b hb r1 h1 r21 x0 v.succ a r).trans ?_)
  rw [← hp]
  fin_cases v
  · exact congrFun (axisB_apply (points r1 h1 x0) _) a
  · exact congrFun (axisN_apply (points r1 h1 x0) _) a
  · exact congrFun (axisC_apply (points r1 h1 x0) _) a

end Columns

end Cert.KernelIdeal.Block
-- ==== Proof.Ranked.lean ====
/-
The order in which neighbours are taken, and that a stable sort from large to small lists them in that order.
-/
module

public import Idealize.ShloMosaic.Lib.SortFacts
public import Mathlib.Data.EReal.Basic

@[expose] public section

noncomputable section

namespace Cert.Model

open Idealize.ShloMosaic

/-- The first columns in falling order of their entries, equal entries in rising order of their numbers. -/
structure Ranked {N K : ℕ} (c : Fin N → EReal) (s : Fin K → Fin N) : Prop where
  /-- No column comes twice. -/
  inj : Function.Injective s
  /-- A column that has not come by round `k` is behind the one that comes then. -/
  first : ∀ k j, (∀ k' < k, j ≠ s k') → j ≠ s k → c j < c (s k) ∨ (c j = c (s k) ∧ s k < j)

section
variable {N : ℕ} (c : Fin N → EReal) {R : Fin N → Fin N → Bool} (hR : ∀ a b, R a b = true ↔ c b < c a)
include hR

/-- Inserting a column ahead of later ones keeps the order. -/
theorem insert_ordered (a : Fin N) (l : List (Fin N)) (ha : ∀ b ∈ l, a < b)
    (hl : l.Pairwise fun x y => c y < c x ∨ (c y = c x ∧ x < y)) :
    (insertBefore R a l).Pairwise fun x y => c y < c x ∨ (c y = c x ∧ x < y) := by
  induction l with
  | nil => exact List.pairwise_singleton _ _
  | cons b l ih =>
    rw [List.pairwise_cons] at hl
    unfold insertBefore
    split
    · rename_i h
      refine List.pairwise_cons.mpr ⟨fun x hx => ?_, ih (fun y hy => ha y (List.mem_cons_of_mem _ hy)) hl.2⟩
      rcases List.mem_cons.mp ((perm_insertBefore R a l).mem_iff.mp hx) with rfl | hx
      · exact Or.inl ((hR _ _).1 h)
      · exact hl.1 x hx
    · rename_i h
      have hba : c b ≤ c a := not_lt.1 fun g => h ((hR _ _).2 g)
      refine List.pairwise_cons.mpr ⟨fun x hx => ?_, List.pairwise_cons.mpr hl⟩
      have hax := ha x hx
      rcases List.mem_cons.mp hx with rfl | hx
      · rcases hba.lt_or_eq with g | g
        · exact Or.inl g
        · exact Or.inr ⟨g, hax⟩
      · rcases hl.1 x hx with g | g
        · exact Or.inl (g.trans_le hba)
        · rcases hba.lt_or_eq with g' | g'
          · exact Or.inl (g.1 ▸ g')
          · exact Or.inr ⟨g.1.trans g', hax⟩

/-- A stable sort of rising columns is in falling order of their entries, equal entries in rising order. -/
theorem stable_ordered (l : List (Fin N)) (h : l.Pairwise (· < ·)) :
    (stableSort R l).Pairwise fun x y => c y < c x ∨ (c y = c x ∧ x < y) := by
  induction l with
  | nil => exact List.Pairwise.nil
  | cons a l ih =>
    rw [List.pairwise_cons] at h
    unfold stableSort
    exact insert_ordered c hR a _ (fun b hb => h.1 b ((perm_stableSort R l).mem_iff.mp hb)) (ih h.2)

/-- The first places of the stable sort are the order in which neighbours are taken. -/
theorem ranked_sorted {K : ℕ} (hK : K ≤ N) : Ranked c fun k : Fin K => sortedFrom R (k.castLE hK) where
  inj a b h := Fin.castLE_injective _ (sortedFrom_injective R h)
  first k j hlt hne := by
    obtain ⟨m, rfl⟩ := sortedFrom_surjective R j
    have hk : k.castLE hK < m := by
      by_contra h
      rcases lt_or_eq_of_le (not_lt.1 h) with g | g
      · exact hlt ⟨m.val, lt_trans (Fin.lt_def.1 g) k.isLt⟩ (by rw [Fin.lt_def] at g ⊢; exact g) rfl
      · exact hne (by rw [g])
    have hp : ∀ a b : Fin (sortPositions N R).length, a < b → c ((sortPositions N R).get b) < c ((sortPositions N R).get a) ∨
        (c ((sortPositions N R).get b) = c ((sortPositions N R).get a) ∧ (sortPositions N R).get a < (sortPositions N R).get b) :=
      List.pairwise_iff_get.mp (stable_ordered c hR (List.finRange N) (List.pairwise_lt_finRange N))
    unfold sortedFrom
    exact hp _ _ (by simp only [Fin.lt_def, Fin.val_cast]; exact hk)

end

end Cert.Model
-- ==== Proof.ValuePicks.lean ====
/-
The kernel's picks: fifteen rounds, each taking the lowest column that holds the largest entry left, pick the columns
in the order of their entries, equal entries in the order of their numbers.
-/
module

public import proofs.«01_k».proof.Proof.ValuePairs
public import proofs.«01_k».proof.Proof.Ranked
public import Idealize.ShloMosaic.Lib.WordArith

@[expose] public section

set_option maxRecDepth 16384

noncomputable section

namespace Cert.KernelIdeal.Block

open Cert.KernelIdeal Idealize.ShloMosaic
open Cert

variable [Facts]

/-- The signed minimum of words. -/
theorem toInt_minsi (x y : BitVec 32) : (IntOp.minsi x y).toInt = min x.toInt y.toInt := by
  unfold IntOp.minsi
  by_cases h : x.slt y = true
  · rw [if_pos h]
    have := BitVec.slt_iff_toInt_lt.mp h
    omega
  · rw [if_neg h]
    have : ¬ x.toInt < y.toInt := fun g => h (BitVec.slt_iff_toInt_lt.mpr g)
    omega

/-- The signed minimum of many words. -/
theorem toInt_fold {ι : Type} [DecidableEq ι] (b : BitVec 32) (f : ι → BitVec 32) (s : Finset ι) :
    (Finset.fold IntOp.minsi b f s).toInt = Finset.fold min b.toInt (fun i => (f i).toInt) s := by
  induction s using Finset.induction_on with
  | empty => rfl
  | insert a s ha ih => rw [Finset.fold_insert ha, Finset.fold_insert ha, toInt_minsi, ih]

/-- The smallest of the numbers of the columns that hold the largest entry. -/
theorem best_apply (w : FVec Ideal S512x512 .f32) (r i : Fin 512) (hm : ∀ j, w (ix2 r j) ≤ w (ix2 r i))
    (hl : ∀ j, j < i → w (ix2 r j) < w (ix2 r i)) : best w (ix2 r 0) = BitVec.ofNat 32 i.val := by
  pointwise [best, lane]
  have e : Finset.fold max (Ideal.ofBits .f32 4286578688#32) (fun x => w (ix2 r x)) Finset.univ = w (ix2 r i) := by
    apply le_antisymm
    · rw [Finset.fold_max_le]
      refine ⟨?_, fun j _ => hm j⟩
      have : Ideal.ofBits .f32 4286578688#32 = ⊥ := by simp [Ideal.ofBits, Ideal.ieee]
      rw [this]; exact bot_le
    · rw [Finset.le_fold_max]
      exact Or.inr ⟨i, Finset.mem_univ _, le_rfl⟩
  rw [e]
  apply BitVec.eq_of_toInt_eq
  rw [toInt_fold]
  apply le_antisymm
  · rw [Finset.fold_min_le]
    refine Or.inr ⟨i, Finset.mem_univ _, ?_⟩
    rw [if_pos le_rfl]
  · rw [Finset.le_fold_min]
    refine ⟨?_, fun j _ => ?_⟩
    · rw [WordArith.toInt_ofNat_small _ (by omega)]
      show (i.val : ℤ) ≤ 2147483647
      omega
    · split
      · rename_i h
        rw [WordArith.toInt_ofNat_small _ (by omega), WordArith.toInt_ofNat_small _ (by omega)]
        by_contra g
        exact absurd (hl j (by omega)) (not_lt.2 h)
      · rw [WordArith.toInt_ofNat_small _ (by omega)]
        show (i.val : ℤ) ≤ 512
        omega

/-- The named mask value is −∞. -/
theorem named_taken : Named.named (F := Ideal) κ "taken" (φ := .f32) 0xF149F2CA#32 = (⊥ : EReal) :=
  IdealRules.named_const.ideal_named_scalar _ _ _ _ rfl

section
variable {w : FVec Ideal S512x512 .f32} {r : Fin 512} {s : Fin 15 → Fin 512}
  (hs : Model.Ranked (fun j => w (ix2 r j)) s) (hf : ∀ j, (⊥ : EReal) < w (ix2 r j))
include hs hf

/-- Round `k` picks the `k`-th column, if the columns of the rounds before it are what is left out. -/
theorem best_left (n : ℕ) (hn : n < 15)
    (ih : ∀ j, left w n (ix2 r j) = if ∃ k' : Fin 15, k'.val < n ∧ j = s k' then (⊥ : EReal) else w (ix2 r j)) :
    best (left w n) (ix2 r 0) = BitVec.ofNat 32 (s ⟨n, hn⟩).val := by
  have h0 : left w n (ix2 r (s ⟨n, hn⟩)) = w (ix2 r (s ⟨n, hn⟩)) := by
    rw [ih, if_neg]
    rintro ⟨k', h, e⟩
    have := hs.inj e
    rw [← this] at h
    exact lt_irrefl _ h
  have hc (j : Fin 512) (hj : j ≠ s ⟨n, hn⟩) : left w n (ix2 r j) < w (ix2 r (s ⟨n, hn⟩)) ∨ (left w n (ix2 r j) = w (ix2 r (s ⟨n, hn⟩)) ∧ s ⟨n, hn⟩ < j) := by
    rw [ih]
    split
    · exact Or.inl (hf _)
    · rename_i g
      exact hs.first ⟨n, hn⟩ j (fun k' h e => g ⟨k', h, e⟩) hj
  apply best_apply
  · intro j
    rw [h0]
    by_cases hj : j = s ⟨n, hn⟩
    · rw [hj, h0]
    · rcases hc j hj with h | h
      · exact h.le
      · exact h.1.le
  · intro j hlt
    rw [h0]
    rcases hc j (ne_of_lt hlt) with h | h
    · exact h
    · exact absurd hlt (not_lt.2 h.2.le)

/-- What is left after `k` rounds. -/
theorem left_apply (k : ℕ) (hk : k ≤ 15) (j : Fin 512) :
    left w k (ix2 r j) = if ∃ k' : Fin 15, k'.val < k ∧ j = s k' then (⊥ : EReal) else w (ix2 r j) := by
  induction k generalizing j with
  | zero => rw [if_neg (by rintro ⟨_, h, _⟩; omega)]; rfl
  | succ n ih =>
    have ih := ih (by omega)
    have hp : isPick (best (left w n)) (ix2 r j) = 1 ↔ j = s ⟨n, by omega⟩ := isPick_apply (best_left hs hf n (by omega) ih) j
    show select (isPick (best (left w n))) (broadcast S512x512 (Named.named κ "taken" 0xF149F2CA#32)) (left w n) (ix2 r j) = _
    pointwise
    rw [ih, named_taken, Scalar.select]
    have e : (∃ k' : Fin 15, k'.val < n + 1 ∧ j = s k') ↔ (j = s ⟨n, by omega⟩ ∨ ∃ k' : Fin 15, k'.val < n ∧ j = s k') := by
      constructor
      · rintro ⟨k', h, g⟩
        by_cases hk : k'.val = n
        · exact Or.inl (by rw [g]; congr 1; exact Fin.ext hk)
        · exact Or.inr ⟨k', by omega, g⟩
      · rintro (g | ⟨k', h, g⟩)
        · exact ⟨⟨n, by omega⟩, by simp, g⟩
        · exact ⟨k', by omega, g⟩
    by_cases hj : j = s ⟨n, by omega⟩
    · rw [if_pos (hp.2 hj), if_pos (e.2 (Or.inl hj))]
    · rw [if_neg (fun h => hj (hp.1 h))]
      simp only [e, hj, false_or]

/-- Round `k` picks the `k`-th column. -/
theorem pick_apply (k : Fin 15) : pick w k.val (ix2 r 0) = BitVec.ofNat 32 (s k).val :=
  best_left hs hf k.val k.isLt (left_apply hs hf k.val k.isLt.le)

end

end Cert.KernelIdeal.Block
-- ==== Proof.ValueLayer.lean ====
/-
One attention layer, as the kernel computes it, over the reals extended by the two infinities.
-/
module

public import proofs.«01_k».proof.Proof.ValuePairs

@[expose] public section

set_option maxRecDepth 16384

noncomputable section

namespace Cert.KernelIdeal.Block

open Cert.KernelIdeal Idealize.ShloMosaic
open Cert

variable [Facts]

/-- Row `r` of round `k`. -/
def rowOf (k : Fin 15) (r : Fin 512) : Fin 8192 := ⟨512 * k.val + r.val, by omega⟩

/-- A neighbour's rows in the stack. -/
theorem part_apply {n : ℕ} (v : FVec Ideal ⟨2, ![8192, n]⟩ .f32) (k : Fin 15) (r : Fin 512) (c : Fin n) :
    part v k.val (ix2 r c) = v (ix2 (rowOf k r) c) := by
  unfold part extractStridedSlice
  congr 1
  funext a
  apply Fin.ext
  have hk : k.val % 16 = k.val := Nat.mod_eq_of_lt (by omega)
  match a with
  | ⟨0, _⟩ => show 512 * (k.val % 16) + r.val = 512 * k.val + r.val; rw [hk]
  | ⟨1, _⟩ => show 0 + c.val = c.val; rw [zero_add]

/-- Blocks of 512 rows, one below the other, read at a row: the block is the quotient, the row in it the remainder. -/
theorem blocks_at {α : Type} {R C : ℕ} (j : (⟨2, ![R, C]⟩ : Shape).Idx) (f : ℕ → (⟨2, ![512, C]⟩ : Shape).Idx → α) :
    ∀ (L : List ((s : Shape) × (s.Idx → α))) (s : ℕ) (_ : ∀ i (h : i < L.length), L[i] = ⟨⟨2, ![512, C]⟩, f (s + i)⟩)
      (hs : ∀ u ∈ L.map (·.1), u.FitsOff ⟨2, ![R, C]⟩ (0 : Fin 2)) (c : ℕ) (hc : c < (axisSizes ⟨2, ![R, C]⟩ (0 : Fin 2) L).sum)
      (k : ℕ) (r : Fin 512) (_ : c = 512 * k + r.val),
      concatenateAt ⟨2, ![R, C]⟩ (0 : Fin 2) j L hs c hc = f (s + k) (ix2 r (j 1))
  | [], _, _, _, _, hc, _, _, _ => absurd hc (Nat.not_lt_zero _)
  | [p], s, hL, hs, c, hc, k, r, e => by
    have hp : p = ⟨⟨2, ![512, C]⟩, f s⟩ := hL 0 (by simp)
    subst hp
    have hlt : c < 512 := by
      rw [axisSizes_cons _ _ _ [] (hs _ List.mem_cons_self)] at hc
      simpa [axisSizes] using hc
    obtain rfl : k = 0 := by omega
    rw [concatenateAt_singleton]
    congr 1
    funext a
    apply Fin.ext
    match a with
    | ⟨0, _⟩ => show c = r.val; omega
    | ⟨1, _⟩ => rfl
  | p :: q :: xs, s, hL, hs, c, hc, k, r, e => by
    have hp : p = ⟨⟨2, ![512, C]⟩, f s⟩ := hL 0 (by simp)
    subst hp
    rw [concatenateAt_cons]
    refine dite_to (fun h => ?_) fun h => ?_
    · have h : c < 512 := h
      obtain rfl : k = 0 := by omega
      show f s _ = f s _
      congr 1
      funext a
      apply Fin.ext
      match a with
      | ⟨0, _⟩ => show c = r.val; omega
      | ⟨1, _⟩ => rfl
    · have h : ¬c < 512 := h
      have hk : s + k = s + 1 + (k - 1) := by omega
      rw [hk]
      refine blocks_at j f (q :: xs) (s + 1) (fun i hi => ?_) _ _ _ (k - 1) r ?_
      · have := hL (i + 1) (by simpa using hi)
        rw [show s + 1 + i = s + (i + 1) by omega]
        exact this
      · show c - 512 = _
        omega

/-- A stack of wide pieces. -/
theorem stack128_apply (f : ℕ → FVec Ideal S512x128 .f32) (k : Fin 15) (r : Fin 512) (c : Fin 128) :
    stack128 f (ix2 (rowOf k r) c) = f k.val (ix2 r c) := by
  refine (concatenate_apply _ _ _ _ _).trans ?_
  refine (blocks_at (ix2 (rowOf k r) c) f _ 0 (fun i h => by rw [List.getElem_ofFn, zero_add]) _ _ _ k.val r rfl).trans ?_
  rw [zero_add]
  rfl

/-- A stack of narrow pieces. -/
theorem stack32_apply (f : ℕ → FVec Ideal S512x32 .f32) (k : Fin 15) (r : Fin 512) (c : Fin 32) :
    stack32 f (ix2 (rowOf k r) c) = f k.val (ix2 r c) := by
  refine (concatenate_apply _ _ _ _ _).trans ?_
  refine (blocks_at (ix2 (rowOf k r) c) f _ 0 (fun i h => by rw [List.getElem_ofFn, zero_add]) _ _ _ k.val r rfl).trans ?_
  rw [zero_add]
  rfl

/-- The first rows are the sums of the input weights. -/
theorem start_apply (w : FVec Ideal S27x128 .f32) (r : Fin 512) (c : Fin 128) : start w (ix2 r c) = ∑ i : Fin 27, w (ix2 i c) := by
  pointwise [start]

/-- A number below 128, divided by sixteen. -/
theorem sixteenth_apply (n : Fin 128) (s : Shape) (x : IVec s 32) (i : s.Idx) (h : x i = BitVec.ofNat 32 n.val) :
    sixteenth x i = BitVec.ofNat 32 (n.val / 16) := by
  pointwise [sixteenth]
  rw [h]
  clear h
  revert n
  decide +kernel

/-- The matrix that sums the features of a head and takes a quarter. -/
theorem headSel_apply (f : Fin 128) (h : Fin 8) :
    headSel (F := Ideal) (ix2 f h) = (if h = Model.headOf f then 1 else 0) * ((1 / 4 : ℝ) : EReal) := by
  pointwise [headSel]
  have e : Ideal.ofBits .f32 1048576000#32 = ((1 / 4 : ℝ) : EReal) := by
    simp [Ideal.ofBits, Ideal.ieee, -EReal.coe_mul]; norm_num
  rw [e, asNum_apply]
  pointwise
  rw [sixteenth_apply f _ _ _ (by pointwise)]
  simp only [cmpi_eq, ofNat_inj (show f.val / 16 < 2 ^ 31 by omega) (show h.val < 2 ^ 31 by omega), Model.headOf, Fin.ext_iff, @eq_comm _ (f.val / 16) h.val]

/-- The matrix that spreads a head's number on its features. -/
theorem spread_apply (f : Fin 128) (h : Fin 8) :
    spread (F := Ideal) (ix2 h f) = if h = Model.headOf f then 1 else 0 := by
  rw [spread, asNum_apply]
  pointwise
  rw [sixteenth_apply f _ _ _ (by pointwise)]
  simp only [cmpi_eq, ofNat_inj (show h.val < 2 ^ 31 by omega) (show f.val / 16 < 2 ^ 31 by omega), Model.headOf, Fin.ext_iff]

/-- A hidden row: mapped, shifted and cut at zero. -/
theorem relu_apply {K : ℕ} (x : FVec Ideal ⟨2, ![512, K]⟩ .f32) (w : FVec Ideal ⟨2, ![K, 512]⟩ .f32) (b : FVec Ideal S1x512 .f32) (r c : Fin 512) :
    relu x w b (ix2 r c) = max (Model.lin (fun k => x (ix2 r k)) (fun k n => w (ix2 k n)) c + b (ix2 0 c)) 0 := by
  pointwise [relu]
  rw [mm_apply]
  rfl

/-- The network adds the model's to a row. -/
theorem network_apply (x : FVec Ideal S512x128 .f32) (m1 : FVec Ideal S128x512 .f32) (b1 : FVec Ideal S1x512 .f32) (m2 : FVec Ideal S512x512 .f32)
    (b2 : FVec Ideal S1x512 .f32) (m3 : FVec Ideal S512x128 .f32) (b3 : FVec Ideal S1x128 .f32) (r : Fin 512) (c : Fin 128) :
    network x m1 b1 m2 b2 m3 b3 (ix2 r c) =
      x (ix2 r c) + Model.lin (fun f => max (Model.lin (fun g => max (Model.lin (fun k => x (ix2 r k)) (fun k n => m1 (ix2 k n)) g + b1 (ix2 0 g)) 0)
        (fun k n => m2 (ix2 k n)) f + b2 (ix2 0 f)) 0) (fun k n => m3 (ix2 k n)) c + b3 (ix2 0 c) := by
  pointwise [network]
  rw [mm_apply]
  simp only [relu_apply]
  rfl

section Attend
variable (lg : FVec Ideal S8192x8 .f32) (r : Fin 512) (h : Fin 8)

/-- A residue's fifteen scores for a head. -/
def scoresOf (k : Fin 15) : EReal := lg (ix2 (rowOf k r) h)

/-- The running maximum is the maximum so far. -/
theorem top_step (n : ℕ) (hn : n < 15) : topScore lg n (ix2 r h) = (Finset.univ.filter fun k : Fin 15 => k.val ≤ n).sup (scoresOf lg r h) := by
  induction n with
  | zero =>
    have e : (Finset.univ.filter fun k : Fin 15 => k.val ≤ 0) = {0} := Finset.ext fun k => by
      rw [Finset.mem_filter, Finset.mem_singleton, Fin.ext_iff]; exact ⟨fun h => Nat.le_zero.1 h.2, fun h => ⟨Finset.mem_univ _, h.le⟩⟩
    rw [e, Finset.sup_singleton]
    exact part_apply lg 0 r h
  | succ n ih =>
    have e : (Finset.univ.filter fun k : Fin 15 => k.val ≤ n + 1) = insert ⟨n + 1, hn⟩ (Finset.univ.filter fun k : Fin 15 => k.val ≤ n) := Finset.ext fun k => by
      rw [Finset.mem_insert, Finset.mem_filter, Finset.mem_filter, Fin.ext_iff]
      have := Finset.mem_univ k
      exact ⟨fun h => by have h := h.2; by_cases g : k.val = n + 1; exacts [Or.inl g, Or.inr ⟨this, by omega⟩],
        fun h => ⟨this, by rcases h with h | h; exacts [by simpa using h.le, by omega]⟩⟩
    rw [e, Finset.sup_insert, ← ih (by omega), sup_comm]
    show max _ (part lg (n + 1) (ix2 r h)) = max _ _
    rw [part_apply lg ⟨n + 1, hn⟩]
    rfl

/-- The last running maximum is the largest score. -/
theorem topScore_apply : topScore lg 14 (ix2 r h) = Model.top (scoresOf lg r h) := by
  rw [top_step lg r h 14 (by norm_num), Model.top]
  congr 1

/-- The exponentials. -/
theorem weight_apply (k : Fin 15) : weight lg k.val (ix2 r h) = Model.ex (scoresOf lg r h) k := by
  pointwise [weight]
  rw [part_apply, topScore_apply]
  rfl

/-- The running sum is the sum so far. -/
theorem total_step (n : ℕ) (hn : n < 15) : total lg n (ix2 r h) = ∑ k ∈ Finset.univ.filter fun k : Fin 15 => k.val ≤ n, Model.ex (scoresOf lg r h) k := by
  induction n with
  | zero =>
    have e : (Finset.univ.filter fun k : Fin 15 => k.val ≤ 0) = {0} := Finset.ext fun k => by
      rw [Finset.mem_filter, Finset.mem_singleton, Fin.ext_iff]; exact ⟨fun h => Nat.le_zero.1 h.2, fun h => ⟨Finset.mem_univ _, h.le⟩⟩
    rw [e, Finset.sum_singleton]
    exact weight_apply lg r h 0
  | succ n ih =>
    have e : (Finset.univ.filter fun k : Fin 15 => k.val ≤ n + 1) = insert ⟨n + 1, hn⟩ (Finset.univ.filter fun k : Fin 15 => k.val ≤ n) := Finset.ext fun k => by
      rw [Finset.mem_insert, Finset.mem_filter, Finset.mem_filter, Fin.ext_iff]
      have := Finset.mem_univ k
      exact ⟨fun h => by have h := h.2; by_cases g : k.val = n + 1; exacts [Or.inl g, Or.inr ⟨this, by omega⟩],
        fun h => ⟨this, by rcases h with h | h; exacts [by simpa using h.le, by omega]⟩⟩
    rw [e, Finset.sum_insert (by simp), ← ih (by omega)]
    refine Eq.trans ?_ (add_comm _ _)
    show total lg n (ix2 r h) + weight lg (n + 1) (ix2 r h) = _
    rw [weight_apply lg r h ⟨n + 1, hn⟩]

/-- The last running sum is the sum of the exponentials. -/
theorem total_apply : total lg 14 (ix2 r h) = ∑ k, Model.ex (scoresOf lg r h) k := by
  rw [total_step lg r h 14 (by norm_num)]
  congr 1

/-- One over that sum. -/
theorem scale_apply : scale lg (ix2 r h) = Ideal.div 1 (∑ k, Model.ex (scoresOf lg r h) k) := by
  pointwise [scale]
  rw [total_apply]

/-- Dividing once and multiplying is dividing, by a sum that is not zero. -/
theorem mul_div_one (e s : EReal) (hs : s ≠ 0) : e * Ideal.div 1 s = Ideal.div e s := by
  unfold Ideal.div
  rw [if_neg hs, if_neg hs, one_mul]

/-- A head's number, on every feature of the head. -/
theorem spread_mul (v : FVec Ideal S512x8 .f32) (f : Fin 128) : mm v spread (ix2 r f) = v (ix2 r (Model.headOf f)) := by
  rw [mm_apply, Finset.sum_eq_single (Model.headOf f)]
  · rw [spread_apply, if_pos rfl, mul_one]
  · intro k _ hk
    rw [spread_apply, if_neg hk, mul_zero]
  · simp

/-- The running gather is the gather so far. -/
theorem attend_step (vv : FVec Ideal S8192x128 .f32) (f : Fin 128) (hs : ∑ k, Model.ex (scoresOf lg r (Model.headOf f)) k ≠ 0) (n : ℕ) (hn : n ≤ 15) :
    attend lg vv n (ix2 r f) = ∑ k ∈ Finset.univ.filter fun k : Fin 15 => k.val < n, Model.share (scoresOf lg r (Model.headOf f)) k * vv (ix2 (rowOf k r) f) := by
  induction n with
  | zero => pointwise [attend]; simp
  | succ n ih =>
    have e : (Finset.univ.filter fun k : Fin 15 => k.val < n + 1) = insert ⟨n, hn⟩ (Finset.univ.filter fun k : Fin 15 => k.val < n) := Finset.ext fun k => by
      rw [Finset.mem_insert, Finset.mem_filter, Finset.mem_filter, Fin.ext_iff]
      have := Finset.mem_univ k
      exact ⟨fun h => by have h := h.2; by_cases g : k.val = n; exacts [Or.inl g, Or.inr ⟨this, by omega⟩],
        fun h => ⟨this, by rcases h with h | h; exacts [by have : k.val = n := h; omega, by omega]⟩⟩
    rw [e, Finset.sum_insert (by simp), ← ih (by omega)]
    refine Eq.trans ?_ (add_comm _ _)
    show attend lg vv n (ix2 r f) + mm (mulf (weight lg n) (scale lg)) spread (ix2 r f) * part vv n (ix2 r f) = _
    rw [spread_mul, part_apply vv ⟨n, hn⟩]
    show _ + weight lg n (ix2 r _) * scale lg (ix2 r _) * _ = _
    rw [weight_apply lg r _ ⟨n, hn⟩, scale_apply, mul_div_one _ _ hs]
    rfl

/-- The last running gather is the shares times the values. -/
theorem attend_apply (vv : FVec Ideal S8192x128 .f32) (f : Fin 128) (hs : ∑ k, Model.ex (scoresOf lg r (Model.headOf f)) k ≠ 0) :
    attend lg vv 15 (ix2 r f) = ∑ k, Model.share (scoresOf lg r (Model.headOf f)) k * vv (ix2 (rowOf k r) f) := by
  rw [attend_step lg r vv f hs 15 le_rfl]
  congr 1

end Attend

/-- A sum over the features is a sum over the heads and the features of a head. -/
theorem sum_heads (F : Fin 128 → EReal) : ∑ f, F f = ∑ h : Fin 8, ∑ d : Fin 16, F (Model.at_ h d) := by
  rw [← (finProdFinEquiv (m := 8) (n := 16)).sum_comp, Fintype.sum_prod_type]
  refine Finset.sum_congr rfl fun h _ => Finset.sum_congr rfl fun d _ => congrArg F (Fin.ext ?_)
  show d.val + 16 * h.val = 16 * h.val + d.val
  omega

/-- A quarter of a sum is the sum of the quarters. -/
theorem sum_mul_quarter (n : ℕ) (F : Fin n → EReal) : ∑ d, F d * ((1 / 4 : ℝ) : EReal) = (∑ d, F d) * ((1 / 4 : ℝ) : EReal) := by
  induction n with
  | zero => simp
  | succ n ih =>
    rw [Fin.sum_univ_castSucc, Fin.sum_univ_castSucc, ih, EReal.right_distrib_of_nonneg_of_ne_top]
    · exact_mod_cast (by norm_num : (0 : ℝ) ≤ 1 / 4)
    · exact EReal.coe_ne_top _

/-- The scores, a quarter of the products. -/
theorem scores_apply (q : FVec Ideal S512x128 .f32) (kk : FVec Ideal S8192x128 .f32) (k : Fin 15) (r : Fin 512) (h : Fin 8) :
    scores q kk (ix2 (rowOf k r) h) = Ideal.div (∑ d, q (ix2 r (Model.at_ h d)) * kk (ix2 (rowOf k r) (Model.at_ h d))) ((4 : ℝ) : EReal) := by
  rw [scores, mm_apply, sum_heads, Finset.sum_eq_single h]
  · rw [Ideal.div_coe (by norm_num), ← sum_mul_quarter]
    refine Finset.sum_congr rfl fun d _ => ?_
    have e : h = Model.headOf (Model.at_ h d) := Fin.ext (by simp [Model.headOf, Model.at_]; omega)
    rw [headSel_apply, if_pos e, one_mul]
    show stack128 (fun _ => q) _ * _ * _ = _
    rw [stack128_apply]
    trace_state
  · intro h' _ hne
    refine Finset.sum_eq_zero fun d _ => ?_
    have e : h' = Model.headOf (Model.at_ h' d) := Fin.ext (by simp [Model.headOf, Model.at_]; omega)
    rw [headSel_apply, if_neg (by rw [← e]; exact hne.symm), zero_mul, mul_zero]
  · simp

/-! ## The whole layer -/

/-- A sum over the kernel's thirty-two feature columns is the sum over the twenty-nine features. -/
theorem sum_features (A : Fin 29 → EReal) :
    (∑ c : Fin 32, if h : c.val < 16 then A ⟨3 + c.val, by omega⟩ else if h : c.val < 19 then A ⟨c.val - 16, by omega⟩
      else if h : c.val < 29 then A ⟨c.val, h⟩ else 0) = ∑ c, A c := by
  let B : ℕ → EReal := fun n => if h : n < 29 then A ⟨n, h⟩ else 0
  have hB (n : ℕ) (h : n < 29) : A ⟨n, h⟩ = B n := by simp only [B, dif_pos h]
  have e1 : (∑ c, A c) = ∑ n ∈ Finset.range (3 + (16 + 10)), B n := by
    rw [Finset.sum_range]
    exact Finset.sum_congr rfl fun c _ => hB c.val c.isLt
  have e2 : (∑ c : Fin 32, if h : c.val < 16 then A ⟨3 + c.val, by omega⟩ else if h : c.val < 19 then A ⟨c.val - 16, by omega⟩
      else if h : c.val < 29 then A ⟨c.val, h⟩ else 0) =
      ∑ n ∈ Finset.range (16 + (3 + (10 + 3))), if n < 16 then B (3 + n) else if n < 19 then B (n - 16) else if n < 29 then B n else 0 := by
    rw [Finset.sum_range]
    refine Finset.sum_congr rfl fun c _ => ?_
    simp only [hB]
    rfl
  let g : ℕ → EReal := fun n => if n < 16 then B (3 + n) else if n < 19 then B (n - 16) else if n < 29 then B n else 0
  have s1 : ∑ n ∈ Finset.range 16, g n = ∑ n ∈ Finset.range 16, B (3 + n) :=
    Finset.sum_congr rfl fun n hn => if_pos (Finset.mem_range.1 hn)
  have s2 : ∑ n ∈ Finset.range 3, g (16 + n) = ∑ n ∈ Finset.range 3, B n :=
    Finset.sum_congr rfl fun n hn => by
      have := Finset.mem_range.1 hn
      simp only [g]
      rw [if_neg (by omega), if_pos (by omega), Nat.add_sub_cancel_left]
  have s3 : ∑ n ∈ Finset.range 10, g (16 + (3 + n)) = ∑ n ∈ Finset.range 10, B (3 + (16 + n)) :=
    Finset.sum_congr rfl fun n hn => by
      have := Finset.mem_range.1 hn
      simp only [g]
      rw [if_neg (by omega), if_neg (by omega), if_pos (by omega), Nat.add_left_comm]
  have s4 : ∑ n ∈ Finset.range 3, g (16 + (3 + (10 + n))) = 0 :=
    Finset.sum_eq_zero fun n hn => by
      simp only [g]
      rw [if_neg (by omega), if_neg (by omega), if_neg (by omega)]
  rw [e1, e2]
  show ∑ n ∈ Finset.range (16 + (3 + (10 + 3))), g n = _
  rw [Finset.sum_range_add, Finset.sum_range_add _ 3, Finset.sum_range_add _ 10, s1, s2, s3, s4, Finset.sum_range_add B, Finset.sum_range_add _ 16,
    add_zero, add_left_comm]

/-- The two products of a message are the model's mapped message. -/
theorem message_apply {st : FVec Ideal S12x512 .f32} {p : ℕ → IVec S512x1 32} {idx : Fin 512 → Fin 15 → Fin 512}
    (hp : ∀ r k, p k.val (ix2 r 0) = BitVec.ofNat 32 (idx r k).val) (x : FVec Ideal S512x128 .f32)
    (wx : FVec Ideal S128x128 .f32) (wr : FVec Ideal S32x128 .f32) (w : Fin 157 → Fin 128 → EReal)
    (hx : ∀ c f, wx (ix2 c f) = w ⟨c.val, by omega⟩ f)
    (hr : ∀ c f, wr (ix2 c f) = if h : c.val < 16 then w ⟨131 + c.val, by omega⟩ f else if h : c.val < 19 then w ⟨112 + c.val, by omega⟩ f
      else if h : c.val < 29 then w ⟨128 + c.val, by omega⟩ f else 0)
    (r : Fin 512) (k : Fin 15) (f : Fin 128) :
    message (feats (frames st) p) p x wx wr (ix2 (rowOf k r) f) =
      Model.msg (fun r k => Model.feat (posOf st) (axesOf st) r (idx r k)) idx (fun r c => x (ix2 r c)) w r k f := by
  show mm (gathered p x) wx _ + mm (feats (frames st) p) wr _ = _ + _
  congr 1
  · rw [mm_apply]
    refine Finset.sum_congr rfl fun c _ => ?_
    rw [gathered, stack128_apply, mm_hot (hp r k), hx]
  · rw [mm_apply, ← sum_features]
    refine Finset.sum_congr rfl fun c _ => ?_
    rw [feats, stack32_apply, feat_apply (hp r k), hr]
    by_cases h16 : c.val < 16
    · simp only [dif_pos h16, ← Nat.add_assoc]
    by_cases h19 : c.val < 19
    · simp only [dif_neg h16, dif_pos h19]
      have e : 128 + (c.val - 16) = 112 + c.val := by omega
      simp only [e]
    by_cases h29 : c.val < 29
    · simp only [dif_neg h16, dif_neg h19, dif_pos h29]
    · simp only [dif_neg h16, dif_neg h19, dif_neg h29, mul_zero]

section Whole
variable {st : FVec Ideal S12x512 .f32} {p : ℕ → IVec S512x1 32} {idx : Fin 512 → Fin 15 → Fin 512} (W : Model.Weights)
    (hp : ∀ r k, p k.val (ix2 r 0) = BitVec.ofNat 32 (idx r k).val) (x : FVec Ideal S512x128 .f32)
    (wq wkx : FVec Ideal S128x128 .f32) (wkr : FVec Ideal S32x128 .f32) (wvx : FVec Ideal S128x128 .f32) (wvr : FVec Ideal S32x128 .f32)
    (wo : FVec Ideal S128x128 .f32)
    (hq : ∀ c f, wq (ix2 c f) = W.q c f)
    (hkx : ∀ c f, wkx (ix2 c f) = W.k ⟨c.val, by omega⟩ f)
    (hkr : ∀ c f, wkr (ix2 c f) = if h : c.val < 16 then W.k ⟨131 + c.val, by omega⟩ f else if h : c.val < 19 then W.k ⟨112 + c.val, by omega⟩ f
      else if h : c.val < 29 then W.k ⟨128 + c.val, by omega⟩ f else 0)
    (hvx : ∀ c f, wvx (ix2 c f) = W.v ⟨c.val, by omega⟩ f)
    (hvr : ∀ c f, wvr (ix2 c f) = if h : c.val < 16 then W.v ⟨131 + c.val, by omega⟩ f else if h : c.val < 19 then W.v ⟨112 + c.val, by omega⟩ f
      else if h : c.val < 29 then W.v ⟨128 + c.val, by omega⟩ f else 0)
    (ho : ∀ c f, wo (ix2 c f) = W.o c f)
    (hs : ∀ r h, ∑ k, Model.ex (Model.score (fun r k => Model.feat (posOf st) (axesOf st) r (idx r k)) idx W (fun r c => x (ix2 r c)) r h) k ≠ 0)
include hp hq hkx hkr hvx hvr ho hs

/-- The rows after attention. -/
theorem attended_apply (r : Fin 512) (f : Fin 128) :
    attended (feats (frames st) p) p x wq wkx wkr wvx wvr wo (ix2 r f) =
      Model.mid (fun r k => Model.feat (posOf st) (axesOf st) r (idx r k)) idx W (fun r c => x (ix2 r c)) r f := by
  have hsc (r : Fin 512) (h : Fin 8) : scoresOf (scores (mm x wq) (message (feats (frames st) p) p x wkx wkr)) r h =
      Model.score (fun r k => Model.feat (posOf st) (axesOf st) r (idx r k)) idx W (fun r c => x (ix2 r c)) r h := by
    funext k
    rw [scoresOf, scores_apply, Model.score]
    congr 1
    refine Finset.sum_congr rfl fun d _ => ?_
    rw [message_apply hp x wkx wkr W.k hkx hkr, mm_apply]
    simp only [hq]
    rfl
  show x (ix2 r f) + mm _ wo (ix2 r f) = _ + _
  congr 1
  rw [mm_apply]
  refine Finset.sum_congr rfl fun c _ => ?_
  rw [ho, attend_apply _ _ _ _ (by rw [hsc]; exact hs _ _), hsc]
  congr 1
  refine Finset.sum_congr rfl fun k _ => ?_
  rw [message_apply hp x wvx wvr W.v hvx hvr]

/-- The body's layer is the model's. -/
theorem layer_apply (m1 : FVec Ideal S128x512 .f32) (b1 : FVec Ideal S1x512 .f32) (m2 : FVec Ideal S512x512 .f32)
    (b2 : FVec Ideal S1x512 .f32) (m3 : FVec Ideal S512x128 .f32) (b3 : FVec Ideal S1x128 .f32)
    (hm1 : ∀ c f, m1 (ix2 c f) = W.m1 c f) (hb1 : ∀ f, b1 (ix2 0 f) = W.b1 f) (hm2 : ∀ c f, m2 (ix2 c f) = W.m2 c f)
    (hb2 : ∀ f, b2 (ix2 0 f) = W.b2 f) (hm3 : ∀ c f, m3 (ix2 c f) = W.m3 c f) (hb3 : ∀ f, b3 (ix2 0 f) = W.b3 f) (r : Fin 512) (f : Fin 128) :
    network (attended (feats (frames st) p) p x wq wkx wkr wvx wvr wo) m1 b1 m2 b2 m3 b3 (ix2 r f) =
      Model.layer (fun r k => Model.feat (posOf st) (axesOf st) r (idx r k)) idx W (fun r c => x (ix2 r c)) r f := by
  rw [network_apply]
  simp only [attended_apply W hp x wq wkx wkr wvx wvr wo hq hkx hkr hvx hvr ho hs, hm1, hb1, hm2, hb2, hm3, hb3]
  rfl

end Whole

end Cert.KernelIdeal.Block
-- ==== Proof.ValueConv.lean ====
/-
The convolution stages and the head, as the kernel computes them, over the reals extended by the two infinities.
-/
module

public import proofs.«01_k».proof.Proof.ValueLayer
public import Idealize.ShloMosaic.Lib.ValueLayout

@[expose] public section

set_option maxRecDepth 16384

noncomputable section

namespace Cert.KernelIdeal.Block

open Cert.KernelIdeal Idealize.ShloMosaic
open Cert

variable [Facts]

section Stage
variable {n k m : ℕ} (h : StageFacts n k m)

/-- A row put before the others. -/
theorem above_apply {α : Type} (z : S1x128.Idx → α) (y : (⟨2, ![k, 128]⟩ : Shape).Idx → α)
    (hc : Shape.Concatenates [S1x128, ⟨2, ![k, 128]⟩] ⟨2, ![n, 128]⟩ 0) (hn : n = k + 1) (r : Fin n) (c : Fin 128) :
    concatenate ⟨2, ![n, 128]⟩ 0 [⟨S1x128, z⟩, ⟨⟨2, ![k, 128]⟩, y⟩] hc (ix2 r c)
      = if h : 0 < r.val then y (ix2 ⟨r.val - 1, by omega⟩ c) else z (ix2 0 c) := by
  refine (concatenate_apply _ _ _ _ _).trans ?_
  rw [concatenateAt_cons]
  refine dite_to (fun h => ?_) fun h => ?_
  · have h : r.val < 1 := h
    rw [dif_neg (by omega)]
    congr 1
    funext a
    apply Fin.ext
    match a with
    | ⟨0, _⟩ => show r.val = 0; omega
    | ⟨1, _⟩ => rfl
  · have h : ¬r.val < 1 := h
    rw [dif_pos (by omega), concatenateAt_singleton]
    congr 1
    funext a
    apply Fin.ext
    match a with
    | ⟨0, _⟩ => rfl
    | ⟨1, _⟩ => rfl

/-- A row put after the others. -/
theorem below_apply {α : Type} (z : S1x128.Idx → α) (y : (⟨2, ![k, 128]⟩ : Shape).Idx → α)
    (hc : Shape.Concatenates [⟨2, ![k, 128]⟩, S1x128] ⟨2, ![n, 128]⟩ 0) (hn : n = k + 1) (r : Fin n) (c : Fin 128) :
    concatenate ⟨2, ![n, 128]⟩ 0 [⟨⟨2, ![k, 128]⟩, y⟩, ⟨S1x128, z⟩] hc (ix2 r c)
      = if h : r.val < k then y (ix2 ⟨r.val, h⟩ c) else z (ix2 0 c) := by
  refine (concatenate_apply _ _ _ _ _).trans ?_
  rw [concatenateAt_cons]
  refine dite_to (fun h => ?_) fun h => ?_
  · have h : r.val < k := h
    rw [dif_pos h]
    congr 1
    funext a
    apply Fin.ext
    match a with
    | ⟨0, _⟩ => rfl
    | ⟨1, _⟩ => rfl
  · have h : ¬r.val < k := h
    rw [dif_neg h, concatenateAt_singleton]
    congr 1
    funext a
    apply Fin.ext
    match a with
    | ⟨0, _⟩ => show r.val - k = 0; omega
    | ⟨1, _⟩ => rfl

/-- Rows from `s` on. -/
theorem drop_apply {α : Type} (t : (⟨2, ![n, 128]⟩ : Shape).Idx → α) (s : ℕ)
    (hs : (⟨2, ![n, 128]⟩ : Shape).Slices ![s, 0] ⟨2, ![k, 128]⟩) (r : Fin k) (c : Fin 128) (hr : s + r.val < n) :
    extractStridedSlice ⟨2, ![k, 128]⟩ ![s, 0] t hs (ix2 r c) = t (ix2 ⟨s + r.val, hr⟩ c) := by
  unfold extractStridedSlice
  congr 1
  funext a
  apply Fin.ext
  match a with
  | ⟨0, _⟩ => rfl
  | ⟨1, _⟩ => show 0 + c.val = c.val; rw [zero_add]

/-- The row put before and after is zero. -/
theorem zero_row (j : S1x128.Idx) : broadcast S1x128 (Scalar.ofBits (F := Ideal) .f32 0x00000000#32) j = 0 := by
  show Ideal.ofBits .f32 0x00000000#32 = 0
  simp [Ideal.ofBits, Ideal.ieee]

/-- The body's convolution is the model's. -/
theorem conv_apply (hn : n = k + 1) (t : FVec Ideal ⟨2, ![n, 128]⟩ .f32) (w : Fin 3 → FVec Ideal S128x128 .f32)
    (b : FVec Ideal S1x128 .f32) (r : Fin n) (o : Fin 128) :
    conv h t (w 0) (w 1) (w 2) b (ix2 r o)
      = Model.conv (fun i c o => w i (ix2 c o)) (fun o => b (ix2 0 o)) (fun r c => t (ix2 r c)) r o := by
  show mm _ _ _ + mm _ _ _ + mm _ _ _ + broadcastTo _ _ _ _ = _
  rw [mm_apply, mm_apply, mm_apply]
  unfold Model.conv Model.lin
  congr 1
  · congr 1
    · congr 1
      · refine Finset.sum_congr rfl fun c _ => ?_
        rw [above_apply _ _ _ hn, Model.padded]
        congr 1
        by_cases hr : 0 < r.val
        · rw [dif_pos hr, dif_pos ⟨hr, by omega⟩, drop_apply _ _ _ _ _ (by omega)]
          congr 2
          exact Fin.ext (Nat.zero_add _)
        · rw [dif_neg hr, dif_neg (by omega), zero_row]
      · refine Finset.sum_congr rfl fun c _ => ?_
        rw [Model.padded, dif_pos ⟨by omega, by omega⟩]
        rfl
    · refine Finset.sum_congr rfl fun c _ => ?_
      rw [below_apply _ _ _ hn, Model.padded]
      congr 1
      by_cases hr : r.val < k
      · rw [dif_pos hr, dif_pos ⟨by omega, by omega⟩, drop_apply _ _ _ _ _ (by simp; omega)]
        congr 2
        exact Fin.ext (by show 1 + r.val = r.val + 2 - 1; omega)
      · rw [dif_neg hr, dif_neg (by omega), zero_row]
  · show b _ = b _
    congr 1
    funext a
    apply Fin.ext
    match a with
    | ⟨0, _⟩ => rfl
    | ⟨1, _⟩ => rfl

/-- The body's bend is the model's. -/
theorem leaky_apply (c : FVec Ideal ⟨2, ![n, 128]⟩ .f32) (j : (⟨2, ![n, 128]⟩ : Shape).Idx) : leaky c j = Model.leaky (c j) := by
  have e : leaky c j = if 0 < c j then c j else Model.slope * c j := by
    pointwise [leaky, Model.slope]
  rw [e, Model.leaky]
  rcases lt_trichotomy (0 : EReal) (c j) with h | h | h
  · rw [if_pos h, if_pos h.le]
  · rw [← h]
    simp
  · rw [if_neg h.le.not_gt, if_neg h.not_ge]

/-- The row of the pair's `a`-th member. -/
theorem half_apply (hm : n = 2 * m) (t : FVec Ideal ⟨2, ![n, 128]⟩ .f32) (a : ℕ) (ha : a < 2)
    (e : (⟨3, ![m, 2, 128]⟩ : Shape).Slices ![0, a, 0] ⟨3, ![m, 1, 128]⟩) (r : Fin m) (c : Fin 128) :
    shapeCast ⟨2, ![m, 128]⟩ (extractStridedSlice ⟨3, ![m, 1, 128]⟩ ![0, a, 0] (shapeCast ⟨3, ![m, 2, 128]⟩ t h.p) e) h.f (ix2 r c)
      = t (ix2 ⟨2 * r.val + a, by omega⟩ c) := by
  refine (shapeCast_apply _ h.f (ix2 r c) (ix3 r (0 : Fin 1) c) ?_).trans ?_
  · rw [Shape.rowMajor_val_three, Shape.rowMajor_val_two]
    show (r.val * 1 + 0) * 128 + c.val = r.val * 128 + c.val
    omega
  refine Eq.trans ?_ (shapeCast_apply t h.p (ix3 r (⟨a, ha⟩ : Fin 2) c) (ix2 ⟨2 * r.val + a, by omega⟩ c) ?_)
  · unfold extractStridedSlice
    congr 1
    funext b
    apply Fin.ext
    match b with
    | ⟨0, _⟩ => exact Nat.zero_add _
    | ⟨1, _⟩ => rfl
    | ⟨2, _⟩ => exact Nat.zero_add _
  · rw [Shape.rowMajor_val_three, Shape.rowMajor_val_two]
    show (2 * r.val + a) * 128 + c.val = (r.val * 2 + a) * 128 + c.val
    omega

/-- The body's stage is the model's. -/
theorem stage_apply (hn : n = k + 1) (hm : n = 2 * m) (t : FVec Ideal ⟨2, ![n, 128]⟩ .f32) (w : Fin 3 → FVec Ideal S128x128 .f32)
    (b : FVec Ideal S1x128 .f32) (r : Fin m) (o : Fin 128) :
    stage h t (w 0) (w 1) (w 2) b (ix2 r o)
      = Model.stage (fun i c o => w i (ix2 c o)) (fun o => b (ix2 0 o)) (fun r c => t (ix2 r c)) m hm r o := by
  show max (shapeCast _ _ _ _) (shapeCast _ _ _ _) = _
  rw [half_apply h hm _ 0 (by norm_num), half_apply h hm _ 1 (by norm_num)]
  show max (t _ + leaky _ _) (t _ + leaky _ _) = _
  rw [leaky_apply, leaky_apply, conv_apply h hn, conv_apply h hn]
  rfl

end Stage

/-- The body's last map is the model's head. -/
theorem final_apply (t : FVec Ideal S32x128 .f32) (w : FVec Ideal S128x1 .f32) (b : FVec Ideal S1x1 .f32) (j : S1x1x1.Idx) :
    final t w b j = Model.head (fun r c => t (ix2 r c)) (fun c => w (ix2 c 0)) (b (ix2 0 0)) := by
  obtain rfl : j = ix3 0 0 0 := by
    funext a
    fin_cases a <;> exact Subsingleton.elim (α := Fin 1) _ _
  unfold final Model.head
  pointwise
  rw [mm_apply]
  pointwise

end Cert.KernelIdeal.Block
-- ==== Proof.Chain.lean ====
/-
What the body computes for one protein: the model's number.
-/
module

public import proofs.«01_k».proof.Proof.Loads
public import proofs.«01_k».proof.Proof.ValuePicks
public import proofs.«01_k».proof.Proof.ValueConv
public import proofs.«01_k».proof.Proof.Finite

@[expose] public section

set_option maxRecDepth 16384

noncomputable section

namespace Cert.KernelIdeal.Block

open Cert.KernelIdeal Cert.KernelIdeal.Gen Idealize.ShloMosaic Idealize.ShloMosaic.TcCoe
open Cert

/-- Row `r` of protein `b`. -/
def rowIn (b : Fin 8) (r : Fin 512) : Fin 4096 := ⟨b.val * 512 + r.val, by omega⟩

/-- The row of a feature matrix that reads a coordinate of a residue's own vector. -/
def ownRow (c : Fin 128) : Fin 157 := ⟨c.val, by omega⟩

/-- Rows of a feature matrix in the kernel's order. -/
def reordered (w : Fin 157 → Fin 128 → EReal) (c : Fin 32) (f : Fin 128) : EReal :=
  if h : c.val < 16 then w ⟨131 + c.val, by omega⟩ f else if h : c.val < 19 then w ⟨112 + c.val, by omega⟩ f
  else if h : c.val < 29 then w ⟨128 + c.val, by omega⟩ f else 0

section Chain
variable (i : grid0.Coords) (arg1 : Memref sig .tc .vmem S3x4096 .f32) (harg1 : arg1.IsWhole) (arg2 : Memref sig .tc .vmem S1x512x512 .f32) (harg2 : arg2.IsWhole) (arg3 : Memref sig .tc .vmem S27x128 .f32) (harg3 : arg3.IsWhole) (arg4 : Memref sig .tc .vmem S3x128x128 .f32) (harg4 : arg4.IsWhole) (arg5 : Memref sig .tc .vmem S3x128x128 .f32) (harg5 : arg5.IsWhole) (arg6 : Memref sig .tc .vmem S3x32x128 .f32) (harg6 : arg6.IsWhole) (arg7 : Memref sig .tc .vmem S3x128x128 .f32) (harg7 : arg7.IsWhole) (arg8 : Memref sig .tc .vmem S3x32x128 .f32) (harg8 : arg8.IsWhole) (arg9 : Memref sig .tc .vmem S3x128x128 .f32) (harg9 : arg9.IsWhole) (arg10 : Memref sig .tc .vmem S3x128x512 .f32) (harg10 : arg10.IsWhole) (arg11 : Memref sig .tc .vmem S3x512 .f32) (harg11 : arg11.IsWhole) (arg12 : Memref sig .tc .vmem S3x512x512 .f32) (harg12 : arg12.IsWhole) (arg13 : Memref sig .tc .vmem S3x512 .f32) (harg13 : arg13.IsWhole) (arg14 : Memref sig .tc .vmem S3x512x128 .f32) (harg14 : arg14.IsWhole) (arg15 : Memref sig .tc .vmem S3x128 .f32) (harg15 : arg15.IsWhole) (arg16 : Memref sig .tc .vmem S4x3x128x128 .f32) (harg16 : arg16.IsWhole) (arg17 : Memref sig .tc .vmem S4x128 .f32) (harg17 : arg17.IsWhole) (arg18 : Memref sig .tc .vmem S128x1 .f32) (harg18 : arg18.IsWhole) (arg19 : Memref sig .tc .vmem S1x1 .f32) (harg19 : arg19.IsWhole) (arg20 : Memref sig .tc .vmem S1x1x1 .f32) (harg20 : arg20.IsWhole) (arg21 : Memref sig .tc .vmem S12x4096 .f32) (harg21 : arg21.IsWhole)
    (x0 : Vec Ideal S3x4096 .f32) (x1 : Vec Ideal S1x512x512 .f32) (x2 : Vec Ideal S27x128 .f32) (x3 : Vec Ideal S3x128x128 .f32) (x4 : Vec Ideal S3x128x128 .f32) (x5 : Vec Ideal S3x32x128 .f32) (x6 : Vec Ideal S3x128x128 .f32) (x7 : Vec Ideal S3x32x128 .f32) (x8 : Vec Ideal S3x128x128 .f32) (x9 : Vec Ideal S3x128x512 .f32) (x10 : Vec Ideal S3x512 .f32) (x11 : Vec Ideal S3x512x512 .f32) (x12 : Vec Ideal S3x512 .f32) (x13 : Vec Ideal S3x512x128 .f32) (x14 : Vec Ideal S3x128 .f32) (x15 : Vec Ideal S4x3x128x128 .f32) (x16 : Vec Ideal S4x128 .f32) (x17 : Vec Ideal S128x1 .f32) (x18 : Vec Ideal S1x1 .f32)

  (b : Fin 8) (hb : (i 0).val = b.val) (idx : Fin 512 → Fin 15 → Fin 512) (W : Fin 3 → Model.Weights)
  (hP : ∀ n c, Model.IsReal (cols x0 n c)) (hN : ∀ r j, ⊥ < x1 (ix3 0 r j)) (hW : ∀ l, (W l).Scored) (hV : ∀ l, l.val < 2 → (W l).AllReal)
  (hidx : ∀ r, Model.Ranked (Model.near (fun r => cols x0 (rowIn b r)) (fun r j => x1 (ix3 0 r j)) r) (idx r))
  (hq : ∀ l c f, x3 (ix3 l c f) = (W l).q c f)
  (hkx : ∀ l (c : Fin 128) f, x4 (ix3 l c f) = (W l).k (ownRow c) f) (hkr : ∀ l c f, x5 (ix3 l c f) = reordered (W l).k c f)
  (hvx : ∀ l (c : Fin 128) f, x6 (ix3 l c f) = (W l).v (ownRow c) f) (hvr : ∀ l c f, x7 (ix3 l c f) = reordered (W l).v c f)
  (ho : ∀ l c f, x8 (ix3 l c f) = (W l).o c f)
  (hm1 : ∀ l c f, x9 (ix3 l c f) = (W l).m1 c f) (hb1 : ∀ l f, x10 (ix2 l f) = (W l).b1 f)
  (hm2 : ∀ l c f, x11 (ix3 l c f) = (W l).m2 c f) (hb2 : ∀ l f, x12 (ix2 l f) = (W l).b2 f)
  (hm3 : ∀ l c f, x13 (ix3 l c f) = (W l).m3 c f) (hb3 : ∀ l f, x14 (ix2 l f) = (W l).b3 f)

include hb hP hN hidx in
/-- The kernel's picks are the ranked neighbours. -/
theorem picks_apply (r : Fin 512) (k : Fin 15) : picks i arg1 harg1 arg2 harg2 arg21 x0 x1 k.val (ix2 r 0) = BitVec.ofNat 32 (idx r k).val := by
  have e : ∀ r j, closeness (columns i arg1 harg1 arg21 x0) (noise arg2 harg2 x1) (ix2 r j)
      = Model.near (fun r => cols x0 (rowIn b r)) (fun r j => x1 (ix3 0 r j)) r j := fun r j => by
    rw [closeness_apply, posOf_columns i b hb]
    simp only [noise_apply]
    rfl
  refine pick_apply (w := closeness (columns i arg1 harg1 arg21 x0) (noise arg2 harg2 x1)) (r := r) (s := idx r) ?_ ?_ k
  · simp only [e]
    exact hidx r
  · intro j
    rw [e]
    exact Model.near_above (fun r c => hP (rowIn b r) c) hN r j

/-- The features of a residue's neighbours. -/
def featsOf (x0 : Vec Ideal S3x4096 .f32) (b : Fin 8) (idx : Fin 512 → Fin 15 → Fin 512) (r : Fin 512) (k : Fin 15) : Fin 29 → EReal :=
  Model.feat (fun r => cols x0 (rowIn b r)) (fun r => Model.axis (cols x0) (rowIn b r)) r (idx r k)

omit hb hN hW hV hidx hq hkx hkr hvx hvr ho hm1 hb1 hm2 hb2 hm3 hb3 in
include hP in
/-- Features of real places are real. -/
theorem featsOf_real (r : Fin 512) (k : Fin 15) (c : Fin 29) : Model.IsReal (featsOf x0 b idx r k c) :=
  Model.feat_real (fun r c => hP _ c) (fun r => Model.axis_real hP _) r _ c

include hb hP hN hW hidx hq hkx hkr hvx hvr ho hm1 hb1 hm2 hb2 hm3 hb3 in
/-- One layer of the body. -/
theorem layer_value (l : Fin 3) (x : FVec Ideal S512x128 .f32) (hx : ∀ r c, Model.IsReal (x (ix2 r c))) (r : Fin 512) (f : Fin 128) :
    layer i arg1 harg1 arg2 harg2 arg4 harg4 arg5 harg5 arg6 harg6 arg7 harg7 arg8 harg8 arg9 harg9 arg10 harg10 arg11 harg11 arg12 harg12 arg13 harg13 arg14 harg14 arg15 harg15 arg21 x0 x1 x3 x4 x5 x6 x7 x8 x9 x10 x11 x12 x13 x14 l.val l.isLt x (ix2 r f) = Model.layer (featsOf x0 b idx) idx (W l) (fun r c => x (ix2 r c)) r f := by
  have hft : (fun r k => Model.feat (posOf (columns i arg1 harg1 arg21 x0)) (axesOf (columns i arg1 harg1 arg21 x0)) r (idx r k)) = featsOf x0 b idx := by
    rw [posOf_columns i b hb, axesOf_columns i b hb]
    rfl
  refine (layer_apply (st := columns i arg1 harg1 arg21 x0) (p := picks i arg1 harg1 arg2 harg2 arg21 x0 x1) (idx := idx) (W l)
    (fun r k => picks_apply i arg1 harg1 arg2 harg2 arg21 x0 x1 b hb idx hP hN hidx r k) x _ _ _ _ _ _
    (fun c f => (page_apply arg4 harg4 x3 l c f).trans (hq l c f)) (fun c f => (page_apply arg5 harg5 x4 l c f).trans (hkx l c f))
    (fun c f => (page_apply arg6 harg6 x5 l c f).trans (hkr l c f)) (fun c f => (page_apply arg7 harg7 x6 l c f).trans (hvx l c f))
    (fun c f => (page_apply arg8 harg8 x7 l c f).trans (hvr l c f)) (fun c f => (page_apply arg9 harg9 x8 l c f).trans (ho l c f))
    ?_ _ _ _ _ _ _
    (fun c f => (page_apply arg10 harg10 x9 l c f).trans (hm1 l c f)) (fun f => (line_apply arg11 harg11 x10 l f).trans (hb1 l f))
    (fun c f => (page_apply arg12 harg12 x11 l c f).trans (hm2 l c f)) (fun f => (line_apply arg13 harg13 x12 l f).trans (hb2 l f))
    (fun c f => (page_apply arg14 harg14 x13 l c f).trans (hm3 l c f)) (fun f => (line_apply arg15 harg15 x14 l f).trans (hb3 l f)) r f).trans ?_
  · intro r h
    rw [hft]
    exact Model.sum_ex_ne (Model.score_real (featsOf_real x0 b idx hP) hx (hW l) r h)
  · rw [hft]

include hb hP hN hW hV hidx hq hkx hkr hvx hvr ho hm1 hb1 hm2 hb2 hm3 hb3 in
/-- The body's rows after the three layers. -/
theorem rows_value (hS : ∀ a c, Model.IsReal (x2 (ix2 a c))) (r : Fin 512) (f : Fin 128) :
    rows i arg1 harg1 arg2 harg2 arg3 harg3 arg4 harg4 arg5 harg5 arg6 harg6 arg7 harg7 arg8 harg8 arg9 harg9 arg10 harg10 arg11 harg11 arg12 harg12 arg13 harg13 arg14 harg14 arg15 harg15 arg21 x0 x1 x2 x3 x4 x5 x6 x7 x8 x9 x10 x11 x12 x13 x14 3 (ix2 r f) = Model.three_layers (featsOf x0 b idx) idx W (fun _ c => ∑ a : Fin 27, x2 (ix2 a c)) r f := by
  have s0 : (fun (r : Fin 512) (c : Fin 128) => rows0 arg3 harg3 x2 (ix2 r c)) = fun _ c => ∑ a : Fin 27, x2 (ix2 a c) := by
    funext r c
    unfold rows0
    rw [start_apply]
    exact Finset.sum_congr rfl fun a _ => whole2_apply arg3 harg3 x2 _ a c
  have r0 : ∀ (r : Fin 512) (c : Fin 128), Model.IsReal (rows0 arg3 harg3 x2 (ix2 r c)) := fun r c => by
    rw [congrFun (congrFun s0 r) c]
    exact Model.IsReal.sum _ fun a => hS a c
  have step : ∀ (l : Fin 3) (x : FVec Ideal S512x128 .f32) (t : Fin 512 → Fin 128 → EReal), (fun r c => x (ix2 r c)) = t → (∀ r c, Model.IsReal (t r c)) →
      (fun r c => layer i arg1 harg1 arg2 harg2 arg4 harg4 arg5 harg5 arg6 harg6 arg7 harg7 arg8 harg8 arg9 harg9 arg10 harg10 arg11 harg11 arg12 harg12 arg13 harg13 arg14 harg14 arg15 harg15 arg21 x0 x1 x3 x4 x5 x6 x7 x8 x9 x10 x11 x12 x13 x14 l.val l.isLt x (ix2 r c)) = Model.layer (featsOf x0 b idx) idx (W l) t
        ∧ (l.val < 2 → ∀ r c, Model.IsReal (Model.layer (featsOf x0 b idx) idx (W l) t r c)) := by
    rintro l x t rfl hx
    exact ⟨funext fun r => funext fun f => layer_value i arg1 harg1 arg2 harg2 arg4 harg4 arg5 harg5 arg6 harg6 arg7 harg7 arg8 harg8 arg9 harg9 arg10 harg10 arg11 harg11 arg12 harg12 arg13 harg13 arg14 harg14 arg15 harg15 arg21 x0 x1 x3 x4 x5 x6 x7 x8 x9 x10 x11 x12 x13 x14 b hb idx W hP hN hW hidx hq hkx hkr hvx hvr ho hm1 hb1 hm2 hb2 hm3 hb3 l x hx r f,
      fun hl => Model.layer_real (featsOf_real x0 b idx hP) hx (hV l hl)⟩
  have h1 := step 0 (rows0 arg3 harg3 x2) _ s0 (fun r c => by rw [← congrFun (congrFun s0 r) c]; exact r0 r c)
  have h2 := step 1 _ _ h1.1 (h1.2 (by decide))
  have h3 := step 2 _ _ h2.1 (h2.2 (by decide))
  exact congrFun (congrFun h3.1 r) f

include hb hP hN hW hV hidx hq hkx hkr hvx hvr ho hm1 hb1 hm2 hb2 hm3 hb3 in
/-- What the body computes. -/
theorem outcome_value (hS : ∀ a c, Model.IsReal (x2 (ix2 a c))) (j : S1x1x1.Idx) :
    outcome i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 x0 x1 x2 x3 x4 x5 x6 x7 x8 x9 x10 x11 x12 x13 x14 x15 x16 x17 x18 j
      = Model.answer (fun r => cols x0 (rowIn b r)) (fun r => Model.axis (cols x0) (rowIn b r)) idx (fun c => ∑ a : Fin 27, x2 (ix2 a c)) W
          (fun l t c o => x15 (ix4 l t c o)) (fun l o => x16 (ix2 l o)) (fun c => x17 (ix2 c 0)) (x18 (ix2 0 0)) := by
  have stg : ∀ {n k m : ℕ} (h : StageFacts n k m) (hn : n = k + 1) (hm : n = 2 * m) (l : Fin 4) (x : FVec Ideal ⟨2, ![n, 128]⟩ .f32) (t : Fin n → Fin 128 → EReal),
      (fun r c => x (ix2 r c)) = t →
      (fun r c => pooled arg16 harg16 arg17 harg17 x15 x16 h l.val l.isLt x (ix2 r c))
        = Model.stage (fun t c o => x15 (ix4 l t c o)) (fun o => x16 (ix2 l o)) t m hm := by
    rintro n k m h hn hm l x t rfl
    funext r o
    refine (stage_apply h hn hm x (fun q : Fin 3 => tap arg16 harg16 x15 l.val q.val) (line arg17 harg17 x16 l.val l.isLt) r o).trans ?_
    simp only [tap_apply, line_apply]
  have e0 := stg stage512 rfl rfl 0 (rows i arg1 harg1 arg2 harg2 arg3 harg3 arg4 harg4 arg5 harg5 arg6 harg6 arg7 harg7 arg8 harg8 arg9 harg9 arg10 harg10 arg11 harg11 arg12 harg12 arg13 harg13 arg14 harg14 arg15 harg15 arg21 x0 x1 x2 x3 x4 x5 x6 x7 x8 x9 x10 x11 x12 x13 x14 3) _
    (funext fun r => funext fun f => rows_value i arg1 harg1 arg2 harg2 arg3 harg3 arg4 harg4 arg5 harg5 arg6 harg6 arg7 harg7 arg8 harg8 arg9 harg9 arg10 harg10 arg11 harg11 arg12 harg12 arg13 harg13 arg14 harg14 arg15 harg15 arg21 x0 x1 x2 x3 x4 x5 x6 x7 x8 x9 x10 x11 x12 x13 x14 b hb idx W hP hN hW hV hidx hq hkx hkr hvx hvr ho hm1 hb1 hm2 hb2 hm3 hb3 hS r f)
  have e1 := stg stage256 rfl rfl 1 _ _ e0
  have e2 := stg stage128 rfl rfl 2 _ _ e1
  have e3 := stg stage64 rfl rfl 3 _ _ e2
  unfold outcome
  rw [final_apply]
  refine (congrArg (fun t => Model.head t _ _) e3).trans ?_
  simp only [whole2_apply]
  rfl

end Chain

end Cert.KernelIdeal.Block
-- ==== Proof.Entry.lean ====
/-
What the region finds in the arrays that the program makes before it.
-/
module

public import proofs.«01_k».proof.Proof.Gen.KernelIdeal.Value
public import proofs.«01_k».proof.Proof.Chain
public import Idealize.ShloMosaic.Lib.StableHlo.ReadAt

@[expose] public section

set_option maxRecDepth 16384

noncomputable section

namespace Cert.KernelIdeal.Block

open Cert.KernelIdeal Cert.KernelIdeal.Gen Idealize.ShloMosaic Idealize.ShloMosaic.TcCoe
open Cert

variable (m : (ℓ : Loc nD τ sig) → Buf (Elt Ideal) ℓ) (c : Dev nD)

/-- The positions, transposed. -/
theorem entry2 (a : Fin 3) (n : Fin 4096) :
    (V m c main_v2 : FVec Ideal S3x4096 .f32) (ix2 a n) = (m ((c : Thread nD τ).loc main_arg0) : FVec Ideal S4096x3x3 .f32) (ix3 n 1 a) := by
  entry_read
  pointwise

/-- The rows of the key matrices that read a residue's own vector. -/
theorem entry3 (l : Fin 3) (a b : Fin 128) :
    (V m c main_v3 : FVec Ideal S3x128x128 .f32) (ix3 l a b)
      = (m ((c : Thread nD τ).loc main_arg6) : FVec Ideal S3x157x128 .f32) (ix3 l ⟨a.val, by omega⟩ b) := by
  entry_read
  pointwise

/-- Five stacks of rows, one after the other. -/
def abutted (a : FVec Ideal S3x16x128 .f32) (b : FVec Ideal S3x3x128 .f32) (d : FVec Ideal S3x9x128 .f32) (e : FVec Ideal S3x1x128 .f32)
    (z : FVec Ideal S3x3x128 .f32) : FVec Ideal S3x32x128 .f32 :=
  concatenate S3x32x128 1 [⟨S3x16x128, a⟩, ⟨S3x3x128, b⟩, ⟨S3x9x128, d⟩, ⟨S3x1x128, e⟩, ⟨S3x3x128, z⟩]
    concatenates_S3x16x128_S3x3x128_S3x9x128_S3x1x128_S3x3x128_S3x32x128_d1

/-- Equal pieces abut to equal arrays. -/
theorem abutted_congr {a a' : FVec Ideal S3x16x128 .f32} {b b' : FVec Ideal S3x3x128 .f32} {d d' : FVec Ideal S3x9x128 .f32}
    {e e' : FVec Ideal S3x1x128 .f32} {z z' : FVec Ideal S3x3x128 .f32} (ha : a = a') (hb : b = b') (hd : d = d') (he : e = e') (hz : z = z') :
    abutted a b d e z = abutted a' b' d' e' z' := by
  subst ha hb hd he hz
  rfl

/-- The rows of a stack of matrices that read the features, in the kernel's order: the distances, the direction, the
    orientation, the separation, and three rows of zeros. -/
def regrouped (w : FVec Ideal S3x157x128 .f32) : FVec Ideal S3x32x128 .f32 :=
  abutted (extractStridedSlice S3x16x128 ![0, 131, 0] w slices_S3x157x128_S3x16x128_0_131_0)
    (extractStridedSlice S3x3x128 ![0, 128, 0] w slices_S3x157x128_S3x3x128_0_128_0)
    (extractStridedSlice S3x9x128 ![0, 147, 0] w slices_S3x157x128_S3x9x128_0_147_0)
    (extractStridedSlice S3x1x128 ![0, 156, 0] w slices_S3x157x128_S3x1x128_0_156_0)
    (broadcastInDim S3x3x128 ![] bcast_S_S3x3x128 (constant S_ .f32 0x00000000#32))

/-- Entry by entry. -/
theorem regrouped_apply (w : FVec Ideal S3x157x128 .f32) (l : Fin 3) (a : Fin 32) (b : Fin 128) :
    regrouped w (ix3 l a b) = reordered (fun a b => w (ix3 l a b)) a b := by
  pointwise [regrouped, abutted]
  unfold reordered
  by_cases h1 : a.val < 16
  · rw [dif_pos h1, dif_pos h1]
  rw [dif_neg h1, dif_neg h1]
  by_cases h2 : a.val < 19
  · rw [dif_pos (by omega), dif_pos h2]
    exact congrArg (fun q => w (ix3 l q b)) (Fin.ext (by show 128 + (a.val - 16) = 112 + a.val; omega))
  rw [dif_neg (by omega), dif_neg h2]
  by_cases h3 : a.val < 28
  · rw [dif_pos (by omega), dif_pos (by omega)]
    exact congrArg (fun q => w (ix3 l q b)) (Fin.ext (by show 147 + (a.val - 16 - 3) = 128 + a.val; omega))
  rw [dif_neg (by omega)]
  by_cases h4 : a.val < 29
  · rw [dif_pos (by omega), dif_pos h4]
    exact congrArg (fun q => w (ix3 l q b)) (Fin.ext (by show 156 + (a.val - 16 - 3 - 9) = 128 + a.val; omega))
  · rw [dif_neg (by omega), dif_neg h4]

/-- The key matrices' feature rows. -/
theorem entry9 : (V m c main_v9 : FVec Ideal S3x32x128 .f32) = regrouped (m ((c : Thread nD τ).loc main_arg6)) := by
  unfold V
  after_reads_simp
  refine abutted_congr ?_ ?_ ?_ ?_ ?_
  all_goals dsimp only [Matrix.cons_val]
  all_goals after_reads_simp

/-- The value matrices' feature rows. -/
theorem entry16 : (V m c main_v16 : FVec Ideal S3x32x128 .f32) = regrouped (m ((c : Thread nD τ).loc main_arg7)) := by
  unfold V
  after_reads_simp
  refine abutted_congr ?_ ?_ ?_ ?_ ?_
  all_goals dsimp only [Matrix.cons_val]
  all_goals after_reads_simp

/-- The rows of the value matrices that read a residue's own vector. -/
theorem entry10 (l : Fin 3) (a b : Fin 128) :
    (V m c main_v10 : FVec Ideal S3x128x128 .f32) (ix3 l a b)
      = (m ((c : Thread nD τ).loc main_arg7) : FVec Ideal S3x157x128 .f32) (ix3 l ⟨a.val, by omega⟩ b) := by
  entry_read
  pointwise

/-- The convolution weights, transposed. -/
theorem entry17 (l : Fin 4) (t : Fin 3) (a o : Fin 128) :
    (V m c main_v17 : FVec Ideal S4x3x128x128 .f32) (ix4 l t a o)
      = (m ((c : Thread nD τ).loc main_arg15) : FVec Ideal S4x128x128x3 .f32) (ix4 l o a t) := by
  entry_read
  pointwise

/-- The last bias. -/
theorem entry18 :
    (V m c main_v18 : FVec Ideal S1x1 .f32) (ix2 0 0)
      = (m ((c : Thread nD τ).loc main_arg18) : FVec Ideal S1 .f32) (ix1 0) := by
  entry_read
  pointwise

end Cert.KernelIdeal.Block
-- ==== Proof.Windows.lean ====
/-
The blocks that a point of the grid reads.
-/
module

public import proofs.«01_k».proof.Proof.Entry
public import Idealize.ShloMosaic.Lib.Pipeline.ValueKit.Point

@[expose] public section

set_option maxRecDepth 16384

noncomputable section

namespace Cert.KernelIdeal.Block

open Cert.KernelIdeal Cert.KernelIdeal.Gen Idealize.ShloMosaic Idealize.ShloMosaic.TcCoe
open Cert

variable (m : (ℓ : Loc nD τ sig) → Buf (Elt Ideal) ℓ) (c : Dev nD)

/-- Every window but the noise and the result stages its whole array at every point; those two stage a protein's part. -/
theorem index_all : ∀ t : Fin cfg0.N, win0_0.index t = ![0, 0] ∧ win0_1.index t = ![t.val, 0, 0] ∧ win0_2.index t = ![0, 0] ∧ win0_3.index t = ![0, 0, 0]
    ∧ win0_4.index t = ![0, 0, 0] ∧ win0_5.index t = ![0, 0, 0] ∧ win0_6.index t = ![0, 0, 0] ∧ win0_7.index t = ![0, 0, 0] ∧ win0_8.index t = ![0, 0, 0]
    ∧ win0_9.index t = ![0, 0, 0] ∧ win0_10.index t = ![0, 0] ∧ win0_11.index t = ![0, 0, 0] ∧ win0_12.index t = ![0, 0] ∧ win0_13.index t = ![0, 0, 0]
    ∧ win0_14.index t = ![0, 0] ∧ win0_15.index t = ![0, 0, 0, 0] ∧ win0_16.index t = ![0, 0] ∧ win0_17.index t = ![0, 0] ∧ win0_18.index t = ![0, 0]
    ∧ win0_19.index t = ![t.val, 0, 0] ∧ (grid0.coords t 0).val = t.val :=
  (by decide +kernel : ∀ t : Fin grid0.N, win0_0.index t = ![0, 0] ∧ win0_1.index t = ![t.val, 0, 0] ∧ win0_2.index t = ![0, 0] ∧ win0_3.index t = ![0, 0, 0]
    ∧ win0_4.index t = ![0, 0, 0] ∧ win0_5.index t = ![0, 0, 0] ∧ win0_6.index t = ![0, 0, 0] ∧ win0_7.index t = ![0, 0, 0] ∧ win0_8.index t = ![0, 0, 0]
    ∧ win0_9.index t = ![0, 0, 0] ∧ win0_10.index t = ![0, 0] ∧ win0_11.index t = ![0, 0, 0] ∧ win0_12.index t = ![0, 0] ∧ win0_13.index t = ![0, 0, 0]
    ∧ win0_14.index t = ![0, 0] ∧ win0_15.index t = ![0, 0, 0, 0] ∧ win0_16.index t = ![0, 0] ∧ win0_17.index t = ![0, 0] ∧ win0_18.index t = ![0, 0]
    ∧ win0_19.index t = ![t.val, 0, 0] ∧ (grid0.coords t 0).val = t.val)

/-- The protein's own noise. -/
theorem window1 (t : Fin cfg0.N) (b : Fin 8) (hb : t.val = b.val) (r j : Fin 512) :
    (iblk m c 1 t : FVec Ideal S1x512x512 .f32) (ix3 0 r j) = (m ((c : Thread nD τ).loc main_arg3) : FVec Ideal S8x512x512 .f32) (ix3 b r j) := by
  blk_ext [iblk, V, (index_all t).2.1]

/-- Window 0 stages its whole array. -/
theorem window0 (t : Fin cfg0.N) (a : Fin 3) (b : Fin 4096) :
    (iblk m c 0 t : FVec Ideal S3x4096 .f32) (ix2 a b) = (V m c main_v2 : FVec Ideal S3x4096 .f32) (ix2 a b) := by
  blk_ext [iblk, (index_all t).1]

/-- Window 2 stages its whole array. -/
theorem window2 (t : Fin cfg0.N) (a : Fin 27) (b : Fin 128) :
    (iblk m c 2 t : FVec Ideal S27x128 .f32) (ix2 a b) = (m ((c : Thread nD τ).loc main_arg4) : FVec Ideal S27x128 .f32) (ix2 a b) := by
  blk_ext [iblk, V, (index_all t).2.2.1]

/-- Window 3 stages its whole array. -/
theorem window3 (t : Fin cfg0.N) (a : Fin 3) (b : Fin 128) (d : Fin 128) :
    (iblk m c 3 t : FVec Ideal S3x128x128 .f32) (ix3 a b d) = (m ((c : Thread nD τ).loc main_arg5) : FVec Ideal S3x128x128 .f32) (ix3 a b d) := by
  blk_ext [iblk, V, (index_all t).2.2.2.1]

/-- Window 4 stages its whole array. -/
theorem window4 (t : Fin cfg0.N) (a : Fin 3) (b : Fin 128) (d : Fin 128) :
    (iblk m c 4 t : FVec Ideal S3x128x128 .f32) (ix3 a b d) = (V m c main_v3 : FVec Ideal S3x128x128 .f32) (ix3 a b d) := by
  blk_ext [iblk, (index_all t).2.2.2.2.1]

/-- Window 5 stages its whole array. -/
theorem window5 (t : Fin cfg0.N) (a : Fin 3) (b : Fin 32) (d : Fin 128) :
    (iblk m c 5 t : FVec Ideal S3x32x128 .f32) (ix3 a b d) = (V m c main_v9 : FVec Ideal S3x32x128 .f32) (ix3 a b d) := by
  blk_ext [iblk, (index_all t).2.2.2.2.2.1]

/-- Window 6 stages its whole array. -/
theorem window6 (t : Fin cfg0.N) (a : Fin 3) (b : Fin 128) (d : Fin 128) :
    (iblk m c 6 t : FVec Ideal S3x128x128 .f32) (ix3 a b d) = (V m c main_v10 : FVec Ideal S3x128x128 .f32) (ix3 a b d) := by
  blk_ext [iblk, (index_all t).2.2.2.2.2.2.1]

/-- Window 7 stages its whole array. -/
theorem window7 (t : Fin cfg0.N) (a : Fin 3) (b : Fin 32) (d : Fin 128) :
    (iblk m c 7 t : FVec Ideal S3x32x128 .f32) (ix3 a b d) = (V m c main_v16 : FVec Ideal S3x32x128 .f32) (ix3 a b d) := by
  blk_ext [iblk, (index_all t).2.2.2.2.2.2.2.1]

/-- Window 8 stages its whole array. -/
theorem window8 (t : Fin cfg0.N) (a : Fin 3) (b : Fin 128) (d : Fin 128) :
    (iblk m c 8 t : FVec Ideal S3x128x128 .f32) (ix3 a b d) = (m ((c : Thread nD τ).loc main_arg8) : FVec Ideal S3x128x128 .f32) (ix3 a b d) := by
  blk_ext [iblk, V, (index_all t).2.2.2.2.2.2.2.2.1]

/-- Window 9 stages its whole array. -/
theorem window9 (t : Fin cfg0.N) (a : Fin 3) (b : Fin 128) (d : Fin 512) :
    (iblk m c 9 t : FVec Ideal S3x128x512 .f32) (ix3 a b d) = (m ((c : Thread nD τ).loc main_arg9) : FVec Ideal S3x128x512 .f32) (ix3 a b d) := by
  blk_ext [iblk, V, (index_all t).2.2.2.2.2.2.2.2.2.1]

/-- Window 10 stages its whole array. -/
theorem window10 (t : Fin cfg0.N) (a : Fin 3) (b : Fin 512) :
    (iblk m c 10 t : FVec Ideal S3x512 .f32) (ix2 a b) = (m ((c : Thread nD τ).loc main_arg10) : FVec Ideal S3x512 .f32) (ix2 a b) := by
  blk_ext [iblk, V, (index_all t).2.2.2.2.2.2.2.2.2.2.1]

/-- Window 11 stages its whole array. -/
theorem window11 (t : Fin cfg0.N) (a : Fin 3) (b : Fin 512) (d : Fin 512) :
    (iblk m c 11 t : FVec Ideal S3x512x512 .f32) (ix3 a b d) = (m ((c : Thread nD τ).loc main_arg11) : FVec Ideal S3x512x512 .f32) (ix3 a b d) := by
  blk_ext [iblk, V, (index_all t).2.2.2.2.2.2.2.2.2.2.2.1]

/-- Window 12 stages its whole array. -/
theorem window12 (t : Fin cfg0.N) (a : Fin 3) (b : Fin 512) :
    (iblk m c 12 t : FVec Ideal S3x512 .f32) (ix2 a b) = (m ((c : Thread nD τ).loc main_arg12) : FVec Ideal S3x512 .f32) (ix2 a b) := by
  blk_ext [iblk, V, (index_all t).2.2.2.2.2.2.2.2.2.2.2.2.1]

/-- Window 13 stages its whole array. -/
theorem window13 (t : Fin cfg0.N) (a : Fin 3) (b : Fin 512) (d : Fin 128) :
    (iblk m c 13 t : FVec Ideal S3x512x128 .f32) (ix3 a b d) = (m ((c : Thread nD τ).loc main_arg13) : FVec Ideal S3x512x128 .f32) (ix3 a b d) := by
  blk_ext [iblk, V, (index_all t).2.2.2.2.2.2.2.2.2.2.2.2.2.1]

/-- Window 14 stages its whole array. -/
theorem window14 (t : Fin cfg0.N) (a : Fin 3) (b : Fin 128) :
    (iblk m c 14 t : FVec Ideal S3x128 .f32) (ix2 a b) = (m ((c : Thread nD τ).loc main_arg14) : FVec Ideal S3x128 .f32) (ix2 a b) := by
  blk_ext [iblk, V, (index_all t).2.2.2.2.2.2.2.2.2.2.2.2.2.2.1]

/-- Window 15 stages its whole array. -/
theorem window15 (t : Fin cfg0.N) (a : Fin 4) (b : Fin 3) (d : Fin 128) (e : Fin 128) :
    (iblk m c 15 t : FVec Ideal S4x3x128x128 .f32) (ix4 a b d e) = (V m c main_v17 : FVec Ideal S4x3x128x128 .f32) (ix4 a b d e) := by
  blk_ext [iblk, (index_all t).2.2.2.2.2.2.2.2.2.2.2.2.2.2.2.1]

/-- Window 16 stages its whole array. -/
theorem window16 (t : Fin cfg0.N) (a : Fin 4) (b : Fin 128) :
    (iblk m c 16 t : FVec Ideal S4x128 .f32) (ix2 a b) = (m ((c : Thread nD τ).loc main_arg16) : FVec Ideal S4x128 .f32) (ix2 a b) := by
  blk_ext [iblk, V, (index_all t).2.2.2.2.2.2.2.2.2.2.2.2.2.2.2.2.1]

/-- Window 17 stages its whole array. -/
theorem window17 (t : Fin cfg0.N) (a : Fin 128) (b : Fin 1) :
    (iblk m c 17 t : FVec Ideal S128x1 .f32) (ix2 a b) = (m ((c : Thread nD τ).loc main_arg17) : FVec Ideal S128x1 .f32) (ix2 a b) := by
  blk_ext [iblk, V, (index_all t).2.2.2.2.2.2.2.2.2.2.2.2.2.2.2.2.2.1]

/-- Window 18 stages its whole array. -/
theorem window18 (t : Fin cfg0.N) (a : Fin 1) (b : Fin 1) :
    (iblk m c 18 t : FVec Ideal S1x1 .f32) (ix2 a b) = (V m c main_v18 : FVec Ideal S1x1 .f32) (ix2 a b) := by
  blk_ext [iblk, (index_all t).2.2.2.2.2.2.2.2.2.2.2.2.2.2.2.2.2.2.1]

end Cert.KernelIdeal.Block
-- ==== Proof.Stored.lean ====
/-
The weights of the three layers, as the arguments hold them.
-/
module

public import proofs.«01_k».proof.Proof.Finite
public import proofs.«01_k».proof.Proof.ValueFrames

@[expose] public section

noncomputable section

namespace Cert

open Idealize.ShloMosaic

/-- The weights of layer `l`: page `l` of each stacked array. -/
def weightsAt (wq : FVec Ideal ⟨3, ![3, 128, 128]⟩ .f32) (wk wv : FVec Ideal ⟨3, ![3, 157, 128]⟩ .f32) (wo : FVec Ideal ⟨3, ![3, 128, 128]⟩ .f32)
    (m1 : FVec Ideal ⟨3, ![3, 128, 512]⟩ .f32) (b1 : FVec Ideal ⟨2, ![3, 512]⟩ .f32) (m2 : FVec Ideal ⟨3, ![3, 512, 512]⟩ .f32)
    (b2 : FVec Ideal ⟨2, ![3, 512]⟩ .f32) (m3 : FVec Ideal ⟨3, ![3, 512, 128]⟩ .f32) (b3 : FVec Ideal ⟨2, ![3, 128]⟩ .f32) (l : Fin 3) :
    Model.Weights where
  q c f := wq (ix3 l c f)
  k c f := wk (ix3 l c f)
  v c f := wv (ix3 l c f)
  o c f := wo (ix3 l c f)
  m1 c f := m1 (ix3 l c f)
  b1 f := b1 (ix2 l f)
  m2 c f := m2 (ix3 l c f)
  b2 f := b2 (ix2 l f)
  m3 c f := m3 (ix3 l c f)
  b3 f := b3 (ix2 l f)

/-- Real query and key weights are real in every layer. -/
theorem weightsAt_scored {wq : FVec Ideal ⟨3, ![3, 128, 128]⟩ .f32} {wk wv : FVec Ideal ⟨3, ![3, 157, 128]⟩ .f32} {wo : FVec Ideal ⟨3, ![3, 128, 128]⟩ .f32}
    {m1 : FVec Ideal ⟨3, ![3, 128, 512]⟩ .f32} {b1 : FVec Ideal ⟨2, ![3, 512]⟩ .f32} {m2 : FVec Ideal ⟨3, ![3, 512, 512]⟩ .f32}
    {b2 : FVec Ideal ⟨2, ![3, 512]⟩ .f32} {m3 : FVec Ideal ⟨3, ![3, 512, 128]⟩ .f32} {b3 : FVec Ideal ⟨2, ![3, 128]⟩ .f32}
    (hq : ∀ j, Model.IsReal (wq j)) (hk : ∀ j, Model.IsReal (wk j)) (l : Fin 3) : (weightsAt wq wk wv wo m1 b1 m2 b2 m3 b3 l).Scored where
  q _ _ := hq _
  k _ _ := hk _

/-- A layer whose pages are real has real weights. -/
theorem weightsAt_real {wq : FVec Ideal ⟨3, ![3, 128, 128]⟩ .f32} {wk wv : FVec Ideal ⟨3, ![3, 157, 128]⟩ .f32} {wo : FVec Ideal ⟨3, ![3, 128, 128]⟩ .f32}
    {m1 : FVec Ideal ⟨3, ![3, 128, 512]⟩ .f32} {b1 : FVec Ideal ⟨2, ![3, 512]⟩ .f32} {m2 : FVec Ideal ⟨3, ![3, 512, 512]⟩ .f32}
    {b2 : FVec Ideal ⟨2, ![3, 512]⟩ .f32} {m3 : FVec Ideal ⟨3, ![3, 512, 128]⟩ .f32} {b3 : FVec Ideal ⟨2, ![3, 128]⟩ .f32}
    (hq : ∀ j, Model.IsReal (wq j)) (hk : ∀ j, Model.IsReal (wk j)) (l : Fin 3)
    (hv : ∀ c f, Model.IsReal (wv (ix3 l c f))) (ho : ∀ c f, Model.IsReal (wo (ix3 l c f)))
    (h1 : ∀ c f, Model.IsReal (m1 (ix3 l c f))) (hb1 : ∀ f, Model.IsReal (b1 (ix2 l f)))
    (h2 : ∀ c f, Model.IsReal (m2 (ix3 l c f))) (hb2 : ∀ f, Model.IsReal (b2 (ix2 l f)))
    (h3 : ∀ c f, Model.IsReal (m3 (ix3 l c f))) (hb3 : ∀ f, Model.IsReal (b3 (ix2 l f))) : (weightsAt wq wk wv wo m1 b1 m2 b2 m3 b3 l).AllReal where
  q _ _ := hq _
  k _ _ := hk _
  v := hv
  o := ho
  m1 := h1
  b1 := hb1
  m2 := h2
  b2 := hb2
  m3 := h3
  b3 := hb3

end Cert
-- ==== Proof.Array.lean ====
/-
What the kernel's result array holds.
-/
module

public import proofs.«01_k».proof.Proof.Windows
public import proofs.«01_k».proof.Proof.Stored
public import proofs.«01_k».proof.Proof.Gen.KernelIdeal.Value

@[expose] public section

set_option maxRecDepth 16384

noncomputable section

namespace Cert.KernelIdeal.Block

open Cert.KernelIdeal Cert.KernelIdeal.Gen Idealize.ShloMosaic Idealize.ShloMosaic.TcCoe
open Cert

variable (m : (ℓ : Loc nD τ sig) → Buf (Elt Ideal) ℓ) (c : Dev nD)

/-- Argument 0 as launched. -/
abbrev input0 : FVec Ideal S4096x3x3 .f32 := m ((c : Thread nD τ).loc main_arg0)
/-- Argument 3 as launched. -/
abbrev input3 : FVec Ideal S8x512x512 .f32 := m ((c : Thread nD τ).loc main_arg3)
/-- Argument 4 as launched. -/
abbrev input4 : FVec Ideal S27x128 .f32 := m ((c : Thread nD τ).loc main_arg4)
/-- Argument 5 as launched. -/
abbrev input5 : FVec Ideal S3x128x128 .f32 := m ((c : Thread nD τ).loc main_arg5)
/-- Argument 6 as launched. -/
abbrev input6 : FVec Ideal S3x157x128 .f32 := m ((c : Thread nD τ).loc main_arg6)
/-- Argument 7 as launched. -/
abbrev input7 : FVec Ideal S3x157x128 .f32 := m ((c : Thread nD τ).loc main_arg7)
/-- Argument 8 as launched. -/
abbrev input8 : FVec Ideal S3x128x128 .f32 := m ((c : Thread nD τ).loc main_arg8)
/-- Argument 9 as launched. -/
abbrev input9 : FVec Ideal S3x128x512 .f32 := m ((c : Thread nD τ).loc main_arg9)
/-- Argument 10 as launched. -/
abbrev input10 : FVec Ideal S3x512 .f32 := m ((c : Thread nD τ).loc main_arg10)
/-- Argument 11 as launched. -/
abbrev input11 : FVec Ideal S3x512x512 .f32 := m ((c : Thread nD τ).loc main_arg11)
/-- Argument 12 as launched. -/
abbrev input12 : FVec Ideal S3x512 .f32 := m ((c : Thread nD τ).loc main_arg12)
/-- Argument 13 as launched. -/
abbrev input13 : FVec Ideal S3x512x128 .f32 := m ((c : Thread nD τ).loc main_arg13)
/-- Argument 14 as launched. -/
abbrev input14 : FVec Ideal S3x128 .f32 := m ((c : Thread nD τ).loc main_arg14)
/-- Argument 15 as launched. -/
abbrev input15 : FVec Ideal S4x128x128x3 .f32 := m ((c : Thread nD τ).loc main_arg15)
/-- Argument 16 as launched. -/
abbrev input16 : FVec Ideal S4x128 .f32 := m ((c : Thread nD τ).loc main_arg16)
/-- Argument 17 as launched. -/
abbrev input17 : FVec Ideal S128x1 .f32 := m ((c : Thread nD τ).loc main_arg17)
/-- Argument 18 as launched. -/
abbrev input18 : FVec Ideal S1 .f32 := m ((c : Thread nD τ).loc main_arg18)

/-- The weights of the three layers. -/
abbrev weightsIn : Fin 3 → Model.Weights :=
  weightsAt (input5 m c) (input6 m c) (input7 m c) (input8 m c) (input9 m c) (input10 m c) (input11 m c) (input12 m c) (input13 m c) (input14 m c)

/-- Where each residue is. -/
abbrev spots (n : Fin 4096) (k : Fin 3) : EReal := input0 m c (ix3 n 1 k)

/-- The staged coordinates are the residues' places. -/
theorem cols_window (t : Fin cfg0.N) : cols (iblk m c 0 t) = spots m c := by
  funext n k
  exact (window0 m c t k n).trans (entry2 m c k n)

/-- The points of the grid are the proteins. -/
def point (b : Fin 8) : Fin cfg0.N := ⟨b.val, lt_of_lt_of_eq b.isLt N_0.symm⟩

/-- The result array's entry for a protein is what the protein's point wrote. -/
theorem entry_of_point (b : Fin 8) :
    ((dats m 0 c).arrAt 19 cfg0.N : FVec Ideal S8x1x1 .f32) (ix3 b 0 0)
      = (((cfg0.win 19).blk (point b)).view.read (Elt Ideal) ((dats m 0 c).arrAt 19 cfg0.N) : FVec Ideal S1x1x1 .f32) (ix3 0 0 0) := by
  symm
  blk_ext [(index_all (point b)).2.2.2.2.2.2.2.2.2.2.2.2.2.2.2.2.2.2.2.1]
  rfl

/-- Each protein's entry of the result is the model's answer for that protein. -/
theorem array_value (b : Fin 8) (idx : Fin 512 → Fin 15 → Fin 512)
    (hP : ∀ n k, Model.IsReal (spots m c n k)) (hN : ∀ j, ⊥ < input3 m c j) (hS : ∀ j, Model.IsReal (input4 m c j))
    (hW : ∀ l, (weightsIn m c l).Scored) (hV : ∀ l, l.val < 2 → (weightsIn m c l).AllReal)
    (hidx : ∀ r, Model.Ranked (Model.near (fun r => spots m c (rowIn b r)) (fun r j => input3 m c (ix3 b r j)) r) (idx r)) :
    ((dats m 0 c).arrAt 19 cfg0.N : FVec Ideal S8x1x1 .f32) (ix3 b 0 0)
      = Model.answer (fun r => spots m c (rowIn b r)) (fun r => Model.axis (spots m c) (rowIn b r)) idx
          (fun f => ∑ a : Fin 27, input4 m c (ix2 a f)) (weightsIn m c)
          (fun l i f o => input15 m c (ix4 l o f i)) (fun l o => input16 m c (ix2 l o)) (fun f => input17 m c (ix2 f 0)) (input18 m c (ix1 0)) := by
  have e := index_all (point b)
  have hb : (grid0.coords (point b) 0).val = b.val := e.2.2.2.2.2.2.2.2.2.2.2.2.2.2.2.2.2.2.2.2
  refine (entry_of_point m c b).trans ((congrFun ((Cert.KernelIdeal.Value.blocks19 m c (point b) (flush0_19 (point b))).trans
    ((Cert.KernelIdeal.Value.flushed19_A m c (point b)).trans (congrArg _ (out_eq (c := c) ..)))) _).trans ?_)
  refine (outcome_value (b := b) (hb := hb) (idx := idx) (W := weightsIn m c)
    (hP := fun n k => (congrFun (congrFun (cols_window m c (point b)) n) k).symm ▸ hP n k)
    (hN := fun r j => (window1 m c (point b) b rfl r j).symm ▸ hN _)
    (hW := hW) (hV := hV) (hidx := ?_)
    (hq := window3 m c (point b))
    (hkx := fun l a f => (window4 m c (point b) l a f).trans (entry3 m c l a f))
    (hkr := fun l a f => (window5 m c (point b) l a f).trans ((congrFun (entry9 m c) _).trans (regrouped_apply _ l a f)))
    (hvx := fun l a f => (window6 m c (point b) l a f).trans (entry10 m c l a f))
    (hvr := fun l a f => (window7 m c (point b) l a f).trans ((congrFun (entry16 m c) _).trans (regrouped_apply _ l a f)))
    (ho := window8 m c (point b))
    (hm1 := window9 m c (point b)) (hb1 := window10 m c (point b))
    (hm2 := window11 m c (point b)) (hb2 := window12 m c (point b))
    (hm3 := window13 m c (point b)) (hb3 := window14 m c (point b))
    (hS := fun a f => (window2 m c (point b) a f).symm ▸ hS _) ..).trans ?_
  · intro r
    rw [cols_window]
    have h1 : (fun r j => (iblk m c 1 (point b) : FVec Ideal S1x512x512 .f32) (ix3 0 r j)) = fun r j => input3 m c (ix3 b r j) :=
      funext fun r => funext fun j => window1 m c (point b) b rfl r j
    exact (congrArg (fun n => Model.Ranked (Model.near (fun r => spots m c (rowIn b r)) n r) (idx r)) h1).mpr (hidx r)
  · rw [cols_window]
    have sums : ∀ y z : FVec Ideal S27x128 .f32, (∀ a f, y (ix2 a f) = z (ix2 a f)) →
        (fun f : Fin 128 => ∑ a : Fin 27, y (ix2 a f)) = fun f => ∑ a : Fin 27, z (ix2 a f) :=
      fun y z h => funext fun f => Finset.sum_congr rfl fun a _ => h a f
    have h2 := sums (iblk m c 2 (point b)) (input4 m c) (window2 m c (point b))
    have h15 : (fun l t f o => (iblk m c 15 (point b) : FVec Ideal S4x3x128x128 .f32) (ix4 l t f o)) = fun l t f o => input15 m c (ix4 l o f t) :=
      funext fun l => funext fun t => funext fun f => funext fun o => (window15 m c (point b) l t f o).trans (entry17 m c l t f o)
    have h16 : (fun l o => (iblk m c 16 (point b) : FVec Ideal S4x128 .f32) (ix2 l o)) = fun l o => input16 m c (ix2 l o) :=
      funext fun l => funext fun o => window16 m c (point b) l o
    have h17 : (fun f => (iblk m c 17 (point b) : FVec Ideal S128x1 .f32) (ix2 f 0)) = fun f => input17 m c (ix2 f 0) :=
      funext fun f => window17 m c (point b) f 0
    have h18 : (iblk m c 18 (point b) : FVec Ideal S1x1 .f32) (ix2 0 0) = input18 m c (ix1 0) := (window18 m c (point b) 0 0).trans (entry18 m c)
    exact congr (congr (congr (congr (congrFun (congrArg _ h2) _) h15) h16) h17) h18

end Cert.KernelIdeal.Block
-- ==== Proof.RefFrames.lean ====
/-
The residues' frames, as the reference computes them, over the reals extended by the two infinities.
-/
module

public import proofs.«01_k».proof.Proof.Gen.ReferenceIdeal.Read
public import proofs.«01_k».proof.Proof.Model

@[expose] public section

set_option maxRecDepth 16384

noncomputable section

namespace Cert.ReferenceIdeal.Rows

open Cert.ReferenceIdeal Cert.ReferenceIdeal.Read Idealize.ShloMosaic
open Cert

variable [Facts]

/-- The second of a residue's three atoms, as a function of residue and coordinate. -/
def spot (x0 : FVec Ideal S4096x3x3 .f32) (n : Fin 4096) (c : Fin 3) : EReal := x0 (ix3 n 1 c)

/-- The rows of an array. -/
def rowsOf {N C : ℕ} (v : FVec Ideal ⟨2, ![N, C]⟩ .f32) (n : Fin N) (c : Fin C) : EReal := v (ix2 n c)

variable (x0 : FVec Ideal S4096x3x3 .f32)

/-- A residue's place. -/
theorem v1_apply (n : Fin 4096) (c : Fin 3) : val_main_v1 (F := Ideal) x0 (ix2 n c) = spot x0 n c := by
  pointwise [val_main_v1, val_main_v0]
  rfl

/-- The unit steps. -/
theorem v9_apply (n : Fin 4095) (c : Fin 3) : val_main_v9 (F := Ideal) x0 (ix2 n c) = Model.step (spot x0) n c := by
  pointwise [val_main_v9, val_main_v8, val_main_v7, val_main_v6, val_main_v5, val_main_v4, val_main_v3, val_main_v2, val_main_call0_v2,
    val_main_call0_v1, val_main_call0_v0, val_main_call0_cst, val_main_cst]
  simp only [v1_apply, Fin.sum_univ_three, Nat.add_comm 1]
  rfl

/-- The steps into residues. -/
theorem v11_apply (n : Fin 4096) : rowsOf (val_main_v11 (F := Ideal) x0) n = Model.into (spot x0) n := by
  funext c
  unfold rowsOf
  pointwise [val_main_v11, val_main_v10]
  simp only [v9_apply]
  split
  · exact congrArg (fun m => Model.step (spot x0) m c) (Fin.ext (by simp; omega))
  · rfl

/-- The steps out of residues. -/
theorem v13_apply (n : Fin 4096) : rowsOf (val_main_v13 (F := Ideal) x0) n = Model.out (spot x0) n := by
  funext c
  unfold rowsOf
  pointwise [val_main_v13, val_main_v12]
  simp only [v9_apply]
  split
  · exact congrArg (fun m => Model.step (spot x0) m c) (Fin.ext (by simp; omega))
  · exact congrArg (fun m => Model.step (spot x0) m c) (Fin.ext (by simp; omega))

/-- The first axes. -/
theorem v19_apply (n : Fin 4096) : rowsOf (val_main_v19 (F := Ideal) x0) n = Model.axis (spot x0) n 0 := by
  funext c
  show _ = Model.unit (fun c => _) c
  rw [← v11_apply, ← v13_apply]
  unfold rowsOf
  pointwise [val_main_v19, val_main_v18, val_main_v17, val_main_v16, val_main_v15, val_main_v14, val_main_call1_v2,
    val_main_call1_v1, val_main_call1_v0, val_main_call1_cst, val_main_cst_0]
  simp only [Fin.sum_univ_three]
  rfl

/-- The cross products of the steps. -/
theorem v44_apply (n : Fin 4096) : rowsOf (val_main_v44 (F := Ideal) x0) n = Model.cross (Model.into (spot x0) n) (Model.out (spot x0) n) := by
  rw [← v11_apply, ← v13_apply]
  funext c
  unfold rowsOf
  fin_cases c <;> (pointwise [val_main_v44, val_main_v41, val_main_v42, val_main_v43, val_main_v34, val_main_v37, val_main_v40, val_main_v32,
    val_main_v33, val_main_v35, val_main_v36, val_main_v38, val_main_v39, val_main_v20, val_main_v21, val_main_v22, val_main_v23, val_main_v24,
    val_main_v25, val_main_v26, val_main_v27, val_main_v28, val_main_v29, val_main_v30, val_main_v31]; rfl)

/-- The second axes. -/
theorem v49_apply (n : Fin 4096) : rowsOf (val_main_v49 (F := Ideal) x0) n = Model.axis (spot x0) n 1 := by
  funext c
  show _ = Model.unit _ c
  rw [← v44_apply]
  unfold rowsOf
  pointwise [val_main_v49, val_main_v48, val_main_v47, val_main_v46, val_main_v45, val_main_call2_v2,
    val_main_call2_v1, val_main_call2_v0, val_main_call2_cst, val_main_cst_1]
  simp only [Fin.sum_univ_three]
  rfl

/-- The third axes. -/
theorem v74_apply (n : Fin 4096) : rowsOf (val_main_v74 (F := Ideal) x0) n = Model.axis (spot x0) n 2 := by
  have e : Model.axis (spot x0) n 2 = Model.cross (Model.axis (spot x0) n 0) (Model.axis (spot x0) n 1) := rfl
  rw [e, ← v19_apply, ← v49_apply]
  funext c
  unfold rowsOf
  fin_cases c <;> (pointwise [val_main_v74, val_main_v71, val_main_v72, val_main_v73, val_main_v64, val_main_v67, val_main_v70, val_main_v62,
    val_main_v63, val_main_v65, val_main_v66, val_main_v68, val_main_v69, val_main_v50, val_main_v51, val_main_v52, val_main_v53, val_main_v54,
    val_main_v55, val_main_v56, val_main_v57, val_main_v58, val_main_v59, val_main_v60, val_main_v61]; rfl)

/-- The three axes of every residue. -/
theorem v78_apply (n : Fin 4096) (v a : Fin 3) : val_main_v78 (F := Ideal) x0 (ix3 n v a) = Model.axis (spot x0) n v a := by
  have h0 := congrFun (v19_apply x0 n) a
  have h1 := congrFun (v49_apply x0 n) a
  have h2 := congrFun (v74_apply x0 n) a
  unfold rowsOf at h0 h1 h2
  fin_cases v
  · refine Eq.trans ?_ h0
    pointwise [val_main_v78, val_main_v75, val_main_v76, val_main_v77]
  · refine Eq.trans ?_ h1
    pointwise [val_main_v78, val_main_v75, val_main_v76, val_main_v77]
  · refine Eq.trans ?_ h2
    pointwise [val_main_v78, val_main_v75, val_main_v76, val_main_v77]

end Cert.ReferenceIdeal.Rows
-- ==== Proof.RefGather.lean ====
/-
Rows taken at indices that lie inside the table.
-/
module

public import proofs.«01_k».proof.Proof.Gen.ReferenceIdeal.Read
public import proofs.«01_k».proof.Proof.Model

@[expose] public section

set_option maxRecDepth 16384

noncomputable section

namespace Cert.ReferenceIdeal.Rows

open Cert.ReferenceIdeal Idealize.ShloMosaic
open Cert

variable [Facts]

/-- A start that lies inside the table is taken as it is. -/
theorem start_inside {s si t : Shape} (d : GatherDims s si t) (j : t.Idx) (idx : IVec si 32) (a : Fin s.rank) (ha : a ∈ d.startIndexMap)
    (k : si.Idx) (hk : d.siIdx j ⟨d.startIndexMap.idxOf a, List.idxOf_lt_length_iff.2 ha⟩ = k) (n : ℕ) (hn : n < 2 ^ 31)
    (h : idx k = BitVec.ofNat 32 n) (hs : n ≤ s.size a - d.sliceSizes a) : d.start j idx a = n := by
  rw [GatherDims.start, dif_pos ha, hk, h]
  have e : (BitVec.ofNat 32 n).toInt = (n : ℤ) := by
    rw [BitVec.toInt_ofNat', Int.bmod_eq_of_le (by norm_num) (by omega)]
  rw [e, Int.toNat_natCast, Nat.min_eq_left hs]

/-- The start index of a result row is read at its two coordinates. -/
theorem row_start {k : S4096x15x1.Idx} (v : S4096x15x1.Idx) (h0 : (v 0).val = (k 0).val) (h1 : (v 1).val = (k 1).val) : v = k := by
  funext b
  apply Fin.ext
  match b with
  | ⟨0, _⟩ => exact h0
  | ⟨1, _⟩ => exact h1
  | ⟨2, _⟩ => exact congrArg Fin.val (Subsingleton.elim (α := Fin 1) (v 2) (k 2))

/-- Rows of three numbers. -/
theorem take3 {α : Type} (x : S4096x3.Idx → α) (idx : IVec S4096x15x1 32) (r : Fin 4096) (k : Fin 15) (c : Fin 3) (n : Fin 4096)
    (h : idx (ix3 r k 0) = BitVec.ofNat 32 n.val) :
    Host.gather gather_S4096x3_S4096x15x1_S4096x15x3_2_0_n_n_0_2_13 x idx (ix3 r k c) = x (ix2 n c) := by
  unfold Host.gather
  congr 1
  funext a
  apply Fin.ext
  match a with
  | ⟨0, _⟩ => exact start_inside gather_S4096x3_S4096x15x1_S4096x15x3_2_0_n_n_0_2_13 _ idx 0 (List.mem_singleton.2 rfl) (ix3 r k 0) (row_start _ rfl rfl) n.val (by omega) h (by show n.val ≤ 4095; omega)
  | ⟨1, _⟩ => exact Nat.zero_add _

/-- Pages of three by three. -/
theorem take9 {α : Type} (x : S4096x3x3.Idx → α) (idx : IVec S4096x15x1 32) (r : Fin 4096) (k : Fin 15) (c : Fin 3) (d : Fin 3) (n : Fin 4096)
    (h : idx (ix3 r k 0) = BitVec.ofNat 32 n.val) :
    Host.gather gather_S4096x3x3_S4096x15x1_S4096x15x3x3_23_0_n_n_0_2_133 x idx (ix4 r k c d) = x (ix3 n c d) := by
  unfold Host.gather
  congr 1
  funext a
  apply Fin.ext
  match a with
  | ⟨0, _⟩ => exact start_inside gather_S4096x3x3_S4096x15x1_S4096x15x3x3_23_0_n_n_0_2_133 _ idx 0 (List.mem_singleton.2 rfl) (ix3 r k 0) (row_start _ rfl rfl) n.val (by omega) h (by show n.val ≤ 4095; omega)
  | ⟨1, _⟩ => exact Nat.zero_add _
  | ⟨2, _⟩ => exact Nat.zero_add _

/-- Single numbers. -/
theorem take1 {α : Type} (x : S4096.Idx → α) (idx : IVec S4096x15x1 32) (r : Fin 4096) (k : Fin 15) (n : Fin 4096)
    (h : idx (ix3 r k 0) = BitVec.ofNat 32 n.val) :
    Host.gather gather_S4096_S4096x15x1_S4096x15_n_0_n_n_0_2_1 x idx (ix2 r k) = x (ix1 n) := by
  unfold Host.gather
  congr 1
  funext a
  apply Fin.ext
  match a with
  | ⟨0, _⟩ => exact start_inside gather_S4096_S4096x15x1_S4096x15_n_0_n_n_0_2_1 _ idx 0 (List.mem_singleton.2 rfl) (ix3 r k 0) (row_start _ rfl rfl) n.val (by omega) h (by show n.val ≤ 4095; omega)

/-- Rows of 128 numbers. -/
theorem take128 {α : Type} (x : S4096x128.Idx → α) (idx : IVec S4096x15x1 32) (r : Fin 4096) (k : Fin 15) (c : Fin 128) (n : Fin 4096)
    (h : idx (ix3 r k 0) = BitVec.ofNat 32 n.val) :
    Host.gather gather_S4096x128_S4096x15x1_S4096x15x128_2_0_n_n_0_2_1128 x idx (ix3 r k c) = x (ix2 n c) := by
  unfold Host.gather
  congr 1
  funext a
  apply Fin.ext
  match a with
  | ⟨0, _⟩ => exact start_inside gather_S4096x128_S4096x15x1_S4096x15x128_2_0_n_n_0_2_1128 _ idx 0 (List.mem_singleton.2 rfl) (ix3 r k 0) (row_start _ rfl rfl) n.val (by omega) h (by show n.val ≤ 4095; omega)
  | ⟨1, _⟩ => exact Nat.zero_add _

end Cert.ReferenceIdeal.Rows
-- ==== Proof.RefPairs.lean ====
/-
The features of every pair, as the reference computes them, over the reals extended by the two infinities.
-/
module

public import proofs.«01_k».proof.Proof.RefFrames
public import proofs.«01_k».proof.Proof.RefGather
public import proofs.«01_k».proof.Proof.Ranked

@[expose] public section

set_option maxRecDepth 16384

noncomputable section

namespace Cert.ReferenceIdeal.Rows

open Cert.ReferenceIdeal Cert.ReferenceIdeal.Read Idealize.ShloMosaic
open Cert

variable [Facts]

/-- Row `r` of block `b`. -/
def rowAt (b : Fin 8) (r : Fin 512) : Fin 4096 := ⟨b.val * 512 + r.val, by omega⟩

variable (x0 : FVec Ideal S4096x3x3 .f32) (x3 : FVec Ideal S8x512x512 .f32)

/-- How near two residues are. -/
theorem v93_apply (b : Fin 8) (r j : Fin 512) :
    val_main_v93 (F := Ideal) x0 x3 (ix3 b r j) = Model.near (fun r => spot x0 (rowAt b r)) (fun r j => x3 (ix3 b r j)) r j := by
  pointwise [val_main_v93, val_main_v92, val_main_v91, val_main_v90, val_main_v89, val_main_v88, val_main_v87, val_main_v86, val_main_v85,
    val_main_v84, val_main_v83, val_main_v82, val_main_v81, val_main_v80, val_main_v79, val_main_cst_2, val_main_cst_3, val_main_cst_4]
  simp only [v1_apply]
  rfl

/-- Along the last of three axes, a sort puts at place `j` of each row what stands at the place sorted to `j`. -/
theorem sorted_last {A B N : ℕ} {α β : Type} (gt : α → α → BitVec 1) (x : (⟨3, ![A, B, N]⟩ : Shape).Idx → α)
    (y : (⟨3, ![A, B, N]⟩ : Shape).Idx → β) (a : Fin A) (b : Fin B) (j : Fin N) :
    (Host.sort2 ⟨3, ![A, B, N]⟩ 2 (fun l r => gt l.1 r.1) x y).2 (ix3 a b j)
      = y (ix3 a b (sortedFrom (fun i k => gt (x (ix3 a b i)) (x (ix3 a b k)) == 1#1) j)) := by
  have e : ∀ j i : Fin N, (ix3 a b j : (⟨3, ![A, B, N]⟩ : Shape).Idx).along 2 i = ix3 a b i := fun j i => by
    funext c
    match c with
    | ⟨0, _⟩ => rfl
    | ⟨1, _⟩ => rfl
    | ⟨2, _⟩ => rfl
  show y ((ix3 a b j : (⟨3, ![A, B, N]⟩ : Shape).Idx).along 2 (sortedFrom (fun i k => gt (x ((ix3 a b j : (⟨3, ![A, B, N]⟩ : Shape).Idx).along 2 i))
    (x ((ix3 a b j : (⟨3, ![A, B, N]⟩ : Shape).Idx).along 2 k)) == 1#1) j)) = _
  refine (congrArg y (e _ _)).trans ?_
  exact congrArg (fun f => y (ix3 a b (sortedFrom f j)))
    (funext fun i => funext fun k => congrArg₂ (fun u v => gt (x u) (x v) == 1#1) (e j i) (e j k))

/-- Fifteen neighbours among 512. -/
theorem enough : 15 ≤ 512 := by norm_num

/-- Whether neighbour `j` of a row comes before neighbour `k`. -/
def sooner (b : Fin 8) (r : Fin 512) (j k : Fin 512) : Bool :=
  FloatOps.cmpfTotal (F := Ideal) (φ := .f32) .gt (val_main_v93 (F := Ideal) x0 x3 (ix3 b r j)) (val_main_v93 (F := Ideal) x0 x3 (ix3 b r k)) == 1#1

/-- The `k`-th neighbour of row `r` of block `b`. -/
def sel (b : Fin 8) (r : Fin 512) (k : Fin 15) : Fin 512 := sortedFrom (sooner x0 x3 b r) (k.castLE enough)

/-- The sort puts the nearer residue first. -/
theorem sooner_iff (b : Fin 8) (r : Fin 512) (i j : Fin 512) : sooner x0 x3 b r i j = true ↔
    Model.near (fun r => spot x0 (rowAt b r)) (fun r j => x3 (ix3 b r j)) r j < Model.near (fun r => spot x0 (rowAt b r)) (fun r j => x3 (ix3 b r j)) r i := by
  unfold sooner
  rw [v93_apply, v93_apply]
  generalize Model.near _ _ r i = u
  generalize Model.near _ _ r j = v
  show (BitVec.ofBool (decide (v < u)) == 1#1) = true ↔ _
  by_cases h : v < u <;> simp [h]

/-- The chosen neighbours are ranked by closeness. -/
theorem sel_ranked (b : Fin 8) (r : Fin 512) :
    Model.Ranked (Model.near (fun r => spot x0 (rowAt b r)) (fun r j => x3 (ix3 b r j)) r) (sel x0 x3 b r) :=
  Model.ranked_sorted (R := sooner x0 x3 b r) _ (sooner_iff x0 x3 b r) enough

/-- The chosen neighbours' numbers. -/
theorem indices_apply (b : Fin 8) (r : Fin 512) (k : Fin 15) :
    val_main_indices (F := Ideal) x0 x3 (ix3 b r k) = BitVec.ofNat 32 (sel x0 x3 b r k).val := by
  unfold val_main_indices Host.topK
  pointwise
  exact sorted_last _ _ _ b r _

/-- A small non-negative word is not below zero. -/
theorem keep_small (n : ℕ) (h : n < 2 ^ 31) (y : BitVec 32) :
    Scalar.select (IntOp.cmpi .slt (BitVec.ofNat 32 n) 0#32) y (BitVec.ofNat 32 n) = BitVec.ofNat 32 n := by
  have e : (BitVec.ofNat 32 n).toInt = (n : ℤ) := by
    rw [BitVec.toInt_ofNat', Int.bmod_eq_of_le (by norm_num) (by omega)]
  rw [Scalar.select, if_neg]
  show ¬BitVec.ofBool (BitVec.slt _ _) = 1#1
  rw [BitVec.slt, e, show (0#32 : BitVec 32).toInt = 0 from rfl, decide_eq_false (by omega)]
  decide

/-- A neighbour's row in the whole array. -/
theorem v100_apply (b : Fin 8) (r : Fin 512) (k : Fin 15) :
    val_main_v100 (F := Ideal) x0 x3 (ix2 (rowAt b r) k) = BitVec.ofNat 32 (rowAt b (sel x0 x3 b r k)).val := by
  have e : val_main_v100 (F := Ideal) x0 x3 (ix2 (rowAt b r) k) = val_main_v99 (F := Ideal) x0 x3 (ix3 b r k) := by
    pointwise [val_main_v100]
    congr 1
    rw [show (⟨(rowAt b r).val / 512, by omega⟩ : Fin 8) = b from Fin.ext (by show (b.val * 512 + r.val) / 512 = b.val; omega),
      show (⟨(rowAt b r).val % 512, by omega⟩ : Fin 512) = r from Fin.ext (by show (b.val * 512 + r.val) % 512 = r.val; omega)]
  rw [e]
  pointwise [val_main_v99, val_main_v98, val_main_v97, val_main_v96, val_main_v95, val_main_v94, val_main_c]
  rw [indices_apply]
  show BitVec.ofNat 32 _ + BitVec.ofNat 32 _ * BitVec.ofNat 32 512 = _
  rw [← BitVec.ofNat_mul, ← BitVec.ofNat_add, Nat.add_comm]
  rfl

/-- Every lookup reads at the same row. -/
theorem lookup (b : Fin 8) (r : Fin 512) (k : Fin 15) (v : IVec S4096x15x1 32)
    (hv : ∀ n k, v (ix3 n k 0) = Scalar.select (IntOp.cmpi .slt (val_main_v100 (F := Ideal) x0 x3 (ix2 n k)) 0#32)
      (IntOp.addi (val_main_v100 (F := Ideal) x0 x3 (ix2 n k)) 4096#32) (val_main_v100 (F := Ideal) x0 x3 (ix2 n k))) :
    v (ix3 (rowAt b r) k 0) = BitVec.ofNat 32 (rowAt b (sel x0 x3 b r k)).val := by
  rw [hv, v100_apply, keep_small _ (by omega)]

/-- Where the places are looked up. -/
theorem v106_apply (b : Fin 8) (r : Fin 512) (k : Fin 15) :
    val_main_v106 (F := Ideal) x0 x3 (ix3 (rowAt b r) k 0) = BitVec.ofNat 32 (rowAt b (sel x0 x3 b r k)).val :=
  lookup x0 x3 b r k _ fun n k => by
    pointwise [val_main_v106, val_main_v105, val_main_v104, val_main_v103, val_main_v102, val_main_v101, val_main_c_5, val_main_c_6]

/-- Where the axes are looked up. -/
theorem v137_apply (b : Fin 8) (r : Fin 512) (k : Fin 15) :
    val_main_v137 (F := Ideal) x0 x3 (ix3 (rowAt b r) k 0) = BitVec.ofNat 32 (rowAt b (sel x0 x3 b r k)).val :=
  lookup x0 x3 b r k _ fun n k => by
    pointwise [val_main_v137, val_main_v136, val_main_v135, val_main_v134, val_main_v133, val_main_v132, val_main_c_13, val_main_c_14]

/-- Where the sequence numbers are looked up. -/
theorem v148_apply (b : Fin 8) (r : Fin 512) (k : Fin 15) :
    val_main_v148 (F := Ideal) x0 x3 (ix3 (rowAt b r) k 0) = BitVec.ofNat 32 (rowAt b (sel x0 x3 b r k)).val :=
  lookup x0 x3 b r k _ fun n k => by
    pointwise [val_main_v148, val_main_v147, val_main_v146, val_main_v145, val_main_v144, val_main_v143, val_main_c_15, val_main_c_16]

/-- The vector to a neighbour. -/
theorem v110_apply (b : Fin 8) (r : Fin 512) (k : Fin 15) (c : Fin 3) :
    val_main_v110 (F := Ideal) x0 x3 (ix3 (rowAt b r) k c) = Model.toward (fun r => spot x0 (rowAt b r)) r (sel x0 x3 b r k) c := by
  pointwise [val_main_v110, val_main_v109, val_main_v108]
  rw [val_main_v107, take3 _ _ _ _ _ _ (v106_apply x0 x3 b r k), v1_apply, v1_apply]
  rfl

/-- The distance to a neighbour. -/
theorem v115_apply (b : Fin 8) (r : Fin 512) (k : Fin 15) :
    val_main_v115 (F := Ideal) x0 x3 (ix2 (rowAt b r) k) = Model.far (fun r => spot x0 (rowAt b r)) r (sel x0 x3 b r k) := by
  pointwise [val_main_v115, val_main_v114, val_main_v113, val_main_v112, val_main_v111, val_main_cst_7, val_main_cst_8]
  simp only [v110_apply]
  rfl

/-- The direction to a neighbour. -/
theorem v120_apply (b : Fin 8) (r : Fin 512) (k : Fin 15) (c : Fin 3) :
    val_main_v120 (F := Ideal) x0 x3 (ix3 (rowAt b r) k c) = Ideal.div (Model.toward (fun r => spot x0 (rowAt b r)) r (sel x0 x3 b r k) c)
      (Model.far (fun r => spot x0 (rowAt b r)) r (sel x0 x3 b r k) + Model.epsLen) := by
  pointwise [val_main_v120, val_main_v119, val_main_v118, val_main_v117, val_main_v116, val_main_cst_9]
  rw [v110_apply, v115_apply]
  rfl

/-- A small number, as a word, is that number. -/
theorem small_num (n : ℕ) (h : n < 2 ^ 31) : (FloatOps.sitofp .f32 (BitVec.ofNat 32 n) : Ideal .f32) = ((n : ℝ) : EReal) := by
  show ((((BitVec.ofNat 32 n).toInt : ℤ) : ℝ) : EReal) = _
  rw [BitVec.toInt_ofNat', Int.bmod_eq_of_le (by norm_num) (by omega)]
  simp

/-- The radial centres are 4/3 apart. -/
theorem v121_apply (m : Fin 16) : val_main_v121 (F := Ideal) (ix1 m) = ((4 / 3 * (m.val : ℝ) : ℝ) : EReal) := by
  pointwise [val_main_v121, val_main_call3_v16, val_main_call3_v15, val_main_call3_v14, val_main_call3_v13, val_main_call3_v12, val_main_call3_v11,
    val_main_call3_v10, val_main_call3_v9, val_main_call3_v8, val_main_call3_v7, val_main_call3_v6, val_main_call3_v5, val_main_call3_v4,
    val_main_call3_v3, val_main_call3_v2, val_main_call3_v1, val_main_call3_v0, val_main_cst_10, val_main_cst_11, val_main_call3_cst, val_main_call3_cst_0,
    val_main_call3_cst_1]
  have h15 : Ideal.ofBits .f32 0x41700000#32 = ((15 : ℝ) : EReal) := by
    simp [Ideal.ofBits, Ideal.ieee, -EReal.coe_mul]
    norm_num
  have h20 : (id (constant (F := Ideal) S_ .f32 0x41A00000#32) ix0 : EReal) = ((20 : ℝ) : EReal) := by
    show Ideal.ofBits .f32 0x41A00000#32 = _
    simp [Ideal.ofBits, Ideal.ieee, -EReal.coe_mul]
    norm_num
  have h0 : (id (constant (F := Ideal) S_ .f32 0x00000000#32) ix0 : EReal) = 0 := by
    show Ideal.ofBits .f32 0x00000000#32 = _
    simp [Ideal.ofBits, Ideal.ieee]
  have hm : (FloatOps.sitofp .f32 (BitVec.ofNat 32 m.val) : Ideal .f32) = ((m.val : ℝ) : EReal) := small_num _ (by omega)
  split
  · rw [h0, h15, h20, hm, Ideal.div_coe (by norm_num), zero_mul, zero_add, ← EReal.coe_mul, ← EReal.coe_mul]
    congr 1
    ring
  · rw [h20]
    have : m.val = 15 := by omega
    rw [this]
    congr 1
    norm_num

/-- The bumps. -/
theorem v131_apply (b : Fin 8) (r : Fin 512) (k : Fin 15) (m : Fin 16) :
    val_main_v131 (F := Ideal) x0 x3 (ix3 (rowAt b r) k m) = Ideal.exp (-(Model.offset (fun r => spot x0 (rowAt b r)) r (sel x0 x3 b r k) m
      * Model.offset (fun r => spot x0 (rowAt b r)) r (sel x0 x3 b r k) m)) := by
  pointwise [val_main_v131, val_main_v130, val_main_v129, val_main_v128, val_main_v127, val_main_v126, val_main_v125, val_main_v124, val_main_v123,
    val_main_v122, val_main_cst_12]
  rw [v115_apply, v121_apply]
  rfl

/-- The relative rotation. -/
theorem v141_apply (b : Fin 8) (r : Fin 512) (k : Fin 15) (c : Fin 9) :
    val_main_v141 (F := Ideal) x0 x3 (ix3 (rowAt b r) k c) = Model.turn (fun r => Model.axis (spot x0) (rowAt b r)) r (sel x0 x3 b r k)
      ⟨c.val / 3, by omega⟩ ⟨c.val % 3, by omega⟩ := by
  pointwise [val_main_v141, val_main_v140, val_main_v139]
  rw [Model.turn]
  refine Finset.sum_congr rfl fun v _ => ?_
  rw [val_main_v138, take9 _ _ _ _ _ _ _ (v137_apply x0 x3 b r k), v78_apply, v78_apply, mul_comm]

/-- The sequence numbers. -/
theorem v142_apply (n : Fin 4096) : val_main_v142 (F := Ideal) (ix1 n) = ((n.val : ℝ) : EReal) := by
  pointwise [val_main_v142]
  exact small_num _ (by omega)

/-- How far apart in the sequence. -/
theorem v155_apply (b : Fin 8) (r : Fin 512) (k : Fin 15) :
    val_main_v155 (F := Ideal) x0 x3 (ix3 (rowAt b r) k 0) = Model.hop r (sel x0 x3 b r k) := by
  pointwise [val_main_v155, val_main_v154, val_main_v153, val_main_v152, val_main_v151, val_main_v150, val_main_cst_17]
  rw [val_main_v149, take1 _ _ _ _ _ (v148_apply x0 x3 b r k)]
  rw [v142_apply, v142_apply]
  have h512 : Ideal.ofBits .f32 0x44000000#32 = ((512 : ℝ) : EReal) := by
    simp [Ideal.ofBits, Ideal.ieee, -EReal.coe_mul]
    norm_num
  rw [h512, ← EReal.coe_sub, Ideal.div_coe (by norm_num), ← EReal.coe_mul, Model.hop]
  generalize sel x0 x3 b r k = j
  refine congrArg (fun t : ℝ => (t : EReal)) ?_
  have h : ∀ r : Fin 512, ((rowAt b r).val : ℝ) = (b.val : ℝ) * 512 + (r.val : ℝ) := fun r => by
    show ((b.val * 512 + r.val : ℕ) : ℝ) = _
    push_cast
    ring
  rw [h, h]
  ring

/-- The twenty-nine features. -/
theorem v156_apply (b : Fin 8) (r : Fin 512) (k : Fin 15) (c : Fin 29) :
    val_main_v156 (F := Ideal) x0 x3 (ix3 (rowAt b r) k c) = Model.feat (fun r => spot x0 (rowAt b r)) (fun r => Model.axis (spot x0) (rowAt b r))
      r (sel x0 x3 b r k) c := by
  pointwise [val_main_v156]
  unfold Model.feat
  by_cases h1 : c.val < 3
  · rw [dif_pos h1, dif_pos h1, v120_apply]
  rw [dif_neg h1, dif_neg h1]
  by_cases h2 : c.val < 19
  · rw [dif_pos (by omega), dif_pos h2, v131_apply]
  rw [dif_neg (by omega), dif_neg h2]
  by_cases h3 : c.val < 28
  · rw [dif_pos (by omega), dif_pos h3, v141_apply]
    congr 2
  rw [dif_neg (by omega), dif_neg h3]
  refine Eq.trans (congrArg _ (congrArg (ix3 _ _) (Subsingleton.elim (α := Fin 1) _ 0))) (v155_apply x0 x3 b r k)

end Cert.ReferenceIdeal.Rows
-- ==== Proof.RefLayer.lean ====
/-
One attention layer, as the reference computes it, over the reals extended by the two infinities.
-/
module

public import proofs.«01_k».proof.Proof.RefPairs

@[expose] public section

set_option maxRecDepth 16384

noncomputable section

namespace Cert.ReferenceIdeal.Rows

open Cert.ReferenceIdeal Cert.ReferenceIdeal.Gen Cert.ReferenceIdeal.Read Idealize.ShloMosaic Idealize.ShloMosaic.TcCoe Idealize.SL.Sem
open Idealize.ShloMosaic.StableHlo
open Cert

/-- The weights of a layer, from its matrices. -/
def weightsOf (wq : FVec Ideal S128x128 .f32) (wk wv : FVec Ideal S157x128 .f32) (wo : FVec Ideal S128x128 .f32) (m1 : FVec Ideal S128x512 .f32)
    (b1 : FVec Ideal S512 .f32) (m2 : FVec Ideal S512x512 .f32) (b2 : FVec Ideal S512 .f32) (m3 : FVec Ideal S512x128 .f32)
    (b3 : FVec Ideal S128 .f32) : Model.Weights where
  q := rowsOf wq
  k := rowsOf wk
  v := rowsOf wv
  o := rowsOf wo
  m1 := rowsOf m1
  b1 f := b1 (ix1 f)
  m2 := rowsOf m2
  b2 f := b2 (ix1 f)
  m3 := rowsOf m3
  b3 f := b3 (ix1 f)

section Layer
variable (ft : FVec Ideal S4096x15x29 .f32) (p : IVec S4096x15 32) (x : FVec Ideal S4096x128 .f32)

/-- The rows the lookups read at. -/
def readAt : IVec S4096x15x1 32 :=
  broadcastInDim S4096x15x1 ![0, 1] bcast_S4096x15_S4096x15x1_0_1
    (select (cmpi .slt p (broadcastInDim S4096x15 ![] bcast_S_S4096x15 (constantI S_ 32 0#32)))
      (addi p (broadcastInDim S4096x15 ![] bcast_S_S4096x15 (constantI S_ 32 4096#32))) p)

/-- A neighbour's row, then the features of the pair. -/
def joined : FVec Ideal S4096x15x157 .f32 :=
  concatenate S4096x15x157 2 [⟨S4096x15x128, Host.gather gather_S4096x128_S4096x15x1_S4096x15x128_2_0_n_n_0_2_1128 x (readAt p)⟩,
    ⟨S4096x15x29, ft⟩] concatenates_S4096x15x128_S4096x15x29_S4096x15x157_d2

/-- A linear map of the messages, head by head. -/
def mapped (w : FVec Ideal S157x128 .f32) : FVec Ideal S4096x15x8x16 .f32 :=
  shapeCast S4096x15x8x16 (Host.dotGeneral dot_S4096x15x157_S157x128_S4096x15x128_2_0_01_1_n_n none (joined ft p x) w)
    shapeCasts_S4096x15x128_S4096x15x8x16

/-- A linear map of the rows, head by head. -/
def asked (w : FVec Ideal S128x128 .f32) : FVec Ideal S4096x8x16 .f32 :=
  shapeCast S4096x8x16 (Host.dotGeneral dot_S4096x128_S128x128_S4096x128_1_0_0_1_n_n none x w)
    shapeCasts_S4096x128_S4096x8x16

/-- The scores. -/
def logits (wq : FVec Ideal S128x128 .f32) (wk : FVec Ideal S157x128 .f32) : FVec Ideal S4096x8x15 .f32 :=
  Host.divf (Host.dotGeneral dot_S4096x8x16_S4096x15x8x16_S4096x8x15_2_3_n_1_01_02 none (asked x wq) (mapped ft p x wk))
    (broadcastInDim S4096x8x15 ![] bcast_S_S4096x8x15 (constant S_ .f32 0x40800000#32))

/-- The exponentials of scores. -/
def powers (s : FVec Ideal S4096x8x15 .f32) : FVec Ideal S4096x8x15 .f32 :=
  Host.exp (subf s (broadcastInDim S4096x8x15 ![0, 1, 2] bcast_S4096x8x1_S4096x8x15_0_1_2
    (broadcastInDim S4096x8x1 ![0, 1] bcast_S4096x8_S4096x8x1_0_1
      (maximumf (broadcastInDim S4096x8 ![] bcast_S_S4096x8 (constant S_ .f32 0xFF800000#32))
        (Host.reduce FloatOps.maximumf s (constant S_ .f32 0xFF800000#32) reducesTo_S4096x8x15_S4096x8_d2 h_S_)))))

/-- The shares. -/
def shares (s : FVec Ideal S4096x8x15 .f32) : FVec Ideal S4096x8x15 .f32 :=
  Host.divf (powers s) (broadcastInDim S4096x8x15 ![0, 1, 2] bcast_S4096x8x1_S4096x8x15_0_1_2
    (broadcastInDim S4096x8x1 ![0, 1] bcast_S4096x8_S4096x8x1_0_1
      (Host.reduceAdd (powers s) (constant S_ .f32 0x00000000#32) reducesTo_S4096x8x15_S4096x8_d2 h_S_)))

/-- What is gathered from the neighbours. -/
def gatheredR (wq : FVec Ideal S128x128 .f32) (wk wv : FVec Ideal S157x128 .f32) : FVec Ideal S4096x128 .f32 :=
  shapeCast S4096x128 (Host.dotGeneral dot_S4096x8x15_S4096x15x8x16_S4096x8x16_2_1_n_3_01_02 none (shares (logits ft p x wq wk)) (mapped ft p x wv))
    shapeCasts_S4096x8x16_S4096x128

/-- The rows after attention. -/
def midR (wq : FVec Ideal S128x128 .f32) (wk wv : FVec Ideal S157x128 .f32) (wo : FVec Ideal S128x128 .f32) : FVec Ideal S4096x128 .f32 :=
  addf x (Host.dotGeneral dot_S4096x128_S128x128_S4096x128_1_0_0_1_n_n none (gatheredR ft p x wq wk wv) wo)

end Layer

/-- A rectified sum of rows and a bias. -/
def reluR (v : FVec Ideal S4096x512 .f32) (b : FVec Ideal S512 .f32) : FVec Ideal S4096x512 .f32 :=
  maximumf (addf v (broadcastInDim S4096x512 ![0, 1] bcast_S1x512_S4096x512_0_1 (broadcastInDim S1x512 ![1] bcast_S512_S1x512_1 b)))
    (broadcastInDim S4096x512 ![] bcast_S_S4096x512 (constant S_ .f32 0x00000000#32))

/-- The network on the rows. -/
def networkR (y : FVec Ideal S4096x128 .f32) (m1 : FVec Ideal S128x512 .f32) (b1 : FVec Ideal S512 .f32) (m2 : FVec Ideal S512x512 .f32)
    (b2 : FVec Ideal S512 .f32) (m3 : FVec Ideal S512x128 .f32) (b3 : FVec Ideal S128 .f32) : FVec Ideal S4096x128 .f32 :=
  addf (addf y (Host.dotGeneral dot_S4096x512_S512x128_S4096x128_1_0_0_1_n_n none
    (reluR (Host.dotGeneral dot_S4096x512_S512x512_S4096x512_1_0_0_1_n_n none
      (reluR (Host.dotGeneral dot_S4096x128_S128x512_S4096x512_1_0_0_1_n_n none y m1) b1) m2) b2) m3))
    (broadcastInDim S4096x128 ![0, 1] bcast_S1x128_S4096x128_0_1 (broadcastInDim S1x128 ![1] bcast_S128_S1x128_1 b3))

/-- One layer. -/
def layerR (ft : FVec Ideal S4096x15x29 .f32) (p : IVec S4096x15 32) (x : FVec Ideal S4096x128 .f32)
    (wq : FVec Ideal S128x128 .f32) (wk wv : FVec Ideal S157x128 .f32) (wo : FVec Ideal S128x128 .f32) (m1 : FVec Ideal S128x512 .f32)
    (b1 : FVec Ideal S512 .f32) (m2 : FVec Ideal S512x512 .f32) (b2 : FVec Ideal S512 .f32) (m3 : FVec Ideal S512x128 .f32)
    (b3 : FVec Ideal S128 .f32) : FVec Ideal S4096x128 .f32 :=
  networkR (midR ft p x wq wk wv wo) m1 b1 m2 b2 m3 b3

section Values

/-- The exponentials of the scores. -/
theorem powers_apply (s : FVec Ideal S4096x8x15 .f32) (n : Fin 4096) (h : Fin 8) (k : Fin 15) :
    powers s (ix3 n h k) = Model.ex (fun k => s (ix3 n h k)) k := by
  pointwise [powers]
  have hb : Ideal.ofBits .f32 0xFF800000#32 = ⊥ := by simp [Ideal.ofBits, Ideal.ieee]
  rw [hb, max_eq_right bot_le]
  rfl

/-- The shares. -/
theorem shares_apply (s : FVec Ideal S4096x8x15 .f32) (n : Fin 4096) (h : Fin 8) (k : Fin 15) :
    shares s (ix3 n h k) = Model.share (fun k => s (ix3 n h k)) k := by
  pointwise [shares]
  simp only [powers_apply]
  rfl

variable (ft : FVec Ideal S4096x15x29 .f32) (p : IVec S4096x15 32) (x : FVec Ideal S4096x128 .f32)
variable (b : Fin 8) (idx : Fin 512 → Fin 15 → Fin 512) (hp : ∀ r k, p (ix2 (rowAt b r) k) = BitVec.ofNat 32 (rowAt b (idx r k)).val)
include hp

/-- Where a neighbour is looked up. -/
theorem readAt_apply (r : Fin 512) (k : Fin 15) : readAt p (ix3 (rowAt b r) k 0) = BitVec.ofNat 32 (rowAt b (idx r k)).val := by
  pointwise [readAt]
  rw [hp, keep_small _ (by omega)]

/-- A mapped message is the neighbour's row part plus the feature part. -/
theorem mapped_apply (w : FVec Ideal S157x128 .f32) (r : Fin 512) (k : Fin 15) (h : Fin 8) (d : Fin 16) :
    mapped ft p x w (ix4 (rowAt b r) k h d)
      = Model.msg (fun r k c => ft (ix3 (rowAt b r) k c)) idx (fun r => rowsOf x (rowAt b r)) (rowsOf w) r k (Model.at_ h d) := by
  have hx : ∀ (c : Fin 157) (hc : c.val < 128), joined ft p x (ix3 (rowAt b r) k c) = x (ix2 (rowAt b (idx r k)) ⟨c.val, hc⟩) := fun c hc => by
    pointwise [joined]
    rw [dif_pos hc, take128 _ _ _ _ _ _ (readAt_apply p b idx hp r k)]
  have hf : ∀ (c : Fin 157) (hc : ¬c.val < 128), joined ft p x (ix3 (rowAt b r) k c) = ft (ix3 (rowAt b r) k ⟨c.val - 128, by omega⟩) := fun c hc => by
    pointwise [joined]
    rw [dif_neg hc]
  have ha : (⟨h.val * 16 + d.val, by omega⟩ : Fin 128) = Model.at_ h d := Fin.ext (by show h.val * 16 + d.val = 16 * h.val + d.val; omega)
  pointwise [mapped]
  rw [ha]
  generalize Model.at_ h d = f
  rw [Model.msg]
  refine (Fin.sum_univ_add (a := 128) (b := 29) (fun c : Fin 157 => joined ft p x (ix3 (rowAt b r) k c) * w (ix2 c f))).trans ?_
  refine congrArg₂ (· + ·) ?_ ?_
  · refine Finset.sum_congr rfl fun c _ => ?_
    rw [hx _ (by simp)]
    rfl
  · refine Finset.sum_congr rfl fun c _ => ?_
    rw [hf _ (by simp)]
    refine congrArg₂ (· * ·) (congrArg (fun c => ft (ix3 _ _ c)) (Fin.ext (by simp))) rfl

/-- The scores. -/
theorem logits_apply (wq : FVec Ideal S128x128 .f32) (wk : FVec Ideal S157x128 .f32) (W : Model.Weights) (hq : rowsOf wq = W.q) (hk : rowsOf wk = W.k)
    (r : Fin 512) (k : Fin 15) (h : Fin 8) :
    logits ft p x wq wk (ix3 (rowAt b r) h k)
      = Model.score (fun r k c => ft (ix3 (rowAt b r) k c)) idx W (fun r => rowsOf x (rowAt b r)) r h k := by
  have h4 : Ideal.ofBits .f32 0x40800000#32 = ((4 : ℝ) : EReal) := by
    simp [Ideal.ofBits, Ideal.ieee, -EReal.coe_mul]
    norm_num
  have hd : ∀ d : Fin 16, (⟨h.val * 16 + d.val, by omega⟩ : Fin 128) = Model.at_ h d := fun d =>
    Fin.ext (by show h.val * 16 + d.val = 16 * h.val + d.val; omega)
  pointwise [logits, asked]
  simp only [hd, mapped_apply ft p x b idx hp, h4, hk]
  rw [Model.score, ← hq]
  rfl

/-- What a residue gathers. -/
theorem gathered_apply (wq : FVec Ideal S128x128 .f32) (wk wv : FVec Ideal S157x128 .f32) (W : Model.Weights) (hq : rowsOf wq = W.q)
    (hk : rowsOf wk = W.k) (hv : rowsOf wv = W.v) (r : Fin 512) (f : Fin 128) :
    gatheredR ft p x wq wk wv (ix2 (rowAt b r) f)
      = Model.attn (fun r k c => ft (ix3 (rowAt b r) k c)) idx W (fun r => rowsOf x (rowAt b r)) r f := by
  pointwise [gatheredR]
  simp only [shares_apply, mapped_apply ft p x b idx hp, logits_apply ft p x b idx hp wq wk W hq hk, hv]
  rw [Model.attn]
  have ha : Model.at_ ⟨f.val / 16, by omega⟩ ⟨f.val % 16, by omega⟩ = f := Fin.ext (by show 16 * (f.val / 16) + f.val % 16 = f.val; omega)
  rw [ha]
  rfl

/-- The rows after attention. -/
theorem mid_apply (wq : FVec Ideal S128x128 .f32) (wk wv : FVec Ideal S157x128 .f32) (wo : FVec Ideal S128x128 .f32) (W : Model.Weights)
    (hq : rowsOf wq = W.q) (hk : rowsOf wk = W.k) (hv : rowsOf wv = W.v) (ho : rowsOf wo = W.o) (r : Fin 512) (f : Fin 128) :
    midR ft p x wq wk wv wo (ix2 (rowAt b r) f)
      = Model.mid (fun r k c => ft (ix3 (rowAt b r) k c)) idx W (fun r => rowsOf x (rowAt b r)) r f := by
  pointwise [midR]
  simp only [gathered_apply ft p x b idx hp wq wk wv W hq hk hv]
  rw [Model.mid, ← ho]
  rfl

omit hp in
/-- A hidden row: shifted and cut at zero. -/
theorem relu_apply (v : FVec Ideal S4096x512 .f32) (c : FVec Ideal S512 .f32) (n : Fin 4096) (f : Fin 512) :
    reluR v c (ix2 n f) = max (v (ix2 n f) + c (ix1 f)) 0 := by
  pointwise [reluR]

/-- The reference's layer is the model's. -/
theorem layer_apply (wq : FVec Ideal S128x128 .f32) (wk wv : FVec Ideal S157x128 .f32) (wo : FVec Ideal S128x128 .f32) (m1 : FVec Ideal S128x512 .f32)
    (b1 : FVec Ideal S512 .f32) (m2 : FVec Ideal S512x512 .f32) (b2 : FVec Ideal S512 .f32) (m3 : FVec Ideal S512x128 .f32)
    (b3 : FVec Ideal S128 .f32) (r : Fin 512) (f : Fin 128) :
    layerR ft p x wq wk wv wo m1 b1 m2 b2 m3 b3 (ix2 (rowAt b r) f)
      = Model.layer (fun r k c => ft (ix3 (rowAt b r) k c)) idx (weightsOf wq wk wv wo m1 b1 m2 b2 m3 b3) (fun r => rowsOf x (rowAt b r)) r f := by
  pointwise [layerR, networkR]
  simp only [relu_apply]
  pointwise
  simp only [relu_apply]
  pointwise
  simp only [mid_apply ft p x b idx hp wq wk wv wo (weightsOf wq wk wv wo m1 b1 m2 b2 m3 b3) rfl rfl rfl rfl]
  rfl

end Values

end Cert.ReferenceIdeal.Rows
-- ==== Proof.RefLink.lean ====
/-
The reference's three layers are one layer, applied to each layer's weights in turn.
-/
module

public import proofs.«01_k».proof.Proof.RefLayer

@[expose] public section

set_option maxRecDepth 16384

noncomputable section

namespace Cert.ReferenceIdeal.Rows

open Cert.ReferenceIdeal Cert.ReferenceIdeal.Gen Cert.ReferenceIdeal.Read Idealize.ShloMosaic Idealize.ShloMosaic.TcCoe Idealize.SL.Sem
open Idealize.ShloMosaic.StableHlo
open Cert

variable (x0 : FVec Ideal S4096x3x3 .f32) (x3 : FVec Ideal S8x512x512 .f32) (x4 : FVec Ideal S27x128 .f32) (x5 : FVec Ideal S3x128x128 .f32)
  (x6 x7 : FVec Ideal S3x157x128 .f32) (x8 : FVec Ideal S3x128x128 .f32) (x9 : FVec Ideal S3x128x512 .f32) (x10 : FVec Ideal S3x512 .f32)
  (x11 : FVec Ideal S3x512x512 .f32) (x12 : FVec Ideal S3x512 .f32) (x13 : FVec Ideal S3x512x128 .f32) (x14 : FVec Ideal S3x128 .f32)

/-- The first layer of the reference. -/
theorem v225_eq : val_main_v225 (F := Ideal) x0 x3 x4 x5 x6 x7 x8 x9 x10 x11 x12 x13 x14
    = layerR (val_main_v156 (F := Ideal) x0 x3) (val_main_v100 (F := Ideal) x0 x3) (val_main_v158 (F := Ideal) x4)
      (val_main_v160 (F := Ideal) x5) (val_main_v172 (F := Ideal) x6) (val_main_v176 (F := Ideal) x7) (val_main_v196 (F := Ideal) x8) (val_main_v200 (F := Ideal) x9) (val_main_v203 (F := Ideal) x10) (val_main_v209 (F := Ideal) x11) (val_main_v212 (F := Ideal) x12) (val_main_v218 (F := Ideal) x13) (val_main_v222 (F := Ideal) x14) := by
  rfl

/-- The second layer of the reference. -/
theorem v292_eq : val_main_v292 (F := Ideal) x0 x3 x4 x5 x6 x7 x8 x9 x10 x11 x12 x13 x14
    = layerR (val_main_v156 (F := Ideal) x0 x3) (val_main_v100 (F := Ideal) x0 x3) (val_main_v225 (F := Ideal) x0 x3 x4 x5 x6 x7 x8 x9 x10 x11 x12 x13 x14)
      (val_main_v227 (F := Ideal) x5) (val_main_v239 (F := Ideal) x6) (val_main_v243 (F := Ideal) x7) (val_main_v263 (F := Ideal) x8) (val_main_v267 (F := Ideal) x9) (val_main_v270 (F := Ideal) x10) (val_main_v276 (F := Ideal) x11) (val_main_v279 (F := Ideal) x12) (val_main_v285 (F := Ideal) x13) (val_main_v289 (F := Ideal) x14) := by
  rfl

/-- The third layer of the reference. -/
theorem v359_eq : val_main_v359 (F := Ideal) x0 x3 x4 x5 x6 x7 x8 x9 x10 x11 x12 x13 x14
    = layerR (val_main_v156 (F := Ideal) x0 x3) (val_main_v100 (F := Ideal) x0 x3) (val_main_v292 (F := Ideal) x0 x3 x4 x5 x6 x7 x8 x9 x10 x11 x12 x13 x14)
      (val_main_v294 (F := Ideal) x5) (val_main_v306 (F := Ideal) x6) (val_main_v310 (F := Ideal) x7) (val_main_v330 (F := Ideal) x8) (val_main_v334 (F := Ideal) x9) (val_main_v337 (F := Ideal) x10) (val_main_v343 (F := Ideal) x11) (val_main_v346 (F := Ideal) x12) (val_main_v352 (F := Ideal) x13) (val_main_v356 (F := Ideal) x14) := by
  rfl

end Cert.ReferenceIdeal.Rows
-- ==== Proof.RefConv.lean ====
/-
The reference's four convolution stages and its head, over the reals extended by the two infinities.
-/
module

public import proofs.«01_k».proof.Proof.RefLink

@[expose] public section

set_option maxRecDepth 16384

noncomputable section

namespace Cert.ReferenceIdeal.Rows

open Cert.ReferenceIdeal Cert.ReferenceIdeal.Gen Cert.ReferenceIdeal.Read Idealize.ShloMosaic Idealize.ShloMosaic.TcCoe Idealize.SL.Sem
open Idealize.ShloMosaic.StableHlo
open Cert

variable (x0 : FVec Ideal S4096x3x3 .f32) (x3 : FVec Ideal S8x512x512 .f32) (x4 : FVec Ideal S27x128 .f32) (x5 : FVec Ideal S3x128x128 .f32)
  (x6 x7 : FVec Ideal S3x157x128 .f32) (x8 : FVec Ideal S3x128x128 .f32) (x9 : FVec Ideal S3x128x512 .f32) (x10 : FVec Ideal S3x512 .f32)
  (x11 : FVec Ideal S3x512x512 .f32) (x12 : FVec Ideal S3x512 .f32) (x13 : FVec Ideal S3x512x128 .f32) (x14 : FVec Ideal S3x128 .f32)

variable (x15 : FVec Ideal S4x128x128x3 .f32) (x16 : FVec Ideal S4x128 .f32) (x17 : FVec Ideal S128x1 .f32) (x18 : FVec Ideal S1 .f32)

/-- The larger of each two neighbours along the last axis. -/
theorem reduceWindow_max {N M : ℕ} (hN : N = 2 * M) (x : FVec Ideal ⟨3, ![8, 128, N]⟩ .f32) {u : Shape} (init : u.Idx → Ideal .f32)
    (h : (⟨3, ![8, 128, N]⟩ : Shape).ReduceWindows ![1, 1, 2] ![1, 1, 2] ![0, 0, 0] ![0, 0, 0] ⟨3, ![8, 128, M]⟩) (hu : 0 < u.numel)
    (hi : init (Shape.Idx.first hu) = (⊥ : EReal)) (b : Fin 8) (o : Fin 128) (r : Fin M) :
    Host.reduceWindow FloatOps.maximumf ![1, 1, 2] ![1, 1, 2] ![0, 0, 0] ![0, 0, 0] x init h hu (ix3 b o r)
      = max (x (ix3 b o ⟨2 * r.val, by omega⟩)) (x (ix3 b o ⟨2 * r.val + 1, by omega⟩)) := by
  have hn : (⟨3, ![1, 1, 2]⟩ : Shape).numel = 2 := by decide +kernel
  have e : ∀ k : Fin (⟨3, ![1, 1, 2]⟩ : Shape).numel, (⟨3, ![1, 1, 2]⟩ : Shape).rowMajor.symm k = ix3 0 0 (k.cast hn) := by
    intro k
    rw [Equiv.symm_apply_eq]
    refine Fin.ext ?_
    rw [Shape.rowMajor_val_three]
    simp
  have hl : List.finRange (⟨3, ![1, 1, 2]⟩ : Shape).numel = [⟨0, by decide +kernel⟩, ⟨1, by decide +kernel⟩] := by decide +kernel
  have hr := r.isLt
  have hb := b.isLt
  have ho := o.isLt
  have hin : ∀ (k : Fin 2) (a : Fin 3), (![0, 0, 0] : Fin 3 → ℕ) a ≤ ((ix3 b o r : (⟨3, ![8, 128, M]⟩ : Shape).Idx) (a.cast h.1.symm)).val * (![1, 1, 2] : Fin 3 → ℕ) a + ((ix3 0 0 k : (⟨3, ![1, 1, 2]⟩ : Shape).Idx) a).val
      ∧ ((ix3 b o r : (⟨3, ![8, 128, M]⟩ : Shape).Idx) (a.cast h.1.symm)).val * (![1, 1, 2] : Fin 3 → ℕ) a + ((ix3 0 0 k : (⟨3, ![1, 1, 2]⟩ : Shape).Idx) a).val - (![0, 0, 0] : Fin 3 → ℕ) a < (⟨3, ![8, 128, N]⟩ : Shape).size a := by
    intro k a
    have hk := k.isLt
    match a with
    | ⟨0, _⟩ => exact ⟨Nat.zero_le _, by show b.val * 1 + 0 - 0 < 8; omega⟩
    | ⟨1, _⟩ => exact ⟨Nat.zero_le _, by show o.val * 1 + 0 - 0 < 128; omega⟩
    | ⟨2, _⟩ => exact ⟨Nat.zero_le _, by show r.val * 2 + k.val - 0 < N; omega⟩
  have hx : ∀ (k : Fin 2) (j : (⟨3, ![8, 128, N]⟩ : Shape).Idx), (∀ a : Fin 3, (j a).val = ((ix3 b o r : (⟨3, ![8, 128, M]⟩ : Shape).Idx) (a.cast h.1.symm)).val * (![1, 1, 2] : Fin 3 → ℕ) a + ((ix3 0 0 k : (⟨3, ![1, 1, 2]⟩ : Shape).Idx) a).val - (![0, 0, 0] : Fin 3 → ℕ) a)
      → j = ix3 b o ⟨2 * r.val + k.val, by omega⟩ := by
    intro k j hj
    funext a
    refine Fin.ext ((hj a).trans ?_)
    match a with
    | ⟨0, _⟩ => show b.val * 1 + 0 - 0 = b.val; omega
    | ⟨1, _⟩ => show o.val * 1 + 0 - 0 = o.val; omega
    | ⟨2, _⟩ => show r.val * 2 + k.val - 0 = 2 * r.val + k.val; omega
  unfold Host.reduceWindow
  dsimp only
  rw [hi, show List.finRange (Shape.numel ⟨(⟨3, ![8, 128, N]⟩ : Shape).rank, ![1, 1, 2]⟩) = _ from hl]
  simp only [List.foldl_cons, List.foldl_nil]
  rw [dif_pos (by intro a; rw [e]; exact hin 0 a), dif_pos (by intro a; rw [e]; exact hin 1 a)]
  refine (congrArg₂ (fun p q => max (max (⊥ : EReal) p) q) (congrArg x (hx 0 _ fun a => by dsimp only; rw [e]; rfl))
    (congrArg x (hx 1 _ fun a => by dsimp only; rw [e]; rfl))).trans ?_
  show max (max ⊥ _) _ = _
  rw [max_eq_right bot_le]
  rfl

/-- The convolution as the reference writes it. -/
theorem conv_form {n : ℕ} (z : Ideal .f32) (hz : z = (0 : EReal)) (t : FVec Ideal ⟨3, ![8, 128, n]⟩ .f32) (w : FVec Ideal S4x128x128x3 .f32) (c : FVec Ideal S4x128 .f32) (l : Fin 4)
    (b : Fin 8) (o : Fin 128) (r : Fin n) :
    ((((∑ x, w (ix4 l o x 0) * if h : 1 ≤ r.val ∧ r.val - 1 < n then t (ix3 b x ⟨r.val - 1, h.2⟩) else z)
        + ∑ x, w (ix4 l o x 1) * t (ix3 b x r))
        + ∑ x, w (ix4 l o x 2) * if h : 1 ≤ 2 + r.val ∧ 2 + r.val - 1 < n then t (ix3 b x ⟨2 + r.val - 1, h.2⟩) else z)
      + c (ix2 l o) : EReal)
      = Model.conv (fun i c o => w (ix4 l o c i)) (fun o => c (ix2 l o)) (fun r c => t (ix3 b c r)) r o := by
  have hr := r.isLt
  unfold Model.conv Model.lin Model.padded
  refine congrArg (· + _) (congrArg₂ (· + ·) (congrArg₂ (· + ·) (Finset.sum_congr rfl fun x _ => ?_) (Finset.sum_congr rfl fun x _ => ?_))
    (Finset.sum_congr rfl fun x _ => ?_))
  · rw [mul_comm]
    refine congrArg (· * _) ?_
    by_cases h : 1 ≤ r.val ∧ r.val - 1 < n
    · rw [dif_pos h, dif_pos (by omega)]
    · rw [dif_neg h, dif_neg (by omega), hz]
  · rw [mul_comm]
    refine congrArg (· * _) ?_
    rw [dif_pos (by omega)]
    exact congrArg (fun r => t (ix3 b x r)) (Fin.ext (by show r.val = r.val + 1 - 1; omega))
  · rw [mul_comm]
    refine congrArg (· * _) ?_
    by_cases h : 1 ≤ 2 + r.val ∧ 2 + r.val - 1 < n
    · rw [dif_pos h, dif_pos (by omega)]
      exact congrArg (fun r => t (ix3 b x r)) (Fin.ext (by show 2 + r.val - 1 = r.val + 2 - 1; omega))
    · rw [dif_neg h, dif_neg (by omega), hz]

/-- The word zero is the number zero. -/
theorem no_word : (FloatOps.sitofp .f32 0#32 : Ideal .f32) = (0 : EReal) := by
  simp [FloatOps.sitofp]

/-- The pooling starts from −∞. -/
theorem low : Ideal.ofBits .f32 0xFF800000#32 = ⊥ := by simp [Ideal.ofBits, Ideal.ieee]

/-- Convolution 0. -/
theorem v386_apply (b : Fin 8) (o : Fin 128) (r : Fin 512) :
    val_main_v386 (F := Ideal) x0 x3 x4 x5 x6 x7 x8 x9 x10 x11 x12 x13 x14 x15 x16 (ix3 b o r)
      = Model.conv (fun i c o => x15 (ix4 0 o c i)) (fun o => x16 (ix2 0 o)) (fun r c => val_main_v361 (F := Ideal) x0 x3 x4 x5 x6 x7 x8 x9 x10 x11 x12 x13 x14 (ix3 b c r)) r o := by
  pointwise [val_main_v386, val_main_v381, val_main_v375, val_main_v369, val_main_v368, val_main_cst_38, val_main_v367, val_main_v366, val_main_v365, val_main_v364, val_main_v363, val_main_v362, val_main_call10_v0, val_main_c_37, val_main_v374, val_main_v373, val_main_v372, val_main_v371, val_main_v370, val_main_v380, val_main_v379, val_main_v378, val_main_v377, val_main_v376, val_main_v385, val_main_v384, val_main_v383, val_main_v382]
  exact conv_form _ no_word (val_main_v361 (F := Ideal) x0 x3 x4 x5 x6 x7 x8 x9 x10 x11 x12 x13 x14) x15 x16 0 b o r

/-- Stage 0. -/
theorem v390_apply (b : Fin 8) (o : Fin 128) (r : Fin 256) :
    val_main_v390 (F := Ideal) x0 x3 x4 x5 x6 x7 x8 x9 x10 x11 x12 x13 x14 x15 x16 (ix3 b o r)
      = Model.stage (fun i c o => x15 (ix4 0 o c i)) (fun o => x16 (ix2 0 o)) (fun r c => val_main_v361 (F := Ideal) x0 x3 x4 x5 x6 x7 x8 x9 x10 x11 x12 x13 x14 (ix3 b c r)) 256 rfl r o := by
  refine (reduceWindow_max rfl (val_main_v388 (F := Ideal) x0 x3 x4 x5 x6 x7 x8 x9 x10 x11 x12 x13 x14 x15 x16) (val_main_v389 (F := Ideal)) _ _ low b o r).trans ?_
  pointwise [val_main_v388, val_main_v387, val_main_call11_v1, val_main_call11_v0, val_main_call11_cst, val_main_call11_v4, val_main_call11_v3, val_main_call11_v2, val_main_cst_39]
  simp only [v386_apply]
  rfl

/-- Convolution 1. -/
theorem v415_apply (b : Fin 8) (o : Fin 128) (r : Fin 256) :
    val_main_v415 (F := Ideal) x0 x3 x4 x5 x6 x7 x8 x9 x10 x11 x12 x13 x14 x15 x16 (ix3 b o r)
      = Model.conv (fun i c o => x15 (ix4 1 o c i)) (fun o => x16 (ix2 1 o)) (fun r c => val_main_v390 (F := Ideal) x0 x3 x4 x5 x6 x7 x8 x9 x10 x11 x12 x13 x14 x15 x16 (ix3 b c r)) r o := by
  pointwise [val_main_v415, val_main_v410, val_main_v404, val_main_v398, val_main_v397, val_main_cst_42, val_main_v396, val_main_v395, val_main_v394, val_main_v393, val_main_v392, val_main_v391, val_main_call12_v0, val_main_c_41, val_main_v403, val_main_v402, val_main_v401, val_main_v400, val_main_v399, val_main_v409, val_main_v408, val_main_v407, val_main_v406, val_main_v405, val_main_v414, val_main_v413, val_main_v412, val_main_v411]
  exact conv_form _ no_word (val_main_v390 (F := Ideal) x0 x3 x4 x5 x6 x7 x8 x9 x10 x11 x12 x13 x14 x15 x16) x15 x16 1 b o r

/-- Stage 1. -/
theorem v419_apply (b : Fin 8) (o : Fin 128) (r : Fin 128) :
    val_main_v419 (F := Ideal) x0 x3 x4 x5 x6 x7 x8 x9 x10 x11 x12 x13 x14 x15 x16 (ix3 b o r)
      = Model.stage (fun i c o => x15 (ix4 1 o c i)) (fun o => x16 (ix2 1 o)) (fun r c => val_main_v390 (F := Ideal) x0 x3 x4 x5 x6 x7 x8 x9 x10 x11 x12 x13 x14 x15 x16 (ix3 b c r)) 128 rfl r o := by
  refine (reduceWindow_max rfl (val_main_v417 (F := Ideal) x0 x3 x4 x5 x6 x7 x8 x9 x10 x11 x12 x13 x14 x15 x16) (val_main_v418 (F := Ideal)) _ _ low b o r).trans ?_
  pointwise [val_main_v417, val_main_v416, val_main_call13_v1, val_main_call13_v0, val_main_call13_cst, val_main_call13_v4, val_main_call13_v3, val_main_call13_v2, val_main_cst_43]
  simp only [v415_apply]
  rfl

/-- Convolution 2. -/
theorem v444_apply (b : Fin 8) (o : Fin 128) (r : Fin 128) :
    val_main_v444 (F := Ideal) x0 x3 x4 x5 x6 x7 x8 x9 x10 x11 x12 x13 x14 x15 x16 (ix3 b o r)
      = Model.conv (fun i c o => x15 (ix4 2 o c i)) (fun o => x16 (ix2 2 o)) (fun r c => val_main_v419 (F := Ideal) x0 x3 x4 x5 x6 x7 x8 x9 x10 x11 x12 x13 x14 x15 x16 (ix3 b c r)) r o := by
  pointwise [val_main_v444, val_main_v439, val_main_v433, val_main_v427, val_main_v426, val_main_cst_46, val_main_v425, val_main_v424, val_main_v423, val_main_v422, val_main_v421, val_main_v420, val_main_call14_v0, val_main_c_45, val_main_v432, val_main_v431, val_main_v430, val_main_v429, val_main_v428, val_main_v438, val_main_v437, val_main_v436, val_main_v435, val_main_v434, val_main_v443, val_main_v442, val_main_v441, val_main_v440]
  exact conv_form _ no_word (val_main_v419 (F := Ideal) x0 x3 x4 x5 x6 x7 x8 x9 x10 x11 x12 x13 x14 x15 x16) x15 x16 2 b o r

/-- Stage 2. -/
theorem v448_apply (b : Fin 8) (o : Fin 128) (r : Fin 64) :
    val_main_v448 (F := Ideal) x0 x3 x4 x5 x6 x7 x8 x9 x10 x11 x12 x13 x14 x15 x16 (ix3 b o r)
      = Model.stage (fun i c o => x15 (ix4 2 o c i)) (fun o => x16 (ix2 2 o)) (fun r c => val_main_v419 (F := Ideal) x0 x3 x4 x5 x6 x7 x8 x9 x10 x11 x12 x13 x14 x15 x16 (ix3 b c r)) 64 rfl r o := by
  refine (reduceWindow_max rfl (val_main_v446 (F := Ideal) x0 x3 x4 x5 x6 x7 x8 x9 x10 x11 x12 x13 x14 x15 x16) (val_main_v447 (F := Ideal)) _ _ low b o r).trans ?_
  pointwise [val_main_v446, val_main_v445, val_main_call15_v1, val_main_call15_v0, val_main_call15_cst, val_main_call15_v4, val_main_call15_v3, val_main_call15_v2, val_main_cst_47]
  simp only [v444_apply]
  rfl

/-- Convolution 3. -/
theorem v473_apply (b : Fin 8) (o : Fin 128) (r : Fin 64) :
    val_main_v473 (F := Ideal) x0 x3 x4 x5 x6 x7 x8 x9 x10 x11 x12 x13 x14 x15 x16 (ix3 b o r)
      = Model.conv (fun i c o => x15 (ix4 3 o c i)) (fun o => x16 (ix2 3 o)) (fun r c => val_main_v448 (F := Ideal) x0 x3 x4 x5 x6 x7 x8 x9 x10 x11 x12 x13 x14 x15 x16 (ix3 b c r)) r o := by
  pointwise [val_main_v473, val_main_v468, val_main_v462, val_main_v456, val_main_v455, val_main_cst_50, val_main_v454, val_main_v453, val_main_v452, val_main_v451, val_main_v450, val_main_v449, val_main_call16_v0, val_main_c_49, val_main_v461, val_main_v460, val_main_v459, val_main_v458, val_main_v457, val_main_v467, val_main_v466, val_main_v465, val_main_v464, val_main_v463, val_main_v472, val_main_v471, val_main_v470, val_main_v469]
  exact conv_form _ no_word (val_main_v448 (F := Ideal) x0 x3 x4 x5 x6 x7 x8 x9 x10 x11 x12 x13 x14 x15 x16) x15 x16 3 b o r

/-- Stage 3. -/
theorem v477_apply (b : Fin 8) (o : Fin 128) (r : Fin 32) :
    val_main_v477 (F := Ideal) x0 x3 x4 x5 x6 x7 x8 x9 x10 x11 x12 x13 x14 x15 x16 (ix3 b o r)
      = Model.stage (fun i c o => x15 (ix4 3 o c i)) (fun o => x16 (ix2 3 o)) (fun r c => val_main_v448 (F := Ideal) x0 x3 x4 x5 x6 x7 x8 x9 x10 x11 x12 x13 x14 x15 x16 (ix3 b c r)) 32 rfl r o := by
  refine (reduceWindow_max rfl (val_main_v475 (F := Ideal) x0 x3 x4 x5 x6 x7 x8 x9 x10 x11 x12 x13 x14 x15 x16) (val_main_v476 (F := Ideal)) _ _ low b o r).trans ?_
  pointwise [val_main_v475, val_main_v474, val_main_call17_v1, val_main_call17_v0, val_main_call17_cst, val_main_call17_v4, val_main_call17_v3, val_main_call17_v2, val_main_cst_51]
  simp only [v473_apply]
  rfl

/-- The reference's number for block `b`. -/
theorem v483_apply (b : Fin 8) :
    val_main_v483 (F := Ideal) x0 x3 x4 x5 x6 x7 x8 x9 x10 x11 x12 x13 x14 x15 x16 x17 x18 (ix3 b 0 0)
      = Model.head (fun r c => val_main_v477 (F := Ideal) x0 x3 x4 x5 x6 x7 x8 x9 x10 x11 x12 x13 x14 x15 x16 (ix3 b c r)) (fun c => x17 (ix2 c 0)) (x18 (ix1 0)) := by
  pointwise [val_main_v483, val_main_v482, val_main_v481, val_main_v480, val_main_v479, val_main_v478, val_main_cst_53]
  rfl

/-- The rows of a protein, turned. -/
theorem v361_apply (b : Fin 8) (c : Fin 128) (r : Fin 512) :
    val_main_v361 (F := Ideal) x0 x3 x4 x5 x6 x7 x8 x9 x10 x11 x12 x13 x14 (ix3 b c r) = rowsOf (val_main_v359 (F := Ideal) x0 x3 x4 x5 x6 x7 x8 x9 x10 x11 x12 x13 x14) (rowAt b r) c := by
  pointwise [val_main_v361, val_main_v360]
  rfl

end Cert.ReferenceIdeal.Rows
-- ==== Proof.RefAnswer.lean ====
/-
What the reference computes for one protein: the model's number.
-/
module

public import proofs.«01_k».proof.Proof.RefLink
public import proofs.«01_k».proof.Proof.RefConv
public import proofs.«01_k».proof.Proof.Whole
public import proofs.«01_k».proof.Proof.Stored

@[expose] public section

set_option maxRecDepth 16384

noncomputable section

namespace Cert.ReferenceIdeal.Rows

open Cert.ReferenceIdeal Cert.ReferenceIdeal.Gen Cert.ReferenceIdeal.Read Idealize.ShloMosaic Idealize.ShloMosaic.TcCoe Idealize.SL.Sem
open Idealize.ShloMosaic.StableHlo
open Cert

variable (x0 : FVec Ideal S4096x3x3 .f32) (x3 : FVec Ideal S8x512x512 .f32) (x4 : FVec Ideal S27x128 .f32) (x5 : FVec Ideal S3x128x128 .f32)
  (x6 x7 : FVec Ideal S3x157x128 .f32) (x8 : FVec Ideal S3x128x128 .f32) (x9 : FVec Ideal S3x128x512 .f32) (x10 : FVec Ideal S3x512 .f32)
  (x11 : FVec Ideal S3x512x512 .f32) (x12 : FVec Ideal S3x512 .f32) (x13 : FVec Ideal S3x512x128 .f32) (x14 : FVec Ideal S3x128 .f32)
  (x15 : FVec Ideal S4x128x128x3 .f32) (x16 : FVec Ideal S4x128 .f32) (x17 : FVec Ideal S128x1 .f32) (x18 : FVec Ideal S1 .f32)

/-- Page `l` of a stack of matrices. -/
theorem slab {A B : ℕ} (v : FVec Ideal ⟨3, ![3, A, B]⟩ .f32) (l : Fin 3) (h : (⟨3, ![3, A, B]⟩ : Shape).Slices ![l.val, 0, 0] ⟨3, ![1, A, B]⟩)
    (hc : (⟨3, ![1, A, B]⟩ : Shape).ShapeCasts ⟨2, ![A, B]⟩) (a : Fin A) (b : Fin B) :
    shapeCast ⟨2, ![A, B]⟩ (extractStridedSlice ⟨3, ![1, A, B]⟩ ![l.val, 0, 0] v h) hc (ix2 a b) = v (ix3 l a b) := by
  refine (shapeCast_apply _ hc (ix2 a b) (ix3 0 a b) (by simp [Shape.rowMajor_val_two, Shape.rowMajor_val_three])).trans ?_
  refine congrArg v ?_
  funext q
  match q with
  | ⟨0, _⟩ => exact Fin.ext (Nat.add_zero _)
  | ⟨1, _⟩ => exact Fin.ext (Nat.zero_add _)
  | ⟨2, _⟩ => exact Fin.ext (Nat.zero_add _)

/-- Line `l` of a stack of vectors. -/
theorem strip {B : ℕ} (v : FVec Ideal ⟨2, ![3, B]⟩ .f32) (l : Fin 3) (h : (⟨2, ![3, B]⟩ : Shape).Slices ![l.val, 0] ⟨2, ![1, B]⟩)
    (hc : (⟨2, ![1, B]⟩ : Shape).ShapeCasts ⟨1, ![B]⟩) (b : Fin B) :
    shapeCast ⟨1, ![B]⟩ (extractStridedSlice ⟨2, ![1, B]⟩ ![l.val, 0] v h) hc (ix1 b) = v (ix2 l b) := by
  refine (shapeCast_apply _ hc (ix1 b) (ix2 0 b) (by simp [Shape.rowMajor_val_two, Shape.rowMajor_val_one])).trans ?_
  refine congrArg v ?_
  funext q
  match q with
  | ⟨0, _⟩ => exact Fin.ext (Nat.add_zero _)
  | ⟨1, _⟩ => exact Fin.ext (Nat.zero_add _)

/-- Weights that agree entry by entry. -/
theorem weightsOf_eq {wq : FVec Ideal S128x128 .f32} {wk wv : FVec Ideal S157x128 .f32} {wo : FVec Ideal S128x128 .f32} {m1 : FVec Ideal S128x512 .f32}
    {b1 : FVec Ideal S512 .f32} {m2 : FVec Ideal S512x512 .f32} {b2 : FVec Ideal S512 .f32} {m3 : FVec Ideal S512x128 .f32}
    {b3 : FVec Ideal S128 .f32} (W : Model.Weights) (hq : ∀ c f, wq (ix2 c f) = W.q c f) (hk : ∀ c f, wk (ix2 c f) = W.k c f)
    (hv : ∀ c f, wv (ix2 c f) = W.v c f) (ho : ∀ c f, wo (ix2 c f) = W.o c f) (h1 : ∀ c f, m1 (ix2 c f) = W.m1 c f)
    (hb1 : ∀ f, b1 (ix1 f) = W.b1 f) (h2 : ∀ c f, m2 (ix2 c f) = W.m2 c f) (hb2 : ∀ f, b2 (ix1 f) = W.b2 f)
    (h3 : ∀ c f, m3 (ix2 c f) = W.m3 c f) (hb3 : ∀ f, b3 (ix1 f) = W.b3 f) : weightsOf wq wk wv wo m1 b1 m2 b2 m3 b3 = W := by
  obtain ⟨q, k, v, o, n1, c1, n2, c2, n3, c3⟩ := W
  simp only [weightsOf, Model.Weights.mk.injEq]
  exact ⟨funext fun c => funext (hq c), funext fun c => funext (hk c), funext fun c => funext (hv c), funext fun c => funext (ho c),
    funext fun c => funext (h1 c), funext hb1, funext fun c => funext (h2 c), funext hb2, funext fun c => funext (h3 c), funext hb3⟩

/-- Layer 0's weights. -/
theorem weights0 : weightsOf (val_main_v160 (F := Ideal) x5) (val_main_v172 (F := Ideal) x6) (val_main_v176 (F := Ideal) x7) (val_main_v196 (F := Ideal) x8) (val_main_v200 (F := Ideal) x9) (val_main_v203 (F := Ideal) x10) (val_main_v209 (F := Ideal) x11) (val_main_v212 (F := Ideal) x12) (val_main_v218 (F := Ideal) x13) (val_main_v222 (F := Ideal) x14)
    = weightsAt x5 x6 x7 x8 x9 x10 x11 x12 x13 x14 0 :=
  weightsOf_eq _ (slab x5 0 slices_S3x128x128_S1x128x128_0_0_0 shapeCasts_S1x128x128_S128x128) (slab x6 0 slices_S3x157x128_S1x157x128_0_0_0 shapeCasts_S1x157x128_S157x128) (slab x7 0 slices_S3x157x128_S1x157x128_0_0_0 shapeCasts_S1x157x128_S157x128) (slab x8 0 slices_S3x128x128_S1x128x128_0_0_0 shapeCasts_S1x128x128_S128x128) (slab x9 0 slices_S3x128x512_S1x128x512_0_0_0 shapeCasts_S1x128x512_S128x512) (strip x10 0 slices_S3x512_S1x512_0_0 shapeCasts_S1x512_S512) (slab x11 0 slices_S3x512x512_S1x512x512_0_0_0 shapeCasts_S1x512x512_S512x512) (strip x12 0 slices_S3x512_S1x512_0_0 shapeCasts_S1x512_S512) (slab x13 0 slices_S3x512x128_S1x512x128_0_0_0 shapeCasts_S1x512x128_S512x128) (strip x14 0 slices_S3x128_S1x128_0_0 shapeCasts_S1x128_S128)

/-- Layer 1's weights. -/
theorem weights1 : weightsOf (val_main_v227 (F := Ideal) x5) (val_main_v239 (F := Ideal) x6) (val_main_v243 (F := Ideal) x7) (val_main_v263 (F := Ideal) x8) (val_main_v267 (F := Ideal) x9) (val_main_v270 (F := Ideal) x10) (val_main_v276 (F := Ideal) x11) (val_main_v279 (F := Ideal) x12) (val_main_v285 (F := Ideal) x13) (val_main_v289 (F := Ideal) x14)
    = weightsAt x5 x6 x7 x8 x9 x10 x11 x12 x13 x14 1 :=
  weightsOf_eq _ (slab x5 1 slices_S3x128x128_S1x128x128_1_0_0 shapeCasts_S1x128x128_S128x128) (slab x6 1 slices_S3x157x128_S1x157x128_1_0_0 shapeCasts_S1x157x128_S157x128) (slab x7 1 slices_S3x157x128_S1x157x128_1_0_0 shapeCasts_S1x157x128_S157x128) (slab x8 1 slices_S3x128x128_S1x128x128_1_0_0 shapeCasts_S1x128x128_S128x128) (slab x9 1 slices_S3x128x512_S1x128x512_1_0_0 shapeCasts_S1x128x512_S128x512) (strip x10 1 slices_S3x512_S1x512_1_0 shapeCasts_S1x512_S512) (slab x11 1 slices_S3x512x512_S1x512x512_1_0_0 shapeCasts_S1x512x512_S512x512) (strip x12 1 slices_S3x512_S1x512_1_0 shapeCasts_S1x512_S512) (slab x13 1 slices_S3x512x128_S1x512x128_1_0_0 shapeCasts_S1x512x128_S512x128) (strip x14 1 slices_S3x128_S1x128_1_0 shapeCasts_S1x128_S128)

/-- Layer 2's weights. -/
theorem weights2 : weightsOf (val_main_v294 (F := Ideal) x5) (val_main_v306 (F := Ideal) x6) (val_main_v310 (F := Ideal) x7) (val_main_v330 (F := Ideal) x8) (val_main_v334 (F := Ideal) x9) (val_main_v337 (F := Ideal) x10) (val_main_v343 (F := Ideal) x11) (val_main_v346 (F := Ideal) x12) (val_main_v352 (F := Ideal) x13) (val_main_v356 (F := Ideal) x14)
    = weightsAt x5 x6 x7 x8 x9 x10 x11 x12 x13 x14 2 :=
  weightsOf_eq _ (slab x5 2 slices_S3x128x128_S1x128x128_2_0_0 shapeCasts_S1x128x128_S128x128) (slab x6 2 slices_S3x157x128_S1x157x128_2_0_0 shapeCasts_S1x157x128_S157x128) (slab x7 2 slices_S3x157x128_S1x157x128_2_0_0 shapeCasts_S1x157x128_S157x128) (slab x8 2 slices_S3x128x128_S1x128x128_2_0_0 shapeCasts_S1x128x128_S128x128) (slab x9 2 slices_S3x128x512_S1x128x512_2_0_0 shapeCasts_S1x128x512_S128x512) (strip x10 2 slices_S3x512_S1x512_2_0 shapeCasts_S1x512_S512) (slab x11 2 slices_S3x512x512_S1x512x512_2_0_0 shapeCasts_S1x512x512_S512x512) (strip x12 2 slices_S3x512_S1x512_2_0 shapeCasts_S1x512_S512) (slab x13 2 slices_S3x512x128_S1x512x128_2_0_0 shapeCasts_S1x512x128_S512x128) (strip x14 2 slices_S3x128_S1x128_2_0 shapeCasts_S1x128_S128)

/-- Every residue starts from the columns' sums of the first matrix. -/
theorem v158_apply (n : Fin 4096) (c : Fin 128) : rowsOf (val_main_v158 (F := Ideal) x4) n c = ∑ a : Fin 27, x4 (ix2 a c) := by
  unfold rowsOf
  pointwise [val_main_v158, val_main_v157, val_main_cst_18]

/-- One layer of the reference, at the rows of protein `b`. -/
theorem layer_rows (b : Fin 8) (x : FVec Ideal S4096x128 .f32) (wq : FVec Ideal S128x128 .f32) (wk wv : FVec Ideal S157x128 .f32) (wo : FVec Ideal S128x128 .f32) (m1 : FVec Ideal S128x512 .f32)
    (b1 : FVec Ideal S512 .f32) (m2 : FVec Ideal S512x512 .f32) (b2 : FVec Ideal S512 .f32) (m3 : FVec Ideal S512x128 .f32)
    (b3 : FVec Ideal S128 .f32) (W : Model.Weights) (t : Fin 512 → Fin 128 → EReal)
    (hW : weightsOf wq wk wv wo m1 b1 m2 b2 m3 b3 = W) (ht : (fun r => rowsOf x (rowAt b r)) = t) :
    (fun r => rowsOf (layerR (val_main_v156 (F := Ideal) x0 x3) (val_main_v100 (F := Ideal) x0 x3) x wq wk wv wo m1 b1 m2 b2 m3 b3) (rowAt b r))
      = Model.layer (fun r k => Model.feat (fun r => spot x0 (rowAt b r)) (fun r => Model.axis (spot x0) (rowAt b r)) r (sel x0 x3 b r k)) (sel x0 x3 b) W t := by
  subst hW ht
  funext r f
  refine (layer_apply (val_main_v156 (F := Ideal) x0 x3) (val_main_v100 (F := Ideal) x0 x3) x b (sel x0 x3 b) (v100_apply x0 x3 b) wq wk wv wo m1 b1 m2 b2 m3 b3 r f).trans ?_
  refine congrArg (fun ft => Model.layer ft (sel x0 x3 b) (weightsOf wq wk wv wo m1 b1 m2 b2 m3 b3) (fun r => rowsOf x (rowAt b r)) r f) ?_
  funext r k c
  exact v156_apply x0 x3 b r k c

/-- The rows of protein `b` after the reference's three layers. -/
theorem v359_rows (b : Fin 8) : (fun r => rowsOf (val_main_v359 (F := Ideal) x0 x3 x4 x5 x6 x7 x8 x9 x10 x11 x12 x13 x14) (rowAt b r))
    = Model.three_layers (fun r k => Model.feat (fun r => spot x0 (rowAt b r)) (fun r => Model.axis (spot x0) (rowAt b r)) r (sel x0 x3 b r k)) (sel x0 x3 b)
        (weightsAt x5 x6 x7 x8 x9 x10 x11 x12 x13 x14) (fun _ c => ∑ a : Fin 27, x4 (ix2 a c)) := by
  have h1 := layer_rows x0 x3 b (val_main_v158 (F := Ideal) x4) (val_main_v160 (F := Ideal) x5) (val_main_v172 (F := Ideal) x6) (val_main_v176 (F := Ideal) x7) (val_main_v196 (F := Ideal) x8) (val_main_v200 (F := Ideal) x9) (val_main_v203 (F := Ideal) x10) (val_main_v209 (F := Ideal) x11) (val_main_v212 (F := Ideal) x12) (val_main_v218 (F := Ideal) x13) (val_main_v222 (F := Ideal) x14) _ _ (weights0 x5 x6 x7 x8 x9 x10 x11 x12 x13 x14)
    (funext fun r => funext fun c => v158_apply x4 (rowAt b r) c)
  rw [← v225_eq] at h1
  have h2 := layer_rows x0 x3 b _ (val_main_v227 (F := Ideal) x5) (val_main_v239 (F := Ideal) x6) (val_main_v243 (F := Ideal) x7) (val_main_v263 (F := Ideal) x8) (val_main_v267 (F := Ideal) x9) (val_main_v270 (F := Ideal) x10) (val_main_v276 (F := Ideal) x11) (val_main_v279 (F := Ideal) x12) (val_main_v285 (F := Ideal) x13) (val_main_v289 (F := Ideal) x14) _ _ (weights1 x5 x6 x7 x8 x9 x10 x11 x12 x13 x14) h1
  rw [← v292_eq] at h2
  have h3 := layer_rows x0 x3 b _ (val_main_v294 (F := Ideal) x5) (val_main_v306 (F := Ideal) x6) (val_main_v310 (F := Ideal) x7) (val_main_v330 (F := Ideal) x8) (val_main_v334 (F := Ideal) x9) (val_main_v337 (F := Ideal) x10) (val_main_v343 (F := Ideal) x11) (val_main_v346 (F := Ideal) x12) (val_main_v352 (F := Ideal) x13) (val_main_v356 (F := Ideal) x14) _ _ (weights2 x5 x6 x7 x8 x9 x10 x11 x12 x13 x14) h2
  rw [← v359_eq] at h3
  exact h3

/-- What the reference computes for protein `b`. -/
theorem v483_answer (b : Fin 8) : val_main_v483 (F := Ideal) x0 x3 x4 x5 x6 x7 x8 x9 x10 x11 x12 x13 x14 x15 x16 x17 x18 (ix3 b 0 0)
    = Model.answer (fun r => spot x0 (rowAt b r)) (fun r => Model.axis (spot x0) (rowAt b r)) (sel x0 x3 b) (fun c => ∑ a : Fin 27, x4 (ix2 a c))
        (weightsAt x5 x6 x7 x8 x9 x10 x11 x12 x13 x14) (fun l i c o => x15 (ix4 l o c i)) (fun l o => x16 (ix2 l o)) (fun c => x17 (ix2 c 0)) (x18 (ix1 0)) := by
  have e0 : (fun (r : Fin 512) (c : Fin 128) => val_main_v361 (F := Ideal) x0 x3 x4 x5 x6 x7 x8 x9 x10 x11 x12 x13 x14 (ix3 b c r)) = _ :=
    (funext fun r => funext fun c => v361_apply x0 x3 x4 x5 x6 x7 x8 x9 x10 x11 x12 x13 x14 b c r).trans (v359_rows x0 x3 x4 x5 x6 x7 x8 x9 x10 x11 x12 x13 x14 b)
  have e1 := funext fun r => funext fun o => v390_apply x0 x3 x4 x5 x6 x7 x8 x9 x10 x11 x12 x13 x14 x15 x16 b o r
  rw [e0] at e1
  have e2 := funext fun r => funext fun o => v419_apply x0 x3 x4 x5 x6 x7 x8 x9 x10 x11 x12 x13 x14 x15 x16 b o r
  rw [e1] at e2
  have e3 := funext fun r => funext fun o => v448_apply x0 x3 x4 x5 x6 x7 x8 x9 x10 x11 x12 x13 x14 x15 x16 b o r
  rw [e2] at e3
  have e4 := funext fun r => funext fun o => v477_apply x0 x3 x4 x5 x6 x7 x8 x9 x10 x11 x12 x13 x14 x15 x16 b o r
  rw [e3] at e4
  rw [v483_apply, e4]
  rfl

end Cert.ReferenceIdeal.Rows
-- ==== Proof.Equation.lean ====
/-
The kernel and the reference end with the same result.
-/
module

public import proofs.«01_k».proof.Proof.Array
public import proofs.«01_k».proof.Proof.RefAnswer
public import proofs.«01_k».proof.Proof.Reals
public import proofs.«01_k».proof.Proof.Gen.ReferenceIdeal.Run
public import proofs.«01_k».proof.Proof.Gen.ReferenceIdeal.Read

@[expose] public section

set_option maxRecDepth 16384

noncomputable section

namespace Cert.Proof

open Idealize.ShloMosaic Idealize.ShloMosaic.TcCoe Idealize.SL.Sem
open Cert.KernelIdeal.Block

/-- Under the precondition the residues' places are real. -/
theorem spots_real (m : (ℓ : Loc Cert.KernelIdeal.nD Cert.KernelIdeal.τ Cert.KernelIdeal.sig) → Buf (Elt Ideal) ℓ)
    (h : Cert.Pre_KernelIdeal_finite m) (c : Dev Cert.KernelIdeal.nD) (n : Fin 4096) (k : Fin 3) :
    Model.IsReal (spots m c n k) :=
  (congrArg Model.IsReal (Cert.ReferenceIdeal.Rows.v1_apply (input0 m c) n k)).mp
    (real_of_test (Cert.ReferenceIdeal.Read.val_main_v1 (F := Ideal) (input0 m c)) Cert.Pre_finite.Facts.bcast_S_S4096x3 (h c).1 (ix2 n k))

/-- Under the precondition every layer's query and key weights are real. -/
theorem weights_scored (m : (ℓ : Loc Cert.KernelIdeal.nD Cert.KernelIdeal.τ Cert.KernelIdeal.sig) → Buf (Elt Ideal) ℓ)
    (h : Cert.Pre_KernelIdeal_finite m) (c : Dev Cert.KernelIdeal.nD) (l : Fin 3) :
    (weightsIn m c l).Scored :=
  weightsAt_scored (real_of_test _ Cert.Pre_finite.Facts.bcast_S_S3x128x128 (h c).2.2.1) (real_of_test _ Cert.Pre_finite.Facts.bcast_S_S3x157x128 (h c).2.2.2.1) l

/-- Under the precondition the weights of the first two layers are real. -/
theorem weights_real (m : (ℓ : Loc Cert.KernelIdeal.nD Cert.KernelIdeal.τ Cert.KernelIdeal.sig) → Buf (Elt Ideal) ℓ)
    (h : Cert.Pre_KernelIdeal_finite m) (c : Dev Cert.KernelIdeal.nD) (l : Fin 3) (hl : l.val < 2) :
    (weightsIn m c l).AllReal :=
  weightsAt_real (real_of_test _ Cert.Pre_finite.Facts.bcast_S_S3x128x128 (h c).2.2.1) (real_of_test _ Cert.Pre_finite.Facts.bcast_S_S3x157x128 (h c).2.2.2.1) l
    (page_real (input7 m c) Cert.Pre_finite.Facts.slices_S3x157x128_S2x157x128_0_0_0 (real_of_test _ Cert.Pre_finite.Facts.bcast_S_S2x157x128 (h c).2.2.2.2.1) l hl)
    (page_real (input8 m c) Cert.Pre_finite.Facts.slices_S3x128x128_S2x128x128_0_0_0 (real_of_test _ Cert.Pre_finite.Facts.bcast_S_S2x128x128 (h c).2.2.2.2.2.1) l hl)
    (page_real (input9 m c) Cert.Pre_finite.Facts.slices_S3x128x512_S2x128x512_0_0_0 (real_of_test _ Cert.Pre_finite.Facts.bcast_S_S2x128x512 (h c).2.2.2.2.2.2.1) l hl)
    (line_real (input10 m c) Cert.Pre_finite.Facts.slices_S3x512_S2x512_0_0 (real_of_test _ Cert.Pre_finite.Facts.bcast_S_S2x512 (h c).2.2.2.2.2.2.2.1) l hl)
    (page_real (input11 m c) Cert.Pre_finite.Facts.slices_S3x512x512_S2x512x512_0_0_0 (real_of_test _ Cert.Pre_finite.Facts.bcast_S_S2x512x512 (h c).2.2.2.2.2.2.2.2.1) l hl)
    (line_real (input12 m c) Cert.Pre_finite.Facts.slices_S3x512_S2x512_0_0 (real_of_test _ Cert.Pre_finite.Facts.bcast_S_S2x512 (h c).2.2.2.2.2.2.2.2.2.1) l hl)
    (page_real (input13 m c) Cert.Pre_finite.Facts.slices_S3x512x128_S2x512x128_0_0_0 (real_of_test _ Cert.Pre_finite.Facts.bcast_S_S2x512x128 (h c).2.2.2.2.2.2.2.2.2.2.1) l hl)
    (line_real (input14 m c) Cert.Pre_finite.Facts.slices_S3x128_S2x128_0_0 (real_of_test _ Cert.Pre_finite.Facts.bcast_S_S2x128 (h c).2.2.2.2.2.2.2.2.2.2.2.1) l hl)

/-- The two results are one array: each protein's entry is the model's answer, on both sides. -/
theorem result_eq (m : (ℓ : Loc Cert.KernelIdeal.nD Cert.KernelIdeal.τ Cert.KernelIdeal.sig) → Buf (Elt Ideal) ℓ)
    (h : Cert.Pre_KernelIdeal_finite m) (c : Dev Cert.KernelIdeal.nD) :
    Cert.ReferenceIdeal.Read.val_main_v483 (F := Ideal) (input0 m c) (input3 m c) (input4 m c) (input5 m c) (input6 m c) (input7 m c) (input8 m c) (input9 m c) (input10 m c) (input11 m c) (input12 m c) (input13 m c) (input14 m c) (input15 m c) (input16 m c) (input17 m c) (input18 m c)
      = (Cert.KernelIdeal.Gen.dats m 0 c).arrAt 19 Cert.KernelIdeal.cfg0.N := by
  funext i
  obtain ⟨b, q, s, rfl⟩ : ∃ (b : Fin 8) (q s : Fin 1), i = ix3 b q s := ⟨i 0, i 1, i 2, (ix3_eta i).symm⟩
  obtain rfl : q = 0 := Subsingleton.elim _ _
  obtain rfl : s = 0 := Subsingleton.elim _ _
  refine (Cert.ReferenceIdeal.Rows.v483_answer .. ).trans (Eq.symm ?_)
  exact array_value m c b (Cert.ReferenceIdeal.Rows.sel (input0 m c) (input3 m c) b) (spots_real m h c)
    (above_of_test _ Cert.Pre_finite.Facts.bcast_S_S8x512x512 (h c).2.2.2.2.2.2.2.2.2.2.2.2) (real_of_test _ Cert.Pre_finite.Facts.bcast_S_S27x128 (h c).2.1)
    (weights_scored m h c) (weights_real m h c) (Cert.ReferenceIdeal.Rows.sel_ranked (input0 m c) (input3 m c) b)

/-- From agreeing arguments the two programs end with equal results. -/
theorem algebraic : Cert.algebraic_KernelIdeal_ReferenceIdeal_pre_finite := by
  intro m ρ m' ρ' hpre hagree
  refine ⟨fun c => (Cert.KernelIdeal.Gen.dats m 0 c).arrAt 19 Cert.KernelIdeal.cfg0.N, Cert.KernelIdeal.Value.run_blocks m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v483_eq (StableHlo.launchContents m' c)).trans ?_
  refine Eq.trans ?_ (result_eq m hpre c)
  have e := hagree c
  congr 1
  all_goals first | exact e.1 | exact e.2.2.2.1 | exact e.2.2.2.2.1 | exact e.2.2.2.2.2.1 | exact e.2.2.2.2.2.2.1 | exact e.2.2.2.2.2.2.2.1 | exact e.2.2.2.2.2.2.2.2.1 | exact e.2.2.2.2.2.2.2.2.2.1 | exact e.2.2.2.2.2.2.2.2.2.2.1 | exact e.2.2.2.2.2.2.2.2.2.2.2.1 | exact e.2.2.2.2.2.2.2.2.2.2.2.2.1 | exact e.2.2.2.2.2.2.2.2.2.2.2.2.2.1 | exact e.2.2.2.2.2.2.2.2.2.2.2.2.2.2.1 | exact e.2.2.2.2.2.2.2.2.2.2.2.2.2.2.2.1 | exact e.2.2.2.2.2.2.2.2.2.2.2.2.2.2.2.2.1 | exact e.2.2.2.2.2.2.2.2.2.2.2.2.2.2.2.2.2.1 | exact e.2.2.2.2.2.2.2.2.2.2.2.2.2.2.2.2.2.2

end Cert.Proof
-- ==== Proof.lean ====
/- The certificate: the three programs' frames, the named constants' statements, and the equation of the results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- All the claims of the statement. -/
theorem claim : Cert.Claim :=
  ⟨Cert.Kernel.Gen.facts, Cert.KernelIdeal.Gen.facts, Cert.ReferenceIdeal.Gen.facts, facts_finite,
   frame_kernel, frame_kernelIdeal, frame_kernelIdeal_finite, frame_reference, frame_reference_finite, preserves, algebraic⟩

end Cert.Proof

end
